-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite [hPre_finite : Cert.Pre_finite.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite [hPre_finite : Cert.Pre_finite.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ r.2.sem = fun _ => 0)

def quiescent_Kernel9Ideal_pre_finite [hKernel9Ideal : Cert.Kernel9Ideal.Facts] [hPre_finite : Cert.Pre_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11))
      ∧ r.2.sem = fun _ => 0)

def quiescent_Reference9Ideal_pre_finite [hReference9Ideal : Cert.Reference9Ideal.Facts] [hPre_finite : Cert.Pre_finite.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v18)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v18) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v27) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel9_Kernel9Ideal : Prop :=
  True

def algebraic_Kernel9Ideal_Reference9Ideal_pre_finite [hKernel9Ideal : Cert.Kernel9Ideal.Facts] [hReference9Ideal : Cert.Reference9Ideal.Facts] [hPre_finite : Cert.Pre_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)) →
    ∃ (v0 : (c : Dev Cert.Kernel9Ideal.nD) → Buf (Elt Ideal) ((c.tc : Thread Cert.Kernel9Ideal.nD Cert.Kernel9Ideal.τ).loc Cert.Kernel9Ideal.main_v22_0)) (v1 : (c : Dev Cert.Kernel9Ideal.nD) → Buf (Elt Ideal) ((c.tc : Thread Cert.Kernel9Ideal.nD Cert.Kernel9Ideal.τ).loc Cert.Kernel9Ideal.main_v22_1)) (v2 : (c : Dev Cert.Kernel9Ideal.nD) → Buf (Elt Ideal) ((c.tc : Thread Cert.Kernel9Ideal.nD Cert.Kernel9Ideal.τ).loc Cert.Kernel9Ideal.main_v22_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v22_0) = v0 c
          ∧ r.2.mem ((c.tc : Thread Cert.Kernel9Ideal.nD Cert.Kernel9Ideal.τ).loc Cert.Kernel9Ideal.main_v22_1) = v1 c
          ∧ r.2.mem ((c.tc : Thread Cert.Kernel9Ideal.nD Cert.Kernel9Ideal.τ).loc Cert.Kernel9Ideal.main_v22_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v54) = v0 c
          ∧ r.2.mem ((c.tc : Thread Cert.Reference9Ideal.nD Cert.Reference9Ideal.τ).loc Cert.Reference9Ideal.main_v74) = v1 c
          ∧ r.2.mem ((c.tc : Thread Cert.Reference9Ideal.nD Cert.Reference9Ideal.τ).loc Cert.Reference9Ideal.main_v76) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel9 : Cert.Kernel9.Facts) (hKernel9Ideal : Cert.Kernel9Ideal.Facts) (hReference9Ideal : Cert.Reference9Ideal.Facts) (hPre_finite_scores : Cert.Pre_finite_scores.Facts) (hPre_finite : Cert.Pre_finite.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel9 (hKernel9 := hKernel9)
    ∧ quiescent_Kernel9Ideal (hKernel9Ideal := hKernel9Ideal)
    ∧ quiescent_Kernel9Ideal_pre_finite (hKernel9Ideal := hKernel9Ideal) (hPre_finite := hPre_finite)
    ∧ quiescent_Reference9Ideal (hReference9Ideal := hReference9Ideal)
    ∧ quiescent_Reference9Ideal_pre_finite (hReference9Ideal := hReference9Ideal) (hPre_finite := hPre_finite)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel9_Kernel9Ideal
    ∧ algebraic_Kernel9Ideal_Reference9Ideal_pre_finite (hKernel9Ideal := hKernel9Ideal) (hReference9Ideal := hReference9Ideal) (hPre_finite := hPre_finite)
-- ==== Pre_finite.lean ====
abbrev S16x4096x256 : Shape := ⟨3, ![16, 4096, 256]⟩
abbrev S16x4096x384 : Shape := ⟨3, ![16, 4096, 384]⟩
abbrev S16x4352x384 : Shape := ⟨3, ![16, 4352, 384]⟩
abbrev S16x4352x1024 : Shape := ⟨3, ![16, 4352, 1024]⟩
abbrev S24x6x1024 : Shape := ⟨3, ![24, 6, 1024]⟩
abbrev S384 : Shape := ⟨1, ![384]⟩
abbrev S1024 : Shape := ⟨1, ![1024]⟩
abbrev S1024x1024 : Shape := ⟨2, ![1024, 1024]⟩
abbrev S1024x16 : Shape := ⟨2, ![1024, 16]⟩
abbrev S_ : Shape := ⟨0, ![]⟩

class Facts : Prop where
  bcast_S_S16x4096x256 : S_.BroadcastsInDim S16x4096x256 (![] : Fin 0 → Fin S16x4096x256.rank)
  reducesTo_S16x4096x256_S_d0_1_2 : S16x4096x256.ReducesTo [0, 1, 2] S_
  h_S_ : 0 < S_.numel
  bcast_S_S16x4096x384 : S_.BroadcastsInDim S16x4096x384 (![] : Fin 0 → Fin S16x4096x384.rank)
  reducesTo_S16x4096x384_S_d0_1_2 : S16x4096x384.ReducesTo [0, 1, 2] S_
  bcast_S_S16x4352x384 : S_.BroadcastsInDim S16x4352x384 (![] : Fin 0 → Fin S16x4352x384.rank)
  reducesTo_S16x4352x384_S_d0_1_2 : S16x4352x384.ReducesTo [0, 1, 2] S_
  bcast_S_S16x4352x1024 : S_.BroadcastsInDim S16x4352x1024 (![] : Fin 0 → Fin S16x4352x1024.rank)
  reducesTo_S16x4352x1024_S_d0_1_2 : S16x4352x1024.ReducesTo [0, 1, 2] S_
  bcast_S_S24x6x1024 : S_.BroadcastsInDim S24x6x1024 (![] : Fin 0 → Fin S24x6x1024.rank)
  reducesTo_S24x6x1024_S_d0_1_2 : S24x6x1024.ReducesTo [0, 1, 2] S_
  bcast_S_S384 : S_.BroadcastsInDim S384 (![] : Fin 0 → Fin S384.rank)
  reducesTo_S384_S_d0 : S384.ReducesTo [0] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part3 {F : FTy → Type} [FloatOps F] (main_arg11 : FVec F S1024x16 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024x16 .f32 := Host.absf main_arg11
  let main_cst_20 : FVec F S_ .f32 := constant S_ .f32 0x7F800000#32
  let main_v55 : FVec F S1024x16 .f32 := broadcastInDim S1024x16 ![] bcast_S_S1024x16 main_cst_20
  let main_v56 : IVec S1024x16 1 := cmpf .olt main_v54 main_v55
  let main_c_21 : IVec S_ 1 := constantI S_ 1 1#1
  let main_v57 : IVec S_ 1 := (fun x v => Host.reduce IntOp.andi x v reducesTo_S1024x16_S_d0_1 h_S_) main_v56 main_c_21
  let main_v58 : IVec S_ 1 := andi main_v53 main_v57
  main_v58

def fn_part2 {F : FTy → Type} [FloatOps F] (main_arg7 : FVec F S384 .f32) (main_arg8 : FVec F S1024 .f32) (main_arg9 : FVec F S1024 .f32) (main_arg10 : FVec F S1024x1024 .f32) (main_arg11 : FVec F S1024x16 .f32) (main_v33 : IVec S_ 1) : IVec S_ 1 :=
  let main_v34 : FVec F S384 .f32 := Host.absf main_arg7
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_v48 main_v49 main_v50

def fn_part1 {F : FTy → Type} [FloatOps F] (main_arg4 : FVec F S16x4352x384 .bf16) (main_arg5 : FVec F S16x4352x1024 .f32) (main_arg6 : FVec F S24x6x1024 .f32) (main_arg7 : FVec F S384 .f32) (main_arg8 : FVec F S1024 .f32) (main_arg9 : FVec F S1024 .f32) (main_arg10 : FVec F S1024x1024 .f32) (main_arg11 : FVec F S1024x16 .f32) (main_v13 : IVec S_ 1) (main_v16 : IVec S16x4352x384 1) : IVec S_ 1 :=
  let main_c_5 : IVec S_ 1 := constantI S_ 1 1#1
  let main_v17 : IVec S_ 1 := (fun x v => Host.reduce IntOp.andi x v reducesTo_S16x4352x384_S_d0_1_2 h_S_) main_v16 main_c_5
  let main_v18 : IVec S_ 1 := andi main_v13 main_v17
  let main_v19 : FVec F S16x4352x384 .bf16 := Host.absf main_arg4
  let main_cst_6 : FVec F S_ .bf16 := constant S_ .bf16 0x7F80#16
  let main_v20 : FVec F S16x4352x384 .bf16 := broadcastInDim S16x4352x384 ![] bcast_S_S16x4352x384 main_cst_6
  let main_v21 : IVec S16x4352x384 1 := cmpf .olt main_v19 main_v20
  let main_c_7 : IVec S_ 1 := constantI S_ 1 1#1
  let main_v22 : IVec S_ 1 := (fun x v => Host.reduce IntOp.andi x v reducesTo_S16x4352x384_S_d0_1_2 h_S_) main_v21 main_c_7
  let main_v23 : IVec S_ 1 := andi main_v18 main_v22
  let main_v24 : FVec F S16x4352x1024 .f32 := Host.absf main_arg5
  let main_cst_8 : FVec F S_ .f32 := constant S_ .f32 0x7F800000#32
  let main_v25 : FVec F S16x4352x1024 .f32 := broadcastInDim S16x4352x1024 ![] bcast_S_S16x4352x1024 main_cst_8
  let main_v26 : IVec S16x4352x1024 1 := cmpf .olt main_v24 main_v25
  let main_c_9 : IVec S_ 1 := constantI S_ 1 1#1
  let main_v27 : IVec S_ 1 := (fun x v => Host.reduce IntOp.andi x v reducesTo_S16x4352x1024_S_d0_1_2 h_S_) main_v26 main_c_9
  let main_v28 : IVec S_ 1 := andi main_v23 main_v27
  let main_v29 : FVec F S24x6x1024 .f32 := Host.absf main_arg6
  let main_cst_10 : FVec F S_ .f32 := constant S_ .f32 0x7F800000#32
  let main_v30 : FVec F S24x6x1024 .f32 := broadcastInDim S24x6x1024 ![] bcast_S_S24x6x1024 main_cst_10
  let main_v31 : IVec S24x6x1024 1 := cmpf .olt main_v29 main_v30
  let main_c_11 : IVec S_ 1 := constantI S_ 1 1#1
  let main_v32 : IVec S_ 1 := (fun x v => Host.reduce IntOp.andi x v reducesTo_S24x6x1024_S_d0_1_2 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16x4096x256 .bf16) (main_arg1 : FVec F S16x4096x384 .bf16) (main_arg2 : FVec F S16x4352x384 .bf16) (main_arg3 : FVec F S16x4352x384 .bf16) (main_arg4 : FVec F S16x4352x384 .bf16) (main_arg5 : FVec F S16x4352x1024 .f32) (main_arg6 : FVec F S24x6x1024 .f32) (main_arg7 : FVec F S384 .f32) (main_arg8 : FVec F S1024 .f32) (main_arg9 : FVec F S1024 .f32) (main_arg10 : FVec F S1024x1024 .f32) (main_arg11 : FVec F S1024x16 .f32) : IVec S_ 1 :=
  let main_v0 : FVec F S16x4096x256 .bf16 := Host.absf main_arg0
  let main_cst : FVec F S_ .bf16 := constant S_ .bf16 0x7F80#16
  let main_v1 : FVec F S16x4096x256 .bf16 := broadcastInDim S16x4096x256 ![] bcast_S_S16x4096x256 main_cst
  let main_v2 : IVec S16x4096x256 1 := cmpf .olt main_v0 main_v1
  let main_c : IVec S_ 1 := constantI S_ 1 1#1
  let main_v3 : IVec S_ 1 := (fun x v => Host.reduce IntOp.andi x v reducesTo_S16x4096x256_S_d0_1_2 h_S_) main_v2 main_c
  let main_v4 : FVec F S16x4096x384 .bf16 := Host.absf main_arg1
  let main_cst_0 : FVec F S_ .bf16 := constant S_ .bf16 0x7F80#16
  let main_v5 : FVec F S16x4096x384 .bf16 := broadcastInDim S16x4096x384 ![] bcast_S_S16x4096x384 main_cst_0
  let main_v6 : IVec S16x4096x384 1 := cmpf .olt main_v4 main_v5
  let main_c_1 : IVec S_ 1 := constantI S_ 1 1#1
  let main_v7 : IVec S_ 1 := (fun x v => Host.reduce IntOp.andi x v reducesTo_S16x4096x384_S_d0_1_2 h_S_) main_v6 main_c_1
  let main_v8 : IVec S_ 1 := andi main_v3 main_v7
  let main_v9 : FVec F S16x4352x384 .bf16 := Host.absf main_arg2
  let main_cst_2 : FVec F S_ .bf16 := constant S_ .bf16 0x7F80#16
  let main_v10 : FVec F S16x4352x384 .bf16 := broadcastInDim S16x4352x384 ![] bcast_S_S16x4352x384 main_cst_2
  let main_v11 : IVec S16x4352x384 1 := cmpf .olt main_v9 main_v10
  let main_c_3 : IVec S_ 1 := constantI S_ 1 1#1
  let main_v12 : IVec S_ 1 := (fun x v => Host.reduce IntOp.andi x v reducesTo_S16x4352x384_S_d0_1_2 h_S_) main_v11 main_c_3
  let main_v13 : IVec S_ 1 := andi main_v8 main_v12
  let main_v14 : FVec F S16x4352x384 .bf16 := Host.absf main_arg3
  let main_cst_4 : FVec F S_ .bf16 := constant S_ .bf16 0x7F80#16
  let main_v15 : FVec F S16x4352x384 .bf16 := broadcastInDim S16x4352x384 ![] bcast_S_S16x4352x384 main_cst_4
  let main_v16 : IVec S16x4352x384 1 := cmpf .olt main_v14 main_v15
  fn_part1 (F := F) main_arg4 main_arg5 main_arg6 main_arg7 main_arg8 main_arg9 main_arg10 main_arg11 main_v13 main_v16
-- ==== Pre_finite_scores.lean ====
abbrev S16x4352x384 : Shape := ⟨3, ![16, 4352, 384]⟩
abbrev S16x4352x128 : Shape := ⟨3, ![16, 4352, 128]⟩
abbrev S6 : Shape := ⟨1, ![6]⟩
abbrev S_ : Shape := ⟨0, ![]⟩

class Facts : Prop where
  bcast_S_S16x4352x384 : S_.BroadcastsInDim S16x4352x384 (![] : Fin 0 → Fin S16x4352x384.rank)
  reducesTo_S16x4352x384_S_d0_1_2 : S16x4352x384.ReducesTo [0, 1, 2] S_
  h_S_ : 0 < S_.numel
  bcast_S_S16x4352x128 : S_.BroadcastsInDim S16x4352x128 (![] : Fin 0 → Fin S16x4352x128.rank)
  reducesTo_S16x4352x128_S_d0_1_2 : S16x4352x128.ReducesTo [0, 1, 2] S_
  bcast_S_S6 : S_.BroadcastsInDim S6 (![] : Fin 0 → Fin S6.rank)
  reducesTo_S6_S_d0 : S6.ReducesTo [0] S_

variable [Facts]

def fn {F : FTy → Type} [FloatOps F] (main_arg0 : FVec F S16x4352x384 .f32) (main_arg1 : FVec F S16x4352x128 .f32) (main_arg2 : FVec F S16x4352x128 .f32) (main_arg3 : FVec F S6 .f32) : IVec S_ 1 :=
  let main_v0 : FVec F S16x4352x384 .f32 := Host.absf main_arg0
  let main_cst : FVec F S_ .f32 := constant S_ .f32 0x7F800000#32
  let main_v1 : FVec F S16x4352x384 .f32 := broadcastInDim S16x4352x384 ![] bcast_S_S16x4352x384 main_cst
  let main_v2 : IVec S16x4352x384 1 := cmpf .olt main_v0 main_v1
  let main_c : IVec S_ 1 := constantI S_ 1 1#1
  let main_v3 : IVec S_ 1 := (fun x v => Host.reduce IntOp.andi x v reducesTo_S16x4352x384_S_d0_1_2 h_S_) main_v2 main_c
  let main_v4 : FVec F S16x4352x128 .f32 := Host.absf main_arg1
  let main_cst_0 : FVec F S_ .f32 := constant S_ .f32 0x7F800000#32
  let main_v5 : FVec F S16x4352x128 .f32 := broadcastInDim S16x4352x128 ![] bcast_S_S16x4352x128 main_cst_0
  let main_v6 : IVec S16x4352x128 1 := cmpf .olt main_v4 main_v5
  let main_c_1 : IVec S_ 1 := constantI S_ 1 1#1
  let main_v7 : IVec S_ 1 := (fun x v => Host.reduce IntOp.andi x v reducesTo_S16x4352x128_S_d0_1_2 h_S_) main_v6 main_c_1
  let main_v8 : IVec S_ 1 := andi main_v3 main_v7
  let main_v9 : FVec F S6 .f32 := Host.absf main_arg3
  let main_cst_2 : FVec F S_ .f32 := constant S_ .f32 0x7F800000#32
  let main_v10 : FVec F S6 .f32 := broadcastInDim S6 ![] bcast_S_S6 main_cst_2
  let main_v11 : IVec S6 1 := cmpf .olt main_v9 main_v10
  let main_c_3 : IVec S_ 1 := constantI S_ 1 1#1
  let main_v12 : IVec S_ 1 := (fun x v => Host.reduce IntOp.andi x v reducesTo_S6_S_d0 h_S_) main_v11 main_c_3
  let main_v13 : IVec S_ 1 := andi main_v8 main_v12
  main_v13
-- ==== Kernel.lean ====
abbrev S16x4352x384 : Shape := ⟨3, ![16, 4352, 384]⟩
abbrev S16x4352x128 : Shape := ⟨3, ![16, 4352, 128]⟩
abbrev S6 : Shape := ⟨1, ![6]⟩
abbrev S16x4352x2x3x64 : Shape := ⟨5, ![16, 4352, 2, 3, 64]⟩
abbrev S16x4352x3x2x64 : Shape := ⟨5, ![16, 4352, 3, 2, 64]⟩
abbrev S_ : Shape := ⟨0, ![]⟩
abbrev S8 : Shape := ⟨1, ![8]⟩
abbrev S16x4096x384 : Shape := ⟨3, ![16, 4096, 384]⟩
abbrev S1x128x384 : Shape := ⟨3, ![1, 128, 384]⟩
abbrev S1x128x128 : Shape := ⟨3, ![1, 128, 128]⟩
abbrev S1x256x128 : Shape := ⟨3, ![1, 256, 128]⟩
abbrev S384x128 : Shape := ⟨2, ![384, 128]⟩
abbrev S128x128 : Shape := ⟨2, ![128, 128]⟩
abbrev S256x128 : Shape := ⟨2, ![256, 128]⟩
abbrev S640x128 : Shape := ⟨2, ![640, 128]⟩
abbrev S128x384 : Shape := ⟨2, ![128, 384]⟩
abbrev S1x128 : Shape := ⟨2, ![1, 128]⟩
abbrev S384x1 : Shape := ⟨2, ![384, 1]⟩
abbrev S1 : Shape := ⟨1, ![1]⟩
abbrev S384x640 : Shape := ⟨2, ![384, 640]⟩
abbrev S384 : Shape := ⟨1, ![384]⟩

abbrev nBuf : Space → Nat
  | .hbm => 17
  | .vmem => 20
  | .smem => 1
  | _ => 0

abbrev bufTy : (tb : Table) → Fin (tcTables nBuf tb) → BufTy
  | .hbm, ⟨0, _⟩ => ⟨S16x4352x384, .f32⟩
  | .hbm, ⟨1, _⟩ => ⟨S16x4352x128, .f32⟩
  | .hbm, ⟨2, _⟩ => ⟨S16x4352x128, .f32⟩
  | .hbm, ⟨3, _⟩ => ⟨S6, .f32⟩
  | .hbm, ⟨4, _⟩ => ⟨S16x4352x2x3x64, .f32⟩
  | .hbm, ⟨5, _⟩ => ⟨S16x4352x3x2x64, .f32⟩
  | .hbm, ⟨6, _⟩ => ⟨S16x4352x384, .f32⟩
  | .hbm, ⟨7, _⟩ => ⟨S_, .f32⟩
  | .hbm, ⟨8, _⟩ => ⟨S16x4352x384, .f32⟩
  | .hbm, ⟨9, _⟩ => ⟨S16x4352x384, .f32⟩
  | .hbm, ⟨10, _⟩ => ⟨S16x4352x384, .bf16⟩
  | .hbm, ⟨11, _⟩ => ⟨S16x4352x128, .bf16⟩
  | .hbm, ⟨12, _⟩ => ⟨S16x4352x128, .bf16⟩
  | .hbm, ⟨13, _⟩ => ⟨S_, .i32⟩
  | .hbm, ⟨14, _⟩ => ⟨S_, .f32⟩
  | .hbm, ⟨15, _⟩ => ⟨S8, .f32⟩
  | .hbm, ⟨16, _⟩ => ⟨S16x4096x384, .bf16⟩
  | .local _ .vmem, ⟨0, _⟩ => ⟨S1x128x384, .bf16⟩
  | .local _ .vmem, ⟨1, _⟩ => ⟨S1x128x384, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x128x128, .bf16⟩
  | .local _ .vmem, ⟨11, _⟩ => ⟨S1x128x128, .bf16⟩
  | .local _ .vmem, ⟨12, _⟩ => ⟨S1x128x128, .bf16⟩
  | .local _ .vmem, ⟨13, _⟩ => ⟨S1x128x128, .bf16⟩
  | .local _ .vmem, ⟨14, _⟩ => ⟨S1x128x128, .bf16⟩
  | .local _ .vmem, ⟨15, _⟩ => ⟨S1x128x128, .bf16⟩
  | .local _ .vmem, ⟨16, _⟩ => ⟨S1x256x128, .bf16⟩
  | .local _ .vmem, ⟨17, _⟩ => ⟨S1x256x128, .bf16⟩
  | .local _ .vmem, ⟨18, _⟩ => ⟨S1x128x384, .bf16⟩
  | .local _ .vmem, ⟨19, _⟩ => ⟨S1x128x384, .bf16⟩
  | .local _ .smem, ⟨0, _⟩ => ⟨S8, .f32⟩
  | _, _ => ⟨S16x4352x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![16, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![arg0.toNat, c16_i32.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  let c0_i32_0 : BitVec 32 := 0#32
  ![arg0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![arg0.toNat, c16_i32.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x4352x384 : Shape := ⟨3, ![16, 4352, 384]⟩
abbrev S16x4352x128 : Shape := ⟨3, ![16, 4352, 128]⟩
abbrev S6 : Shape := ⟨1, ![6]⟩
abbrev S16x4096x384 : Shape := ⟨3, ![16, 4096, 384]⟩
abbrev S16x256x128 : Shape := ⟨3, ![16, 256, 128]⟩
abbrev S16x256x2x64 : Shape := ⟨4, ![16, 256, 2, 64]⟩
abbrev S16x32x128x2x3x64 : Shape := ⟨6, ![16, 32, 128, 2, 3, 64]⟩
abbrev S16x4096x128 : Shape := ⟨3, ![16, 4096, 128]⟩
abbrev S16x4096x2x64 : Shape := ⟨4, ![16, 4096, 2, 64]⟩
abbrev S_ : Shape := ⟨0, ![]⟩
abbrev S16x4352x2x64 : Shape := ⟨4, ![16, 4352, 2, 64]⟩
abbrev S16x34x128x2x64 : Shape := ⟨5, ![16, 34, 128, 2, 64]⟩
abbrev S16x32x128x2x64 : Shape := ⟨5, ![16, 32, 128, 2, 64]⟩
abbrev S16x32x384x2x64 : Shape := ⟨5, ![16, 32, 384, 2, 64]⟩
abbrev S32 : Shape := ⟨1, ![32]⟩
abbrev S32x1x1 : Shape := ⟨3, ![32, 1, 1]⟩
abbrev S128 : Shape := ⟨1, ![128]⟩
abbrev S1x128x1 : Shape := ⟨3, ![1, 128, 1]⟩
abbrev S32x128x1 : Shape := ⟨3, ![32, 128, 1]⟩
abbrev S384 : Shape := ⟨1, ![384]⟩
abbrev S1x1x384 : Shape := ⟨3, ![1, 1, 384]⟩
abbrev S32x1x384 : Shape := ⟨3, ![32, 1, 384]⟩
abbrev S32x128x384 : Shape := ⟨3, ![32, 128, 384]⟩
abbrev S16x32x2x384x128x3 : Shape := ⟨6, ![16, 32, 2, 384, 128, 3]⟩
abbrev S16x32x2x3x128x384 : Shape := ⟨6, ![16, 32, 2, 3, 128, 384]⟩
abbrev S1x32x1x1x128x384 : Shape := ⟨6, ![1, 32, 1, 1, 128, 384]⟩
abbrev S16x2x256x32x128x3 : Shape := ⟨6, ![16, 2, 256, 32, 128, 3]⟩
abbrev S16x32x2x3x128x256 : Shape := ⟨6, ![16, 32, 2, 3, 128, 256]⟩
abbrev S1x1x2x3x1x1 : Shape := ⟨6, ![1, 1, 2, 3, 1, 1]⟩
abbrev S16x32x2x3x128x1 : Shape := ⟨6, ![16, 32, 2, 3, 128, 1]⟩
abbrev S16x32x2x3x128x641 : Shape := ⟨6, ![16, 32, 2, 3, 128, 641]⟩
abbrev S16x32x2x3x128 : Shape := ⟨5, ![16, 32, 2, 3, 128]⟩
abbrev S16x32x2x64x3x128 : Shape := ⟨6, ![16, 32, 2, 64, 3, 128]⟩
abbrev S16x32x128x3x2x64 : Shape := ⟨6, ![16, 32, 128, 3, 2, 64]⟩
abbrev S16x2x64x32x3x128 : Shape := ⟨6, ![16, 2, 64, 32, 3, 128]⟩

abbrev nBuf : Space → Nat
  | .hbm => 110
  | .vmem => 0
  | .smem => 0
  | _ => 0

abbrev bufTy : (tb : Table) → Fin (tcTables nBuf tb) → BufTy
  | .hbm, ⟨0, _⟩ => ⟨S16x4352x384, .f32⟩
  | .hbm, ⟨1, _⟩ => ⟨S16x4352x128, .f32⟩
  | .hbm, ⟨2, _⟩ => ⟨S16x4352x128, .f32⟩
  | .hbm, ⟨3, _⟩ => ⟨S6, .f32⟩
  | .hbm, ⟨4, _⟩ => ⟨S16x4096x384, .f32⟩
  | .hbm, ⟨5, _⟩ => ⟨S16x256x128, .f32⟩
  | .hbm, ⟨6, _⟩ => ⟨S16x256x128, .f32⟩
  | .hbm, ⟨7, _⟩ => ⟨S16x256x2x64, .f32⟩
  | .hbm, ⟨8, _⟩ => ⟨S16x256x2x64, .f32⟩
  | .hbm, ⟨9, _⟩ => ⟨S16x32x128x2x3x64, .f32⟩
  | .hbm, ⟨10, _⟩ => ⟨S16x4096x128, .f32⟩
  | .hbm, ⟨11, _⟩ => ⟨S16x4096x2x64, .f32⟩
  | .hbm, ⟨12, _⟩ => ⟨S_, .i32⟩
  | .hbm, ⟨13, _⟩ => ⟨S_, .f32⟩
  | .hbm, ⟨14, _⟩ => ⟨S16x4352x2x64, .f32⟩
  | .hbm, ⟨15, _⟩ => ⟨S16x34x128x2x64, .f32⟩
  | .hbm, ⟨16, _⟩ => ⟨S16x32x128x2x64, .f32⟩
  | .hbm, ⟨17, _⟩ => ⟨S16x32x128x2x64, .f32⟩
  | .hbm, ⟨18, _⟩ => ⟨S16x32x128x2x64, .f32⟩
  | .hbm, ⟨19, _⟩ => ⟨S16x32x384x2x64, .f32⟩
  | .hbm, ⟨20, _⟩ => ⟨S16x4096x128, .f32⟩
  | .hbm, ⟨21, _⟩ => ⟨S16x4096x2x64, .f32⟩
  | .hbm, ⟨22, _⟩ => ⟨S_, .i32⟩
  | .hbm, ⟨23, _⟩ => ⟨S_, .f32⟩
  | .hbm, ⟨24, _⟩ => ⟨S16x4352x2x64, .f32⟩
  | .hbm, ⟨25, _⟩ => ⟨S16x34x128x2x64, .f32⟩
  | .hbm, ⟨26, _⟩ => ⟨S16x32x128x2x64, .f32⟩
  | .hbm, ⟨27, _⟩ => ⟨S16x32x128x2x64, .f32⟩
  | .hbm, ⟨28, _⟩ => ⟨S16x32x128x2x64, .f32⟩
  | .hbm, ⟨29, _⟩ => ⟨S16x32x384x2x64, .f32⟩
  | .hbm, ⟨30, _⟩ => ⟨S32, .i32⟩
  | .hbm, ⟨31, _⟩ => ⟨S32x1x1, .i32⟩
  | .hbm, ⟨32, _⟩ => ⟨S_, .i32⟩
  | .hbm, ⟨33, _⟩ => ⟨S32x1x1, .i32⟩
  | .hbm, ⟨34, _⟩ => ⟨S32x1x1, .i32⟩
  | .hbm, ⟨35, _⟩ => ⟨S128, .i32⟩
  | .hbm, ⟨36, _⟩ => ⟨S1x128x1, .i32⟩
  | .hbm, ⟨37, _⟩ => ⟨S32x128x1, .i32⟩
  | .hbm, ⟨38, _⟩ => ⟨S32x128x1, .i32⟩
  | .hbm, ⟨39, _⟩ => ⟨S32x128x1, .i32⟩
  | .hbm, ⟨40, _⟩ => ⟨S_, .i32⟩
  | .hbm, ⟨41, _⟩ => ⟨S32x1x1, .i32⟩
  | .hbm, ⟨42, _⟩ => ⟨S32x1x1, .i32⟩
  | .hbm, ⟨43, _⟩ => ⟨S_, .i32⟩
  | .hbm, ⟨44, _⟩ => ⟨S32x1x1, .i32⟩
  | .hbm, ⟨45, _⟩ => ⟨S32x1x1, .i32⟩
  | .hbm, ⟨46, _⟩ => ⟨S384, .i32⟩
  | .hbm, ⟨47, _⟩ => ⟨S1x1x384, .i32⟩
  | .hbm, ⟨48, _⟩ => ⟨S32x1x384, .i32⟩
  | .hbm, ⟨49, _⟩ => ⟨S32x1x384, .i32⟩
  | .hbm, ⟨50, _⟩ => ⟨S32x1x384, .i32⟩
  | .hbm, ⟨51, _⟩ => ⟨S32x128x384, .i32⟩
  | .hbm, ⟨52, _⟩ => ⟨S32x128x384, .i32⟩
  | .hbm, ⟨53, _⟩ => ⟨S32x128x384, .i32⟩
  | .hbm, ⟨54, _⟩ => ⟨S32x128x384, .i32⟩
  | .hbm, ⟨55, _⟩ => ⟨S_, .i32⟩
  | .hbm, ⟨56, _⟩ => ⟨S32x128x384, .i32⟩
  | .hbm, ⟨57, _⟩ => ⟨S32x128x384, .i1⟩
  | .hbm, ⟨58, _⟩ => ⟨S_, .i32⟩
  | .hbm, ⟨59, _⟩ => ⟨S32x1x384, .i32⟩
  | .hbm, ⟨60, _⟩ => ⟨S32x1x384, .i1⟩
  | .hbm, ⟨61, _⟩ => ⟨S32x128x384, .i1⟩
  | .hbm, ⟨62, _⟩ => ⟨S32x128x384, .i1⟩
  | .hbm, ⟨63, _⟩ => ⟨S_, .i32⟩
  | .hbm, ⟨64, _⟩ => ⟨S32x1x384, .i32⟩
  | .hbm, ⟨65, _⟩ => ⟨S32x1x384, .i1⟩
  | .hbm, ⟨66, _⟩ => ⟨S32x128x384, .i1⟩
  | .hbm, ⟨67, _⟩ => ⟨S32x128x384, .i1⟩
  | .hbm, ⟨68, _⟩ => ⟨S16x32x2x384x128x3, .f32⟩
  | .hbm, ⟨69, _⟩ => ⟨S16x32x2x3x128x384, .f32⟩
  | .hbm, ⟨70, _⟩ => ⟨S_, .f32⟩
  | .hbm, ⟨71, _⟩ => ⟨S16x32x2x3x128x384, .f32⟩
  | .hbm, ⟨72, _⟩ => ⟨S16x32x2x3x128x384, .f32⟩
  | .hbm, ⟨73, _⟩ => ⟨S1x32x1x1x128x384, .i1⟩
  | .hbm, ⟨74, _⟩ => ⟨S_, .f32⟩
  | .hbm, ⟨75, _⟩ => ⟨S_, .f32⟩
  | .hbm, ⟨76, _⟩ => ⟨S16x32x2x3x128x384, .i1⟩
  | .hbm, ⟨77, _⟩ => ⟨S16x32x2x3x128x384, .f32⟩
  | .hbm, ⟨78, _⟩ => ⟨S16x32x2x3x128x384, .f32⟩
  | .hbm, ⟨79, _⟩ => ⟨S16x2x256x32x128x3, .f32⟩
  | .hbm, ⟨80, _⟩ => ⟨S16x32x2x3x128x256, .f32⟩
  | .hbm, ⟨81, _⟩ => ⟨S_, .f32⟩
  | .hbm, ⟨82, _⟩ => ⟨S16x32x2x3x128x256, .f32⟩
  | .hbm, ⟨83, _⟩ => ⟨S16x32x2x3x128x256, .f32⟩
  | .hbm, ⟨84, _⟩ => ⟨S1x1x2x3x1x1, .f32⟩
  | .hbm, ⟨85, _⟩ => ⟨S16x32x2x3x128x1, .f32⟩
  | .hbm, ⟨86, _⟩ => ⟨S16x32x2x3x128x641, .f32⟩
  | .hbm, ⟨87, _⟩ => ⟨S_, .f32⟩
  | .hbm, ⟨88, _⟩ => ⟨S16x32x2x3x128, .f32⟩
  | .hbm, ⟨89, _⟩ => ⟨S_, .f32⟩
  | .hbm, ⟨90, _⟩ => ⟨S16x32x2x3x128, .f32⟩
  | .hbm, ⟨91, _⟩ => ⟨S16x32x2x3x128, .f32⟩
  | .hbm, ⟨92, _⟩ => ⟨S16x32x2x3x128x1, .f32⟩
  | .hbm, ⟨93, _⟩ => ⟨S16x32x2x3x128x641, .f32⟩
  | .hbm, ⟨94, _⟩ => ⟨S16x32x2x3x128x641, .f32⟩
  | .hbm, ⟨95, _⟩ => ⟨S16x32x2x3x128x641, .f32⟩
  | .hbm, ⟨96, _⟩ => ⟨S_, .f32⟩
  | .hbm, ⟨97, _⟩ => ⟨S16x32x2x3x128, .f32⟩
  | .hbm, ⟨98, _⟩ => ⟨S16x32x2x3x128x1, .f32⟩
  | .hbm, ⟨99, _⟩ => ⟨S16x32x2x3x128x641, .f32⟩
  | .hbm, ⟨100, _⟩ => ⟨S16x32x2x3x128x641, .f32⟩
  | .hbm, ⟨101, _⟩ => ⟨S16x32x2x3x128x384, .f32⟩
  | .hbm, ⟨102, _⟩ => ⟨S16x32x2x64x3x128, .f32⟩
  | .hbm, ⟨103, _⟩ => ⟨S16x32x128x3x2x64, .f32⟩
  | .hbm, ⟨104, _⟩ => ⟨S16x32x2x3x128x256, .f32⟩
  | .hbm, ⟨105, _⟩ => ⟨S16x2x64x32x3x128, .f32⟩
  | .hbm, ⟨106, _⟩ => ⟨S16x32x128x3x2x64, .f32⟩
  | .hbm, ⟨107, _⟩ => ⟨S16x32x128x3x2x64, .f32⟩
  | .hbm, ⟨108, _⟩ => ⟨S16x4096x384, .f32⟩
  | .hbm, ⟨109, _⟩ => ⟨S16x4096x384, .bf16⟩
  | _, _ => ⟨S16x4352x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_call1_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_4 : Ref sig .tc := ⟨.hbm, 55, rfl⟩
abbrev main_v44 : Ref sig .tc := ⟨.hbm, 56, rfl⟩
abbrev main_v45 : Ref sig .tc := ⟨.hbm, 57, rfl⟩
abbrev main_c_5 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_7 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_8 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_9 : Ref sig .tc := ⟨.hbm, 87, rfl⟩
abbrev main_v67 : Ref sig .tc := ⟨.hbm, 88, rfl⟩
abbrev main_cst_10 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_11 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩

abbrev nD : Nat := 1
abbrev τ : Topo := Topo.v7x

variable {F : FTy → Type} [FloatOps F]
-- ==== Kernel2.lean ====
abbrev S16x8192x512 : Shape := ⟨3, ![16, 8192, 512]⟩
abbrev S2x16x1024x2816 : Shape := ⟨4, ![2, 16, 1024, 2816]⟩
abbrev S2x16x2816x1024 : Shape := ⟨4, ![2, 16, 2816, 1024]⟩
abbrev S16x8192x1024 : Shape := ⟨3, ![16, 8192, 1024]⟩
abbrev S1x2048x512 : Shape := ⟨3, ![1, 2048, 512]⟩
abbrev S1x1x1024x256 : Shape := ⟨4, ![1, 1, 1024, 256]⟩
abbrev S1x1x256x1024 : Shape := ⟨4, ![1, 1, 256, 1024]⟩
abbrev S1x2048x1024 : Shape := ⟨3, ![1, 2048, 1024]⟩
abbrev S2048x1024 : Shape := ⟨2, ![2048, 1024]⟩
abbrev S2048x512 : Shape := ⟨2, ![2048, 512]⟩
abbrev S1024x256 : Shape := ⟨2, ![1024, 256]⟩
abbrev S2048x256 : Shape := ⟨2, ![2048, 256]⟩
abbrev S256x1024 : Shape := ⟨2, ![256, 1024]⟩

abbrev nBuf : Space → Nat
  | .hbm => 5
  | .vmem => 11
  | .smem => 0
  | _ => 0

abbrev bufTy : (tb : Table) → Fin (tcTables nBuf tb) → BufTy
  | .hbm, ⟨0, _⟩ => ⟨S16x8192x512, .i32⟩
  | .hbm, ⟨1, _⟩ => ⟨S2x16x1024x2816, .f32⟩
  | .hbm, ⟨2, _⟩ => ⟨S2x16x1024x2816, .f32⟩
  | .hbm, ⟨3, _⟩ => ⟨S2x16x2816x1024, .f32⟩
  | .hbm, ⟨4, _⟩ => ⟨S16x8192x1024, .f32⟩
  | .local _ .vmem, ⟨0, _⟩ => ⟨S1x2048x512, .i32⟩
  | .local _ .vmem, ⟨1, _⟩ => ⟨S1x2048x512, .i32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S1x2048x1024, .f32⟩
  | .local _ .vmem, ⟨9, _⟩ => ⟨S1x2048x1024, .f32⟩
  | .local _ .vmem, ⟨10, _⟩ => ⟨S2048x1024, .bf16⟩
  | _, _ => ⟨S16x8192x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 11], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg2.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference2Ideal.lean ====
abbrev S16x8192x512 : Shape := ⟨3, ![16, 8192, 512]⟩
abbrev S2x16x1024x2816 : Shape := ⟨4, ![2, 16, 1024, 2816]⟩
abbrev S2x16x2816x1024 : Shape := ⟨4, ![2, 16, 2816, 1024]⟩
abbrev S16x8192x512x2 : Shape := ⟨4, ![16, 8192, 512, 2]⟩
abbrev S16x8192x2x512 : Shape := ⟨4, ![16, 8192, 2, 512]⟩
abbrev S16x8192x1024 : Shape := ⟨3, ![16, 8192, 1024]⟩
abbrev S1x16x1024x2816 : Shape := ⟨4, ![1, 16, 1024, 2816]⟩
abbrev S16x1024x2816 : Shape := ⟨3, ![16, 1024, 2816]⟩
abbrev S16x8192x2816 : Shape := ⟨3, ![16, 8192, 2816]⟩
abbrev S_ : Shape := ⟨0, ![]⟩
abbrev S1x16x2816x1024 : Shape := ⟨4, ![1, 16, 2816, 1024]⟩
abbrev S16x2816x1024 : Shape := ⟨3, ![16, 2816, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16x8192x512, .i32⟩
  | .hbm, ⟨1, _⟩ => ⟨S2x16x1024x2816, .f32⟩
  | .hbm, ⟨2, _⟩ => ⟨S2x16x1024x2816, .f32⟩
  | .hbm, ⟨3, _⟩ => ⟨S2x16x2816x1024, .f32⟩
  | .hbm, ⟨4, _⟩ => ⟨S16x8192x512x2, .bf16⟩
  | .hbm, ⟨5, _⟩ => ⟨S16x8192x512x2, .f32⟩
  | .hbm, ⟨6, _⟩ => ⟨S16x8192x2x512, .f32⟩
  | .hbm, ⟨7, _⟩ => ⟨S16x8192x1024, .f32⟩
  | .hbm, ⟨8, _⟩ => ⟨S1x16x1024x2816, .f32⟩
  | .hbm, ⟨9, _⟩ => ⟨S16x1024x2816, .f32⟩
  | .hbm, ⟨10, _⟩ => ⟨S16x8192x2816, .f32⟩
  | .hbm, ⟨11, _⟩ => ⟨S1x16x1024x2816, .f32⟩
  | .hbm, ⟨12, _⟩ => ⟨S16x1024x2816, .f32⟩
  | .hbm, ⟨13, _⟩ => ⟨S16x8192x2816, .f32⟩
  | .hbm, ⟨14, _⟩ => ⟨S16x8192x2816, .f32⟩
  | .hbm, ⟨15, _⟩ => ⟨S16x8192x2816, .f32⟩
  | .hbm, ⟨16, _⟩ => ⟨S_, .f32⟩
  | .hbm, ⟨17, _⟩ => ⟨S16x8192x2816, .f32⟩
  | .hbm, ⟨18, _⟩ => ⟨S16x8192x2816, .f32⟩
  | .hbm, ⟨19, _⟩ => ⟨S_, .f32⟩
  | .hbm, ⟨20, _⟩ => ⟨S16x8192x2816, .f32⟩
  | .hbm, ⟨21, _⟩ => ⟨S16x8192x2816, .f32⟩
  | .hbm, ⟨22, _⟩ => ⟨S16x8192x2816, .f32⟩
  | .hbm, ⟨23, _⟩ => ⟨S16x8192x2816, .f32⟩
  | .hbm, ⟨24, _⟩ => ⟨S1x16x2816x1024, .f32⟩
  | .hbm, ⟨25, _⟩ => ⟨S16x2816x1024, .f32⟩
  | .hbm, ⟨26, _⟩ => ⟨S16x8192x1024, .f32⟩
  | _, _ => ⟨S16x8192x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Kernel3.lean ====
abbrev S16x8192x512 : Shape := ⟨3, ![16, 8192, 512]⟩
abbrev S2x16x1024x2816 : Shape := ⟨4, ![2, 16, 1024, 2816]⟩
abbrev S2x16x2816x1024 : Shape := ⟨4, ![2, 16, 2816, 1024]⟩
abbrev S16x8192x1024 : Shape := ⟨3, ![16, 8192, 1024]⟩
abbrev S1x2048x512 : Shape := ⟨3, ![1, 2048, 512]⟩
abbrev S1x1x1024x256 : Shape := ⟨4, ![1, 1, 1024, 256]⟩
abbrev S1x1x256x1024 : Shape := ⟨4, ![1, 1, 256, 1024]⟩
abbrev S1x2048x1024 : Shape := ⟨3, ![1, 2048, 1024]⟩
abbrev S2048x1024 : Shape := ⟨2, ![2048, 1024]⟩
abbrev S2048x512 : Shape := ⟨2, ![2048, 512]⟩
abbrev S1024x256 : Shape := ⟨2, ![1024, 256]⟩
abbrev S2048x256 : Shape := ⟨2, ![2048, 256]⟩
abbrev S256x1024 : Shape := ⟨2, ![256, 1024]⟩

abbrev nBuf : Space → Nat
  | .hbm => 5
  | .vmem => 11
  | .smem => 0
  | _ => 0

abbrev bufTy : (tb : Table) → Fin (tcTables nBuf tb) → BufTy
  | .hbm, ⟨0, _⟩ => ⟨S16x8192x512, .i32⟩
  | .hbm, ⟨1, _⟩ => ⟨S2x16x1024x2816, .f32⟩
  | .hbm, ⟨2, _⟩ => ⟨S2x16x1024x2816, .f32⟩
  | .hbm, ⟨3, _⟩ => ⟨S2x16x2816x1024, .f32⟩
  | .hbm, ⟨4, _⟩ => ⟨S16x8192x1024, .f32⟩
  | .local _ .vmem, ⟨0, _⟩ => ⟨S1x2048x512, .i32⟩
  | .local _ .vmem, ⟨1, _⟩ => ⟨S1x2048x512, .i32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S1x2048x1024, .f32⟩
  | .local _ .vmem, ⟨9, _⟩ => ⟨S1x2048x1024, .f32⟩
  | .local _ .vmem, ⟨10, _⟩ => ⟨S2048x1024, .bf16⟩
  | _, _ => ⟨S16x8192x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 11], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S16x8192x512 : Shape := ⟨3, ![16, 8192, 512]⟩
abbrev S2x16x1024x2816 : Shape := ⟨4, ![2, 16, 1024, 2816]⟩
abbrev S2x16x2816x1024 : Shape := ⟨4, ![2, 16, 2816, 1024]⟩
abbrev S16x8192x512x2 : Shape := ⟨4, ![16, 8192, 512, 2]⟩
abbrev S16x8192x2x512 : Shape := ⟨4, ![16, 8192, 2, 512]⟩
abbrev S16x8192x1024 : Shape := ⟨3, ![16, 8192, 1024]⟩
abbrev S1x16x1024x2816 : Shape := ⟨4, ![1, 16, 1024, 2816]⟩
abbrev S16x1024x2816 : Shape := ⟨3, ![16, 1024, 2816]⟩
abbrev S16x8192x2816 : Shape := ⟨3, ![16, 8192, 2816]⟩
abbrev S_ : Shape := ⟨0, ![]⟩
abbrev S1x16x2816x1024 : Shape := ⟨4, ![1, 16, 2816, 1024]⟩
abbrev S16x2816x1024 : Shape := ⟨3, ![16, 2816, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16x8192x512, .i32⟩
  | .hbm, ⟨1, _⟩ => ⟨S2x16x1024x2816, .f32⟩
  | .hbm, ⟨2, _⟩ => ⟨S2x16x1024x2816, .f32⟩
  | .hbm, ⟨3, _⟩ => ⟨S2x16x2816x1024, .f32⟩
  | .hbm, ⟨4, _⟩ => ⟨S16x8192x512x2, .bf16⟩
  | .hbm, ⟨5, _⟩ => ⟨S16x8192x512x2, .f32⟩
  | .hbm, ⟨6, _⟩ => ⟨S16x8192x2x512, .f32⟩
  | .hbm, ⟨7, _⟩ => ⟨S16x8192x1024, .f32⟩
  | .hbm, ⟨8, _⟩ => ⟨S1x16x1024x2816, .f32⟩
  | .hbm, ⟨9, _⟩ => ⟨S16x1024x2816, .f32⟩
  | .hbm, ⟨10, _⟩ => ⟨S16x8192x2816, .f32⟩
  | .hbm, ⟨11, _⟩ => ⟨S1x16x1024x2816, .f32⟩
  | .hbm, ⟨12, _⟩ => ⟨S16x1024x2816, .f32⟩
  | .hbm, ⟨13, _⟩ => ⟨S16x8192x2816, .f32⟩
  | .hbm, ⟨14, _⟩ => ⟨S16x8192x2816, .f32⟩
  | .hbm, ⟨15, _⟩ => ⟨S16x8192x2816, .f32⟩
  | .hbm, ⟨16, _⟩ => ⟨S_, .f32⟩
  | .hbm, ⟨17, _⟩ => ⟨S16x8192x2816, .f32⟩
  | .hbm, ⟨18, _⟩ => ⟨S16x8192x2816, .f32⟩
  | .hbm, ⟨19, _⟩ => ⟨S_, .f32⟩
  | .hbm, ⟨20, _⟩ => ⟨S16x8192x2816, .f32⟩
  | .hbm, ⟨21, _⟩ => ⟨S16x8192x2816, .f32⟩
  | .hbm, ⟨22, _⟩ => ⟨S16x8192x2816, .f32⟩
  | .hbm, ⟨23, _⟩ => ⟨S16x8192x2816, .f32⟩
  | .hbm, ⟨24, _⟩ => ⟨S1x16x2816x1024, .f32⟩
  | .hbm, ⟨25, _⟩ => ⟨S16x2816x1024, .f32⟩
  | .hbm, ⟨26, _⟩ => ⟨S16x8192x1024, .f32⟩
  | _, _ => ⟨S16x8192x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Kernel4.lean ====
abbrev S16x512x512 : Shape := ⟨3, ![16, 512, 512]⟩
abbrev S2x16x1024x2816 : Shape := ⟨4, ![2, 16, 1024, 2816]⟩
abbrev S2x16x2816x1024 : Shape := ⟨4, ![2, 16, 2816, 1024]⟩
abbrev S16x512x1024 : Shape := ⟨3, ![16, 512, 1024]⟩
abbrev S1x512x512 : Shape := ⟨3, ![1, 512, 512]⟩
abbrev S1x1x1024x256 : Shape := ⟨4, ![1, 1, 1024, 256]⟩
abbrev S1x1x256x1024 : Shape := ⟨4, ![1, 1, 256, 1024]⟩
abbrev S1x512x1024 : Shape := ⟨3, ![1, 512, 1024]⟩
abbrev S512x1024 : Shape := ⟨2, ![512, 1024]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 5
  | .vmem => 11
  | .smem => 0
  | _ => 0

abbrev bufTy : (tb : Table) → Fin (tcTables nBuf tb) → BufTy
  | .hbm, ⟨0, _⟩ => ⟨S16x512x512, .i32⟩
  | .hbm, ⟨1, _⟩ => ⟨S2x16x1024x2816, .f32⟩
  | .hbm, ⟨2, _⟩ => ⟨S2x16x1024x2816, .f32⟩
  | .hbm, ⟨3, _⟩ => ⟨S2x16x2816x1024, .f32⟩
  | .hbm, ⟨4, _⟩ => ⟨S16x512x1024, .f32⟩
  | .local _ .vmem, ⟨0, _⟩ => ⟨S1x512x512, .i32⟩
  | .local _ .vmem, ⟨1, _⟩ => ⟨S1x512x512, .i32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S1x512x1024, .f32⟩
  | .local _ .vmem, ⟨9, _⟩ => ⟨S1x512x1024, .f32⟩
  | .local _ .vmem, ⟨10, _⟩ => ⟨S512x1024, .bf16⟩
  | _, _ => ⟨S16x512x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 1, 11], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg2.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S16x512x512 : Shape := ⟨3, ![16, 512, 512]⟩
abbrev S2x16x1024x2816 : Shape := ⟨4, ![2, 16, 1024, 2816]⟩
abbrev S2x16x2816x1024 : Shape := ⟨4, ![2, 16, 2816, 1024]⟩
abbrev S16x512x512x2 : Shape := ⟨4, ![16, 512, 512, 2]⟩
abbrev S16x512x2x512 : Shape := ⟨4, ![16, 512, 2, 512]⟩
abbrev S16x512x1024 : Shape := ⟨3, ![16, 512, 1024]⟩
abbrev S1x16x1024x2816 : Shape := ⟨4, ![1, 16, 1024, 2816]⟩
abbrev S16x1024x2816 : Shape := ⟨3, ![16, 1024, 2816]⟩
abbrev S16x512x2816 : Shape := ⟨3, ![16, 512, 2816]⟩
abbrev S_ : Shape := ⟨0, ![]⟩
abbrev S1x16x2816x1024 : Shape := ⟨4, ![1, 16, 2816, 1024]⟩
abbrev S16x2816x1024 : Shape := ⟨3, ![16, 2816, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16x512x512, .i32⟩
  | .hbm, ⟨1, _⟩ => ⟨S2x16x1024x2816, .f32⟩
  | .hbm, ⟨2, _⟩ => ⟨S2x16x1024x2816, .f32⟩
  | .hbm, ⟨3, _⟩ => ⟨S2x16x2816x1024, .f32⟩
  | .hbm, ⟨4, _⟩ => ⟨S16x512x512x2, .bf16⟩
  | .hbm, ⟨5, _⟩ => ⟨S16x512x512x2, .f32⟩
  | .hbm, ⟨6, _⟩ => ⟨S16x512x2x512, .f32⟩
  | .hbm, ⟨7, _⟩ => ⟨S16x512x1024, .f32⟩
  | .hbm, ⟨8, _⟩ => ⟨S1x16x1024x2816, .f32⟩
  | .hbm, ⟨9, _⟩ => ⟨S16x1024x2816, .f32⟩
  | .hbm, ⟨10, _⟩ => ⟨S16x512x2816, .f32⟩
  | .hbm, ⟨11, _⟩ => ⟨S1x16x1024x2816, .f32⟩
  | .hbm, ⟨12, _⟩ => ⟨S16x1024x2816, .f32⟩
  | .hbm, ⟨13, _⟩ => ⟨S16x512x2816, .f32⟩
  | .hbm, ⟨14, _⟩ => ⟨S16x512x2816, .f32⟩
  | .hbm, ⟨15, _⟩ => ⟨S16x512x2816, .f32⟩
  | .hbm, ⟨16, _⟩ => ⟨S_, .f32⟩
  | .hbm, ⟨17, _⟩ => ⟨S16x512x2816, .f32⟩
  | .hbm, ⟨18, _⟩ => ⟨S16x512x2816, .f32⟩
  | .hbm, ⟨19, _⟩ => ⟨S_, .f32⟩
  | .hbm, ⟨20, _⟩ => ⟨S16x512x2816, .f32⟩
  | .hbm, ⟨21, _⟩ => ⟨S16x512x2816, .f32⟩
  | .hbm, ⟨22, _⟩ => ⟨S16x512x2816, .f32⟩
  | .hbm, ⟨23, _⟩ => ⟨S16x512x2816, .f32⟩
  | .hbm, ⟨24, _⟩ => ⟨S1x16x2816x1024, .f32⟩
  | .hbm, ⟨25, _⟩ => ⟨S16x2816x1024, .f32⟩
  | .hbm, ⟨26, _⟩ => ⟨S16x512x1024, .f32⟩
  | _, _ => ⟨S16x512x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Kernel5.lean ====
abbrev S16x1024 : Shape := ⟨2, ![16, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S7x1024 : Shape := ⟨2, ![7, 1024]⟩
abbrev S24x1024 : Shape := ⟨2, ![24, 1024]⟩
abbrev S2x1x6144 : Shape := ⟨3, ![2, 1, 6144]⟩
abbrev S2x24x6144 : Shape := ⟨3, ![2, 24, 6144]⟩
abbrev S1x1024x1024 : Shape := ⟨3, ![1, 1024, 1024]⟩
abbrev S1x1x1024 : Shape := ⟨3, ![1, 1, 1024]⟩
abbrev S1x24x1024 : Shape := ⟨3, ![1, 24, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S24x1024, .f32⟩
  | .hbm, ⟨8, _⟩ => ⟨S2x1x6144, .f32⟩
  | .hbm, ⟨9, _⟩ => ⟨S2x24x6144, .f32⟩
  | .local _ .vmem, ⟨0, _⟩ => ⟨S24x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x24x1024, .f32⟩
  | .local _ .vmem, ⟨6, _⟩ => ⟨S1x24x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16x1024 : Shape := ⟨2, ![16, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S1x1024 : Shape := ⟨2, ![1, 1024]⟩
abbrev S7x1024 : Shape := ⟨2, ![7, 1024]⟩
abbrev S24x1024 : Shape := ⟨2, ![24, 1024]⟩
abbrev S1x1024x6144 : Shape := ⟨3, ![1, 1024, 6144]⟩
abbrev S1024x6144 : Shape := ⟨2, ![1024, 6144]⟩
abbrev S24x6144 : Shape := ⟨2, ![24, 6144]⟩
abbrev S1x6144 : Shape := ⟨2, ![1, 6144]⟩
abbrev S6144 : Shape := ⟨1, ![6144]⟩
abbrev S1x24x6144 : Shape := ⟨3, ![1, 24, 6144]⟩
abbrev S2x24x6144 : Shape := ⟨3, ![2, 24, 6144]⟩

abbrev nBuf : Space → Nat
  | .hbm => 45
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x1024, .f32⟩
  | .hbm, ⟨23, _⟩ => ⟨S_, .f32⟩
  | .hbm, ⟨24, _⟩ => ⟨S7x1024, .f32⟩
  | .hbm, ⟨25, _⟩ => ⟨S24x1024, .f32⟩
  | .hbm, ⟨26, _⟩ => ⟨S1x1024x6144, .f32⟩
  | .hbm, ⟨27, _⟩ => ⟨S1024x6144, .f32⟩
  | .hbm, ⟨28, _⟩ => ⟨S24x6144, .f32⟩
  | .hbm, ⟨29, _⟩ => ⟨S1x6144, .f32⟩
  | .hbm, ⟨30, _⟩ => ⟨S6144, .f32⟩
  | .hbm, ⟨31, _⟩ => ⟨S1x6144, .f32⟩
  | .hbm, ⟨32, _⟩ => ⟨S24x6144, .f32⟩
  | .hbm, ⟨33, _⟩ => ⟨S24x6144, .f32⟩
  | .hbm, ⟨34, _⟩ => ⟨S1x1024x6144, .f32⟩
  | .hbm, ⟨35, _⟩ => ⟨S1024x6144, .f32⟩
  | .hbm, ⟨36, _⟩ => ⟨S24x6144, .f32⟩
  | .hbm, ⟨37, _⟩ => ⟨S1x6144, .f32⟩
  | .hbm, ⟨38, _⟩ => ⟨S6144, .f32⟩
  | .hbm, ⟨39, _⟩ => ⟨S1x6144, .f32⟩
  | .hbm, ⟨40, _⟩ => ⟨S24x6144, .f32⟩
  | .hbm, ⟨41, _⟩ => ⟨S24x6144, .f32⟩
  | .hbm, ⟨42, _⟩ => ⟨S1x24x6144, .f32⟩
  | .hbm, ⟨43, _⟩ => ⟨S1x24x6144, .f32⟩
  | .hbm, ⟨44, _⟩ => ⟨S2x24x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Kernel6.lean ====
abbrev S16x4096x1024 : Shape := ⟨3, ![16, 4096, 1024]⟩
abbrev S24x6x1024 : Shape := ⟨3, ![24, 6, 1024]⟩
abbrev S1024 : Shape := ⟨1, ![1024]⟩
abbrev S24x1x6x1024 : Shape := ⟨4, ![24, 1, 6, 1024]⟩
abbrev S1x1024 : Shape := ⟨2, ![1, 1024]⟩
abbrev S1x512x1024 : Shape := ⟨3, ![1, 512, 1024]⟩
abbrev S1x1x6x1024 : Shape := ⟨4, ![1, 1, 6, 1024]⟩
abbrev S512x1024 : Shape := ⟨2, ![512, 1024]⟩
abbrev S6x1024 : Shape := ⟨2, ![6, 1024]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .f32⟩
  | .hbm, ⟨2, _⟩ => ⟨S24x6x1024, .f32⟩
  | .hbm, ⟨3, _⟩ => ⟨S1024, .f32⟩
  | .hbm, ⟨4, _⟩ => ⟨S24x1x6x1024, .f32⟩
  | .hbm, ⟨5, _⟩ => ⟨S1x1024, .f32⟩
  | .hbm, ⟨6, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x6x1024, .f32⟩
  | .local _ .vmem, ⟨5, _⟩ => ⟨S1x1x6x1024, .f32⟩
  | .local _ .vmem, ⟨6, _⟩ => ⟨S1x1024, .f32⟩
  | .local _ .vmem, ⟨7, _⟩ => ⟨S1x512x1024, .f32⟩
  | .local _ .vmem, ⟨8, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S16x4096x1024 : Shape := ⟨3, ![16, 4096, 1024]⟩
abbrev S24x6x1024 : Shape := ⟨3, ![24, 6, 1024]⟩
abbrev S1024 : Shape := ⟨1, ![1024]⟩
abbrev S16x1x1024 : Shape := ⟨3, ![16, 1, 1024]⟩
abbrev S16x1024 : Shape := ⟨2, ![16, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .f32⟩
  | .hbm, ⟨2, _⟩ => ⟨S24x6x1024, .f32⟩
  | .hbm, ⟨3, _⟩ => ⟨S1024, .f32⟩
  | .hbm, ⟨4, _⟩ => ⟨S16x1x1024, .f32⟩
  | .hbm, ⟨5, _⟩ => ⟨S16x1024, .f32⟩
  | .hbm, ⟨6, _⟩ => ⟨S16x1x1024, .f32⟩
  | .hbm, ⟨7, _⟩ => ⟨S16x4096x1024, .f32⟩
  | .hbm, ⟨8, _⟩ => ⟨S_, .f32⟩
  | .hbm, ⟨9, _⟩ => ⟨S16x4096, .f32⟩
  | .hbm, ⟨10, _⟩ => ⟨S16x4096x1, .f32⟩
  | .hbm, ⟨11, _⟩ => ⟨S_, .f32⟩
  | .hbm, ⟨12, _⟩ => ⟨S16x4096x1, .f32⟩
  | .hbm, ⟨13, _⟩ => ⟨S16x4096x1, .f32⟩
  | .hbm, ⟨14, _⟩ => ⟨S_, .f32⟩
  | .hbm, ⟨15, _⟩ => ⟨S16x4096x1, .f32⟩
  | .hbm, ⟨16, _⟩ => ⟨S16x4096x1, .f32⟩
  | .hbm, ⟨17, _⟩ => ⟨S16x4096x1, .f32⟩
  | .hbm, ⟨18, _⟩ => ⟨S16x4096x1024, .f32⟩
  | .hbm, ⟨19, _⟩ => ⟨S16x4096x1024, .f32⟩
  | .hbm, ⟨20, _⟩ => ⟨S1x1x1024, .f32⟩
  | .hbm, ⟨21, _⟩ => ⟨S16x4096x1024, .f32⟩
  | .hbm, ⟨22, _⟩ => ⟨S16x4096x1024, .f32⟩
  | .hbm, ⟨23, _⟩ => ⟨S16x4096x1024, .f32⟩
  | .hbm, ⟨24, _⟩ => ⟨S16x4096x1024, .f32⟩
  | .hbm, ⟨25, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel7.lean ====
abbrev S256x4096 : Shape := ⟨2, ![256, 4096]⟩
abbrev S16x4352x256 : Shape := ⟨3, ![16, 4352, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S1x256x256 : Shape := ⟨3, ![1, 256, 256]⟩

abbrev nBuf : Space → Nat
  | .hbm => 46
  | .vmem => 8
  | .smem => 0
  | _ => 0

abbrev bufTy : (tb : Table) → Fin (tcTables nBuf tb) → BufTy
  | .hbm, ⟨0, _⟩ => ⟨S256x4096, .bf16⟩
  | .hbm, ⟨1, _⟩ => ⟨S256x4096, .bf16⟩
  | .hbm, ⟨2, _⟩ => ⟨S16x4352x256, .bf16⟩
  | .hbm, ⟨3, _⟩ => ⟨S256, .i32⟩
  | .hbm, ⟨4, _⟩ => ⟨S256x1, .i32⟩
  | .hbm, ⟨5, _⟩ => ⟨S1x256, .i32⟩
  | .hbm, ⟨6, _⟩ => ⟨S256x256, .i32⟩
  | .hbm, ⟨7, _⟩ => ⟨S256x256, .i32⟩
  | .hbm, ⟨8, _⟩ => ⟨S256x256, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S256x256, .i32⟩
  | .hbm, ⟨16, _⟩ => ⟨S256x256, .i32⟩
  | .hbm, ⟨17, _⟩ => ⟨S_, .i32⟩
  | .hbm, ⟨18, _⟩ => ⟨S256x256, .i32⟩
  | .hbm, ⟨19, _⟩ => ⟨S256x256, .i1⟩
  | .hbm, ⟨20, _⟩ => ⟨S_, .i32⟩
  | .hbm, ⟨21, _⟩ => ⟨S256x256, .i32⟩
  | .hbm, ⟨22, _⟩ => ⟨S256x256, .i1⟩
  | .hbm, ⟨23, _⟩ => ⟨S_, .i32⟩
  | .hbm, ⟨24, _⟩ => ⟨S_, .i1⟩
  | .hbm, ⟨25, _⟩ => ⟨S256x256, .i1⟩
  | .hbm, ⟨26, _⟩ => ⟨S256x256, .i1⟩
  | .hbm, ⟨27, _⟩ => ⟨S256x256, .i1⟩
  | .hbm, ⟨28, _⟩ => ⟨S256x256, .i32⟩
  | .hbm, ⟨29, _⟩ => ⟨S256x256, .i32⟩
  | .hbm, ⟨30, _⟩ => ⟨S256x256, .i32⟩
  | .hbm, ⟨31, _⟩ => ⟨S256x256, .f32⟩
  | .hbm, ⟨32, _⟩ => ⟨S_, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S_, .f32⟩
  | .hbm, ⟨38, _⟩ => ⟨S256x256, .f32⟩
  | .hbm, ⟨39, _⟩ => ⟨S256x256, .f32⟩
  | .hbm, ⟨40, _⟩ => ⟨S256x256, .bf16⟩
  | .hbm, ⟨41, _⟩ => ⟨S_, .f32⟩
  | .hbm, ⟨42, _⟩ => ⟨S256x256, .f32⟩
  | .hbm, ⟨43, _⟩ => ⟨S256x256, .f32⟩
  | .hbm, ⟨44, _⟩ => ⟨S256x256, .bf16⟩
  | .hbm, ⟨45, _⟩ => ⟨S16x4352x256, .bf16⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S1x256x256, .bf16⟩
  | .local _ .vmem, ⟨7, _⟩ => ⟨S1x256x256, .bf16⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_0 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_1 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![arg1.toNat, v0.toNat, c0_i32.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S256x4096 : Shape := ⟨2, ![256, 4096]⟩
abbrev S16x4352x256 : Shape := ⟨3, ![16, 4352, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x16x256 : Shape := ⟨3, ![256, 16, 256]⟩
abbrev S16x256x256 : Shape := ⟨3, ![16, 256, 256]⟩
abbrev S16x4096x256 : Shape := ⟨3, ![16, 4096, 256]⟩

abbrev nBuf : Space → Nat
  | .hbm => 55
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S256x4096, .bf16⟩
  | .hbm, ⟨2, _⟩ => ⟨S16x4352x256, .bf16⟩
  | .hbm, ⟨3, _⟩ => ⟨S256, .i32⟩
  | .hbm, ⟨4, _⟩ => ⟨S256x1, .i32⟩
  | .hbm, ⟨5, _⟩ => ⟨S1x256, .i32⟩
  | .hbm, ⟨6, _⟩ => ⟨S256x256, .i32⟩
  | .hbm, ⟨7, _⟩ => ⟨S256x256, .i32⟩
  | .hbm, ⟨8, _⟩ => ⟨S256x256, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S256x256, .i32⟩
  | .hbm, ⟨16, _⟩ => ⟨S256x256, .i32⟩
  | .hbm, ⟨17, _⟩ => ⟨S_, .i32⟩
  | .hbm, ⟨18, _⟩ => ⟨S256x256, .i32⟩
  | .hbm, ⟨19, _⟩ => ⟨S256x256, .i1⟩
  | .hbm, ⟨20, _⟩ => ⟨S_, .i32⟩
  | .hbm, ⟨21, _⟩ => ⟨S256x256, .i32⟩
  | .hbm, ⟨22, _⟩ => ⟨S256x256, .i1⟩
  | .hbm, ⟨23, _⟩ => ⟨S_, .i32⟩
  | .hbm, ⟨24, _⟩ => ⟨S_, .i1⟩
  | .hbm, ⟨25, _⟩ => ⟨S256x256, .i1⟩
  | .hbm, ⟨26, _⟩ => ⟨S256x256, .i1⟩
  | .hbm, ⟨27, _⟩ => ⟨S256x256, .i1⟩
  | .hbm, ⟨28, _⟩ => ⟨S256x256, .i32⟩
  | .hbm, ⟨29, _⟩ => ⟨S256x256, .i32⟩
  | .hbm, ⟨30, _⟩ => ⟨S256x256, .i32⟩
  | .hbm, ⟨31, _⟩ => ⟨S256x256, .f32⟩
  | .hbm, ⟨32, _⟩ => ⟨S_, .f32⟩
  | .hbm, ⟨33, _⟩ => ⟨S256x256, .f32⟩
  | .hbm, ⟨34, _⟩ => ⟨S256x256, .f32⟩
  | .hbm, ⟨35, _⟩ => ⟨S256x4096, .f32⟩
  | .hbm, ⟨36, _⟩ => ⟨S256x16x256, .f32⟩
  | .hbm, ⟨37, _⟩ => ⟨S256x4096, .f32⟩
  | .hbm, ⟨38, _⟩ => ⟨S256x16x256, .f32⟩
  | .hbm, ⟨39, _⟩ => ⟨S256x256, .f32⟩
  | .hbm, ⟨40, _⟩ => ⟨S_, .f32⟩
  | .hbm, ⟨41, _⟩ => ⟨S256x256, .f32⟩
  | .hbm, ⟨42, _⟩ => ⟨S256x256, .f32⟩
  | .hbm, ⟨43, _⟩ => ⟨S16x256x256, .f32⟩
  | .hbm, ⟨44, _⟩ => ⟨S16x256x256, .f32⟩
  | .hbm, ⟨45, _⟩ => ⟨S256x256, .f32⟩
  | .hbm, ⟨46, _⟩ => ⟨S_, .f32⟩
  | .hbm, ⟨47, _⟩ => ⟨S256x256, .f32⟩
  | .hbm, ⟨48, _⟩ => ⟨S256x256, .f32⟩
  | .hbm, ⟨49, _⟩ => ⟨S16x256x256, .f32⟩
  | .hbm, ⟨50, _⟩ => ⟨S16x256x256, .f32⟩
  | .hbm, ⟨51, _⟩ => ⟨S16x256x256, .f32⟩
  | .hbm, ⟨52, _⟩ => ⟨S16x4096x256, .bf16⟩
  | .hbm, ⟨53, _⟩ => ⟨S16x256x256, .bf16⟩
  | .hbm, ⟨54, _⟩ => ⟨S16x4352x256, .bf16⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_0 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_1 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩

abbrev nD : Nat := 1
abbrev τ : Topo := Topo.v7x

variable {F : FTy → Type} [FloatOps F]
-- ==== Kernel9.lean ====
abbrev S16x4096x256 : Shape := ⟨3, ![16, 4096, 256]⟩
abbrev S16x4096x384 : Shape := ⟨3, ![16, 4096, 384]⟩
abbrev S16x4352x384 : Shape := ⟨3, ![16, 4352, 384]⟩
abbrev S16x4352x1024 : Shape := ⟨3, ![16, 4352, 1024]⟩
abbrev S24x6x1024 : Shape := ⟨3, ![24, 6, 1024]⟩
abbrev S384 : Shape := ⟨1, ![384]⟩
abbrev S1024 : Shape := ⟨1, ![1024]⟩
abbrev S1024x1024 : Shape := ⟨2, ![1024, 1024]⟩
abbrev S1024x16 : Shape := ⟨2, ![1024, 16]⟩
abbrev S256x1024 : Shape := ⟨2, ![256, 1024]⟩
abbrev S384x1024 : Shape := ⟨2, ![384, 1024]⟩
abbrev S2x3x64x1024 : Shape := ⟨4, ![2, 3, 64, 1024]⟩
abbrev S3x2x64x1024 : Shape := ⟨4, ![3, 2, 64, 1024]⟩
abbrev S16x1024 : Shape := ⟨2, ![16, 1024]⟩
abbrev S1x16x1024 : Shape := ⟨3, ![1, 16, 1024]⟩
abbrev S2x16x1024 : Shape := ⟨3, ![2, 16, 1024]⟩
abbrev S24x1x6x1024 : Shape := ⟨4, ![24, 1, 6, 1024]⟩
abbrev S1x384 : Shape := ⟨2, ![1, 384]⟩
abbrev S1x1024 : Shape := ⟨2, ![1, 1024]⟩
abbrev S16x4096x1024 : Shape := ⟨3, ![16, 4096, 1024]⟩
abbrev S16x16x4096 : Shape := ⟨3, ![16, 16, 4096]⟩
abbrev S1x512x256 : Shape := ⟨3, ![1, 512, 256]⟩
abbrev S1x512x384 : Shape := ⟨3, ![1, 512, 384]⟩
abbrev S1x512x1024 : Shape := ⟨3, ![1, 512, 1024]⟩
abbrev S1x1x6x1024 : Shape := ⟨4, ![1, 1, 6, 1024]⟩
abbrev S1x16x512 : Shape := ⟨3, ![1, 16, 512]⟩
abbrev S512x384 : Shape := ⟨2, ![512, 384]⟩
abbrev S512 : Shape := ⟨1, ![512]⟩
abbrev S512x1 : Shape := ⟨2, ![512, 1]⟩
abbrev S512x256 : Shape := ⟨2, ![512, 256]⟩
abbrev S512x1024 : Shape := ⟨2, ![512, 1024]⟩
abbrev S6x1024 : Shape := ⟨2, ![6, 1024]⟩
abbrev S16x512 : Shape := ⟨2, ![16, 512]⟩

abbrev nBuf : Space → Nat
  | .hbm => 37
  | .vmem => 25
  | .smem => 0
  | _ => 0

abbrev bufTy : (tb : Table) → Fin (tcTables nBuf tb) → BufTy
  | .hbm, ⟨0, _⟩ => ⟨S16x4096x256, .bf16⟩
  | .hbm, ⟨1, _⟩ => ⟨S16x4096x384, .bf16⟩
  | .hbm, ⟨2, _⟩ => ⟨S16x4352x384, .bf16⟩
  | .hbm, ⟨3, _⟩ => ⟨S16x4352x384, .bf16⟩
  | .hbm, ⟨4, _⟩ => ⟨S16x4352x384, .bf16⟩
  | .hbm, ⟨5, _⟩ => ⟨S16x4352x1024, .f32⟩
  | .hbm, ⟨6, _⟩ => ⟨S24x6x1024, .f32⟩
  | .hbm, ⟨7, _⟩ => ⟨S384, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024x16, .f32⟩
  | .hbm, ⟨12, _⟩ => ⟨S256x1024, .f32⟩
  | .hbm, ⟨13, _⟩ => ⟨S384x1024, .f32⟩
  | .hbm, ⟨14, _⟩ => ⟨S2x3x64x1024, .f32⟩
  | .hbm, ⟨15, _⟩ => ⟨S3x2x64x1024, .f32⟩
  | .hbm, ⟨16, _⟩ => ⟨S384x1024, .f32⟩
  | .hbm, ⟨17, _⟩ => ⟨S384x1024, .f32⟩
  | .hbm, ⟨18, _⟩ => ⟨S1024x1024, .f32⟩
  | .hbm, ⟨19, _⟩ => ⟨S1024x1024, .bf16⟩
  | .hbm, ⟨20, _⟩ => ⟨S16x1024, .f32⟩
  | .hbm, ⟨21, _⟩ => ⟨S16x1024, .bf16⟩
  | .hbm, ⟨22, _⟩ => ⟨S16x1024, .f32⟩
  | .hbm, ⟨23, _⟩ => ⟨S16x1024, .f32⟩
  | .hbm, ⟨24, _⟩ => ⟨S16x1024, .bf16⟩
  | .hbm, ⟨25, _⟩ => ⟨S16x1024, .f32⟩
  | .hbm, ⟨26, _⟩ => ⟨S16x1024, .f32⟩
  | .hbm, ⟨27, _⟩ => ⟨S1x16x1024, .bf16⟩
  | .hbm, ⟨28, _⟩ => ⟨S1x16x1024, .bf16⟩
  | .hbm, ⟨29, _⟩ => ⟨S2x16x1024, .bf16⟩
  | .hbm, ⟨30, _⟩ => ⟨S24x1x6x1024, .f32⟩
  | .hbm, ⟨31, _⟩ => ⟨S1x384, .f32⟩
  | .hbm, ⟨32, _⟩ => ⟨S1x1024, .f32⟩
  | .hbm, ⟨33, _⟩ => ⟨S1x1024, .f32⟩
  | .hbm, ⟨34, _⟩ => ⟨S16x4096x1024, .f32⟩
  | .hbm, ⟨35, _⟩ => ⟨S16x4096x1024, .bf16⟩
  | .hbm, ⟨36, _⟩ => ⟨S16x16x4096, .f32⟩
  | .local _ .vmem, ⟨0, _⟩ => ⟨S1x512x256, .bf16⟩
  | .local _ .vmem, ⟨1, _⟩ => ⟨S1x512x256, .bf16⟩
  | .local _ .vmem, ⟨2, _⟩ => ⟨S1x512x384, .bf16⟩
  | .local _ .vmem, ⟨3, _⟩ => ⟨S1x512x384, .bf16⟩
  | .local _ .vmem, ⟨4, _⟩ => ⟨S1x512x384, .bf16⟩
  | .local _ .vmem, ⟨5, _⟩ => ⟨S1x512x384, .bf16⟩
  | .local _ .vmem, ⟨6, _⟩ => ⟨S1x512x384, .bf16⟩
  | .local _ .vmem, ⟨7, _⟩ => ⟨S1x512x384, .bf16⟩
  | .local _ .vmem, ⟨8, _⟩ => ⟨S1x512x384, .bf16⟩
  | .local _ .vmem, ⟨9, _⟩ => ⟨S1x512x384, .bf16⟩
  | .local _ .vmem, ⟨10, _⟩ => ⟨S1x512x1024, .f32⟩
  | .local _ .vmem, ⟨11, _⟩ => ⟨S1x512x1024, .f32⟩
  | .local _ .vmem, ⟨12, _⟩ => ⟨S1x1x6x1024, .f32⟩
  | .local _ .vmem, ⟨13, _⟩ => ⟨S1x1x6x1024, .f32⟩
  | .local _ .vmem, ⟨14, _⟩ => ⟨S1x384, .f32⟩
  | .local _ .vmem, ⟨15, _⟩ => ⟨S1x1024, .f32⟩
  | .local _ .vmem, ⟨16, _⟩ => ⟨S1x1024, .f32⟩
  | .local _ .vmem, ⟨17, _⟩ => ⟨S1024x1024, .bf16⟩
  | .local _ .vmem, ⟨18, _⟩ => ⟨S2x16x1024, .bf16⟩
  | .local _ .vmem, ⟨19, _⟩ => ⟨S1x512x1024, .f32⟩
  | .local _ .vmem, ⟨20, _⟩ => ⟨S1x512x1024, .f32⟩
  | .local _ .vmem, ⟨21, _⟩ => ⟨S1x512x1024, .bf16⟩
  | .local _ .vmem, ⟨22, _⟩ => ⟨S1x512x1024, .bf16⟩
  | .local _ .vmem, ⟨23, _⟩ => ⟨S1x16x512, .f32⟩
  | .local _ .vmem, ⟨24, _⟩ => ⟨S1x16x512, .f32⟩
  | _, _ => ⟨S16x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c16_i32 : BitVec 32 := 16#32
  let v1 : BitVec 32 := Scalar.select v0 arg0 c16_i32
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2x16x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference9Ideal.lean ====
abbrev S16x4096x256 : Shape := ⟨3, ![16, 4096, 256]⟩
abbrev S16x4096x384 : Shape := ⟨3, ![16, 4096, 384]⟩
abbrev S16x4352x384 : Shape := ⟨3, ![16, 4352, 384]⟩
abbrev S16x4352x1024 : Shape := ⟨3, ![16, 4352, 1024]⟩
abbrev S24x6x1024 : Shape := ⟨3, ![24, 6, 1024]⟩
abbrev S384 : Shape := ⟨1, ![384]⟩
abbrev S1024 : Shape := ⟨1, ![1024]⟩
abbrev S1024x1024 : Shape := ⟨2, ![1024, 1024]⟩
abbrev S1024x16 : Shape := ⟨2, ![1024, 16]⟩
abbrev S16x1x1024 : Shape := ⟨3, ![16, 1, 1024]⟩
abbrev S16x1024 : Shape := ⟨2, ![16, 1024]⟩
abbrev S_ : Shape := ⟨0, ![]⟩
abbrev S16x4096 : Shape := ⟨2, ![16, 4096]⟩
abbrev S16x4096x1 : Shape := ⟨3, ![16, 4096, 1]⟩
abbrev S1x1x384 : Shape := ⟨3, ![1, 1, 384]⟩
abbrev S16x4096x3x2x64 : Shape := ⟨5, ![16, 4096, 3, 2, 64]⟩
abbrev S16x4096x2x3x64 : Shape := ⟨5, ![16, 4096, 2, 3, 64]⟩
abbrev S16x4096x1024 : Shape := ⟨3, ![16, 4096, 1024]⟩
abbrev S1x1x1024 : Shape := ⟨3, ![1, 1, 1024]⟩
abbrev S16x4096x16 : Shape := ⟨3, ![16, 4096, 16]⟩
abbrev S16x16x4096 : Shape := ⟨3, ![16, 16, 4096]⟩

abbrev nBuf : Space → Nat
  | .hbm => 107
  | .vmem => 0
  | .smem => 0
  | _ => 0

abbrev bufTy : (tb : Table) → Fin (tcTables nBuf tb) → BufTy
  | .hbm, ⟨0, _⟩ => ⟨S16x4096x256, .bf16⟩
  | .hbm, ⟨1, _⟩ => ⟨S16x4096x384, .bf16⟩
  | .hbm, ⟨2, _⟩ => ⟨S16x4352x384, .bf16⟩
  | .hbm, ⟨3, _⟩ => ⟨S16x4352x384, .bf16⟩
  | .hbm, ⟨4, _⟩ => ⟨S16x4352x384, .bf16⟩
  | .hbm, ⟨5, _⟩ => ⟨S16x4352x1024, .f32⟩
  | .hbm, ⟨6, _⟩ => ⟨S24x6x1024, .f32⟩
  | .hbm, ⟨7, _⟩ => ⟨S384, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024x16, .f32⟩
  | .hbm, ⟨12, _⟩ => ⟨S16x1x1024, .f32⟩
  | .hbm, ⟨13, _⟩ => ⟨S16x1024, .f32⟩
  | .hbm, ⟨14, _⟩ => ⟨S16x1x1024, .f32⟩
  | .hbm, ⟨15, _⟩ => ⟨S16x1x1024, .f32⟩
  | .hbm, ⟨16, _⟩ => ⟨S16x1024, .f32⟩
  | .hbm, ⟨17, _⟩ => ⟨S16x1x1024, .f32⟩
  | .hbm, ⟨18, _⟩ => ⟨S16x1x1024, .f32⟩
  | .hbm, ⟨19, _⟩ => ⟨S16x1024, .f32⟩
  | .hbm, ⟨20, _⟩ => ⟨S16x1x1024, .f32⟩
  | .hbm, ⟨21, _⟩ => ⟨S16x4096x384, .bf16⟩
  | .hbm, ⟨22, _⟩ => ⟨S16x4096x384, .f32⟩
  | .hbm, ⟨23, _⟩ => ⟨S16x4096x384, .bf16⟩
  | .hbm, ⟨24, _⟩ => ⟨S16x4096x384, .f32⟩
  | .hbm, ⟨25, _⟩ => ⟨S16x4096x384, .f32⟩
  | .hbm, ⟨26, _⟩ => ⟨S16x4096x384, .bf16⟩
  | .hbm, ⟨27, _⟩ => ⟨S16x4096x384, .f32⟩
  | .hbm, ⟨28, _⟩ => ⟨S16x4096x384, .f32⟩
  | .hbm, ⟨29, _⟩ => ⟨S16x4096x384, .f32⟩
  | .hbm, ⟨30, _⟩ => ⟨S_, .f32⟩
  | .hbm, ⟨31, _⟩ => ⟨S16x4096x384, .f32⟩
  | .hbm, ⟨32, _⟩ => ⟨S16x4096x384, .f32⟩
  | .hbm, ⟨33, _⟩ => ⟨S_, .f32⟩
  | .hbm, ⟨34, _⟩ => ⟨S16x4096x384, .f32⟩
  | .hbm, ⟨35, _⟩ => ⟨S16x4096x384, .f32⟩
  | .hbm, ⟨36, _⟩ => ⟨S16x4096x384, .f32⟩
  | .hbm, ⟨37, _⟩ => ⟨S16x4096x384, .f32⟩
  | .hbm, ⟨38, _⟩ => ⟨S16x4096x384, .f32⟩
  | .hbm, ⟨39, _⟩ => ⟨S_, .f32⟩
  | .hbm, ⟨40, _⟩ => ⟨S16x4096, .f32⟩
  | .hbm, ⟨41, _⟩ => ⟨S16x4096x1, .f32⟩
  | .hbm, ⟨42, _⟩ => ⟨S_, .f32⟩
  | .hbm, ⟨43, _⟩ => ⟨S16x4096x1, .f32⟩
  | .hbm, ⟨44, _⟩ => ⟨S16x4096x1, .f32⟩
  | .hbm, ⟨45, _⟩ => ⟨S_, .f32⟩
  | .hbm, ⟨46, _⟩ => ⟨S16x4096x1, .f32⟩
  | .hbm, ⟨47, _⟩ => ⟨S16x4096x1, .f32⟩
  | .hbm, ⟨48, _⟩ => ⟨S16x4096x1, .f32⟩
  | .hbm, ⟨49, _⟩ => ⟨S16x4096x384, .f32⟩
  | .hbm, ⟨50, _⟩ => ⟨S16x4096x384, .f32⟩
  | .hbm, ⟨51, _⟩ => ⟨S1x1x384, .f32⟩
  | .hbm, ⟨52, _⟩ => ⟨S16x4096x384, .f32⟩
  | .hbm, ⟨53, _⟩ => ⟨S16x4096x384, .f32⟩
  | .hbm, ⟨54, _⟩ => ⟨S16x4096x384, .f32⟩
  | .hbm, ⟨55, _⟩ => ⟨S16x4096x3x2x64, .f32⟩
  | .hbm, ⟨56, _⟩ => ⟨S16x4096x2x3x64, .f32⟩
  | .hbm, ⟨57, _⟩ => ⟨S16x4096x384, .f32⟩
  | .hbm, ⟨58, _⟩ => ⟨S16x4096x256, .f32⟩
  | .hbm, ⟨59, _⟩ => ⟨S16x4096x1024, .f32⟩
  | .hbm, ⟨60, _⟩ => ⟨S16x4096x1024, .f32⟩
  | .hbm, ⟨61, _⟩ => ⟨S16x4096x1024, .f32⟩
  | .hbm, ⟨62, _⟩ => ⟨S16x4096x1024, .f32⟩
  | .hbm, ⟨63, _⟩ => ⟨S_, .f32⟩
  | .hbm, ⟨64, _⟩ => ⟨S16x4096, .f32⟩
  | .hbm, ⟨65, _⟩ => ⟨S16x4096x1, .f32⟩
  | .hbm, ⟨66, _⟩ => ⟨S_, .f32⟩
  | .hbm, ⟨67, _⟩ => ⟨S16x4096x1, .f32⟩
  | .hbm, ⟨68, _⟩ => ⟨S16x4096x1, .f32⟩
  | .hbm, ⟨69, _⟩ => ⟨S_, .f32⟩
  | .hbm, ⟨70, _⟩ => ⟨S16x4096x1, .f32⟩
  | .hbm, ⟨71, _⟩ => ⟨S16x4096x1, .f32⟩
  | .hbm, ⟨72, _⟩ => ⟨S16x4096x1, .f32⟩
  | .hbm, ⟨73, _⟩ => ⟨S16x4096x1024, .f32⟩
  | .hbm, ⟨74, _⟩ => ⟨S16x4096x1024, .f32⟩
  | .hbm, ⟨75, _⟩ => ⟨S1x1x1024, .f32⟩
  | .hbm, ⟨76, _⟩ => ⟨S16x4096x1024, .f32⟩
  | .hbm, ⟨77, _⟩ => ⟨S16x4096x1024, .f32⟩
  | .hbm, ⟨78, _⟩ => ⟨S16x4096x1024, .f32⟩
  | .hbm, ⟨79, _⟩ => ⟨S16x4096x1024, .f32⟩
  | .hbm, ⟨80, _⟩ => ⟨S16x4096x1024, .f32⟩
  | .hbm, ⟨81, _⟩ => ⟨S16x4096x1024, .f32⟩
  | .hbm, ⟨82, _⟩ => ⟨S_, .f32⟩
  | .hbm, ⟨83, _⟩ => ⟨S16x4096, .f32⟩
  | .hbm, ⟨84, _⟩ => ⟨S16x4096x1, .f32⟩
  | .hbm, ⟨85, _⟩ => ⟨S_, .f32⟩
  | .hbm, ⟨86, _⟩ => ⟨S16x4096x1, .f32⟩
  | .hbm, ⟨87, _⟩ => ⟨S16x4096x1, .f32⟩
  | .hbm, ⟨88, _⟩ => ⟨S_, .f32⟩
  | .hbm, ⟨89, _⟩ => ⟨S16x4096x1, .f32⟩
  | .hbm, ⟨90, _⟩ => ⟨S16x4096x1, .f32⟩
  | .hbm, ⟨91, _⟩ => ⟨S16x4096x1, .f32⟩
  | .hbm, ⟨92, _⟩ => ⟨S16x4096x1024, .f32⟩
  | .hbm, ⟨93, _⟩ => ⟨S16x4096x1024, .f32⟩
  | .hbm, ⟨94, _⟩ => ⟨S1x1x1024, .f32⟩
  | .hbm, ⟨95, _⟩ => ⟨S16x4096x1024, .f32⟩
  | .hbm, ⟨96, _⟩ => ⟨S16x4096x1024, .f32⟩
  | .hbm, ⟨97, _⟩ => ⟨S_, .f32⟩
  | .hbm, ⟨98, _⟩ => ⟨S16x1x1024, .f32⟩
  | .hbm, ⟨99, _⟩ => ⟨S16x1x1024, .f32⟩
  | .hbm, ⟨100, _⟩ => ⟨S16x4096x1024, .f32⟩
  | .hbm, ⟨101, _⟩ => ⟨S16x4096x1024, .f32⟩
  | .hbm, ⟨102, _⟩ => ⟨S16x4096x1024, .f32⟩
  | .hbm, ⟨103, _⟩ => ⟨S16x4096x1024, .f32⟩
  | .hbm, ⟨104, _⟩ => ⟨S16x4096x1024, .bf16⟩
  | .hbm, ⟨105, _⟩ => ⟨S16x4096x16, .f32⟩
  | .hbm, ⟨106, _⟩ => ⟨S16x16x4096, .f32⟩
  | _, _ => ⟨S16x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst : Ref sig .tc := ⟨.hbm, 39, rfl⟩
abbrev main_v19 : Ref sig .tc := ⟨.hbm, 40, rfl⟩
abbrev main_v20 : Ref sig .tc := ⟨.hbm, 41, rfl⟩
abbrev main_cst_0 : Ref sig .tc := ⟨.hbm, 42, rfl⟩
abbrev main_v21 : Ref sig .tc := ⟨.hbm, 43, rfl⟩
abbrev main_v22 : Ref sig .tc := ⟨.hbm, 44, rfl⟩
abbrev main_cst_1 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_2 : Ref sig .tc := ⟨.hbm, 63, rfl⟩
abbrev main_v40 : Ref sig .tc := ⟨.hbm, 64, rfl⟩
abbrev main_v41 : Ref sig .tc := ⟨.hbm, 65, rfl⟩
abbrev main_cst_3 : Ref sig .tc := ⟨.hbm, 66, rfl⟩
abbrev main_v42 : Ref sig .tc := ⟨.hbm, 67, rfl⟩
abbrev main_v43 : Ref sig .tc := ⟨.hbm, 68, rfl⟩
abbrev main_cst_4 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_5 : Ref sig .tc := ⟨.hbm, 82, rfl⟩
abbrev main_v56 : Ref sig .tc := ⟨.hbm, 83, rfl⟩
abbrev main_v57 : Ref sig .tc := ⟨.hbm, 84, rfl⟩
abbrev main_cst_6 : Ref sig .tc := ⟨.hbm, 85, rfl⟩
abbrev main_v58 : Ref sig .tc := ⟨.hbm, 86, rfl⟩
abbrev main_v59 : Ref sig .tc := ⟨.hbm, 87, rfl⟩
abbrev main_cst_7 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_8 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩

abbrev nD : Nat := 1
abbrev τ : Topo := Topo.v7x

variable {F : FTy → Type} [FloatOps F]
-- ==== Proof.RefFrames.lean ====
/-
  The references run, leave their arguments and every counter as they found them.
-/
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference9Ideal.Run
public import Idealize.ShloMosaic.Lib.Quiescent

@[expose] public section

set_option maxRecDepth 16384

noncomputable section

namespace Cert.RefFrames

open Idealize.ShloMosaic Idealize.ShloMosaic.TcCoe Idealize.SL.Sem

theorem ffn : Cert.quiescent_Reference2Ideal := fun m g _ =>
  (θ_run _ _ _).mono (fun r h => ⟨fun c => (h c).2, sem_eq_zero_of_no_sems rfl _⟩) (Cert.Reference2Ideal.Value.run m g)

theorem ffn1 : Cert.quiescent_Reference3Ideal := fun m g _ =>
  (θ_run _ _ _).mono (fun r h => ⟨fun c => (h c).2, sem_eq_zero_of_no_sems rfl _⟩) (Cert.Reference3Ideal.Value.run m g)

theorem attn : Cert.quiescent_ReferenceIdeal := fun m g _ =>
  (θ_run _ _ _).mono (fun r h => ⟨fun c => (h c).2, sem_eq_zero_of_no_sems rfl _⟩) (Cert.ReferenceIdeal.Value.run m g)

theorem ffnCtx : Cert.quiescent_Reference4Ideal := fun m g _ =>
  (θ_run _ _ _).mono (fun r h => ⟨fun c => (h c).2, sem_eq_zero_of_no_sems rfl _⟩) (Cert.Reference4Ideal.Value.run m g)

theorem mod : Cert.quiescent_Reference5Ideal := fun m g _ =>
  (θ_run _ _ _).mono (fun r h => ⟨fun c => (h c).2, sem_eq_zero_of_no_sems rfl _⟩) (Cert.Reference5Ideal.Value.run m g)

theorem res : Cert.quiescent_Reference6Ideal := fun m g _ =>
  (θ_run _ _ _).mono (fun r h => ⟨fun c => (h c).2, sem_eq_zero_of_no_sems rfl _⟩) (Cert.Reference6Ideal.Value.run m g)

theorem four : Cert.quiescent_Reference7Ideal := fun m g _ =>
  (θ_run _ _ _).mono (fun r h => ⟨fun c => (h c).2, sem_eq_zero_of_no_sems rfl _⟩) (Cert.Reference7Ideal.Value.run m g)

theorem out : Cert.quiescent_Reference9Ideal := fun m g _ =>
  (θ_run _ _ _).mono (fun r h => ⟨fun c => (h c).2.2.2, sem_eq_zero_of_no_sems rfl _⟩) (Cert.Reference9Ideal.Value.run m g)

end Cert.RefFrames

end
-- ==== Proof.Decode.lean ====
module

public import Idealize.ShloMosaic.PureOps.Ideal
public import Idealize.ShloMosaic.PureOps.Ideal.Laws
public import Mathlib.Tactic.IntervalCases
public import Mathlib.Tactic.Ring
public import Mathlib.Tactic.NormNum
public import Mathlib.Tactic.FieldSimp

@[expose] public section

namespace Cert.Decode

open Idealize.ShloMosaic

/-- A half word and the word that holds it in its upper half, zeros below, decode to the same number. -/
theorem decode_eq (h : BitVec 16) (w : BitVec 32) (e : w.toNat = h.toNat * 65536) :
    Ideal.ofBits .f32 w = Ideal.ofBits .bf16 h := by
  have hh := h.isLt
  have e1 : w.extractLsb' 31 1 = h.extractLsb' 15 1 := by
    apply BitVec.eq_of_toNat_eq
    simp only [BitVec.extractLsb'_toNat, Nat.shiftRight_eq_div_pow, e]
    omega
  have e2 : (w.extractLsb' 23 8).toNat = (h.extractLsb' 7 8).toNat := by
    simp only [BitVec.extractLsb'_toNat, Nat.shiftRight_eq_div_pow, e]
    omega
  have e3 : (w.extractLsb' 0 23).toNat = (h.extractLsb' 0 7).toNat * 65536 := by
    simp only [BitVec.extractLsb'_toNat, Nat.shiftRight_eq_div_pow, e]
    omega
  show Ideal.ieee 8 23 w = Ideal.ieee 8 7 h
  unfold Ideal.ieee
  simp only [Nat.reduceAdd, e1, e2, e3]
  generalize (h.extractLsb' 0 7).toNat = fr
  generalize (h.extractLsb' 7 8).toNat = ex
  split_ifs with a b c d f g <;> first
    | rfl
    | (exfalso; omega)
    | skip
  all_goals
    congr 1
    push_cast
  all_goals try simp only [zpow_sub₀ (two_ne_zero' ℝ)]
  all_goals norm_num
  all_goals ring

/-- The number a word's low half denotes, as the kernel reads it: moved to the upper half. -/
theorem decode_lo (w : BitVec 32) :
    Ideal.ofBits .f32 (IntOp.shli .vector w 16#32) = Ideal.ofBits .bf16 (w.extractLsb' 0 16) := by
  have h : IntOp.shli .vector w 16#32 = w <<< 16 := by
    unfold IntOp.shli
    rfl
  rw [h]
  apply decode_eq
  have := w.isLt
  simp [BitVec.toNat_shiftLeft, BitVec.extractLsb'_toNat, Nat.shiftLeft_eq]
  omega

/-- The number a word's high half denotes, as the kernel reads it: the low half masked off. -/
theorem decode_hi (w : BitVec 32) :
    Ideal.ofBits .f32 (IntOp.andi w 4294901760#32) = Ideal.ofBits .bf16 (w.extractLsb' 16 16) := by
  apply decode_eq
  have h : w &&& 4294901760#32 = (w >>> 16) <<< 16 := by
    apply BitVec.eq_of_getLsbD_eq
    intro i hi
    interval_cases i <;> simp
  show (w &&& 4294901760#32).toNat = _
  rw [h]
  have := w.isLt
  simp [BitVec.toNat_shiftLeft, BitVec.extractLsb'_toNat, Nat.shiftLeft_eq, Nat.shiftRight_eq_div_pow]
  omega

/-- Column `k` of a token's row of 1024 numbers, from its 512 words: the low halves, then the high halves. -/
noncomputable def unpack (w : Fin 512 → BitVec 32) (k : Fin 1024) : EReal :=
  if h : k.val < 512 then Ideal.ofBits .bf16 ((w ⟨k.val, h⟩).extractLsb' 0 16)
  else Ideal.ofBits .bf16 ((w ⟨k.val - 512, by omega⟩).extractLsb' 16 16)

/-- One hidden unit's share of the feed-forward layer: the gated product times the unit's output weight. -/
noncomputable def unit (x : Fin 1024 → EReal) (g u : Fin 1024 → EReal) (d : EReal) : EReal :=
  (∑ k, x k * g k) * Ideal.logistic (∑ k, x k * g k) * (∑ k, x k * u k) * d

theorem unit_congr {x x' g g' u u' : Fin 1024 → EReal} {d d' : EReal} (hx : ∀ k, x k = x' k) (hg : ∀ k, g k = g' k)
    (hu : ∀ k, u k = u' k) (hd : d = d') : unit x g u d = unit x' g' u' d' := by
  rw [funext hx, funext hg, funext hu, hd]

theorem unpack_congr {w w' : Fin 512 → BitVec 32} (h : ∀ l, w l = w' l) (k : Fin 1024) : unpack w k = unpack w' k := by
  rw [funext h]

end Cert.Decode
-- ==== Proof.FfnBlock.lean ====
module

public import proofs.«01_k».proof.Proof.Gen.Kernel2Ideal.Value
public import proofs.«01_k».proof.Proof.Decode
public import Idealize.ShloMosaic.Lib.Tactic
public import Idealize.ShloMosaic.Lib.Pipeline.ValueKit
public import Idealize.ShloMosaic.Lib.Pipeline.ValueKit.Held
public import Idealize.ShloMosaic.Lib.Pipeline.ReadBack
public import Idealize.ShloMosaic.Lib.Pipeline.Covers
public import Idealize.ShloMosaic.Lib.Pointwise

@[expose] public section

set_option maxRecDepth 16384

noncomputable section

namespace Cert.Kernel2Ideal.Ffn

open Cert.Kernel2Ideal Cert.Kernel2Ideal.Gen Cert.Decode Idealize.ShloMosaic Idealize.ShloMosaic.TcCoe Idealize.SL.Sem
open Idealize.ShloMosaic.Pipeline (Dat)

/-- What one step adds to the output block: the shares of its 256 hidden units. -/
def part (x : Vec Ideal S2048x1024 .bf16) (g u : Vec Ideal S1x1x1024x256 .f32) (d : Vec Ideal S1x1x256x1024 .f32)
    (r : Fin 2048) (l : Fin 1024) : EReal :=
  ∑ f : Fin 256, unit (fun k => x (ix2 r k)) (fun k => g (ix4 0 0 k f)) (fun k => u (ix4 0 0 k f)) (d (ix4 0 0 f l))

theorem pay5 (x : Vec Ideal S2048x1024 .bf16) (g u : Vec Ideal S1x1x1024x256 .f32) (a : Vec Ideal S1x2048x1024 .f32)
    (d : Vec Ideal S1x1x256x1024 .f32) (j : S1x2048x1024.Idx) :
    k0_pay5 x g u a d j = a j + part x g u d (j 1) (j 2) := by
  unfold part unit
  idx_vars j
  pointwise [k0_pay5]
  have : j0 = 0 := Subsingleton.elim _ _
  subst this
  rfl

theorem pay4 (j : S1x2048x1024.Idx) : k0_pay4 (F := Ideal) j = (0 : EReal) := by
  idx_vars j
  pointwise [k0_pay4]

/-- The unpacked rows of a block of words. -/
def rows (x : Vec Ideal S1x2048x512 .i32) (j : S2048x1024.Idx) : EReal :=
  unpack (fun l => x (ix3 0 (j 0) l)) (j 1)

theorem pay2 (x : Vec Ideal S1x2048x512 .i32) (j : S2048x512.Idx) :
    k0_pay2 (F := Ideal) x j = Ideal.ofBits .bf16 ((x (ix3 0 (j 0) (j 1)) : BitVec 32).extractLsb' 0 16) := by
  rw [← decode_lo]
  idx_vars j
  pointwise [k0_pay2, k0_pay1]

theorem pay3 (x : Vec Ideal S1x2048x512 .i32) (j : S2048x512.Idx) :
    k0_pay3 (F := Ideal) x j = Ideal.ofBits .bf16 ((x (ix3 0 (j 0) (j 1)) : BitVec 32).extractLsb' 16 16) := by
  rw [← decode_hi]
  idx_vars j
  pointwise [k0_pay3, k0_pay1]

/-- The two stores of a run's first step leave the unpacked rows. -/
theorem stored (x : Vec Ideal S1x2048x512 .i32) (j : S2048x1024.Idx) :
    View.canon (Val := Elt Ideal) (s := S2048x1024) (e := .bf16)
      [⟨Rect.unit ![0, 512] ![2048, 512] inb_S2048x1024_S2048x512_0_512, k0_pay3 x⟩,
        ⟨Rect.unit ![0, 0] ![2048, 512] inb_S2048x1024_S2048x512_0_0, k0_pay2 x⟩] j = rows x j := by
  have hj0 : (j 0).val < 2048 := (j 0).isLt
  have hj1 : (j 1).val < 1024 := (j 1).isLt
  unfold rows unpack
  canon_tiles z h
  · rw [pay3, dif_neg (by omega)]
    have e0 : (z 0 : Fin 2048) = j 0 := Fin.ext h0.symm
    have e1 : (z 1 : Fin 512) = ⟨(j 1).val - 512, by omega⟩ := Fin.ext (by show (z 1).val = (j 1).val - 512; omega)
    rw [e0, e1]
    rfl
  · rw [pay2, dif_pos (by omega)]
    have e0 : (z 0 : Fin 2048) = j 0 := Fin.ext h0.symm
    have e1 : (z 1 : Fin 512) = ⟨(j 1).val, by omega⟩ := Fin.ext h1.symm
    rw [e0, e1]
    rfl

variable (m : (ℓ : Loc nD τ sig) → Buf (Elt Ideal) ℓ)

/-- The scratch after step `t` holds the unpacked rows of its run's block of words. -/
theorem scratch_eq (c : Dev nD) (t : Fin cfg0.N) (j : S2048x1024.Idx) :
    (outsAt0 m c t.val t.isLt).2 j = rows (iblk m c 0 ⟨11 * (t.val / 11), Pipeline.run_start_lt t⟩) j := by
  refine Pipeline.eq_of_write_hold_apply (fun n h => (outsAt0 m c n h).2) 11 (fun t => rows (iblk m c 0 t)) (fun t h0 j => ?_)
    (fun t h0 j => ?_) t j
  · rw [outsAt0_A m c t h0]
    dsimp only
    frame_out
    exact stored _ j
  · rw [outsAt0_B m c t h0]
    rfl

/-- The blocks' places, decided over the grid: expert, row block and hidden block of each step. -/
theorem idx : ∀ t : Fin cfg0.N, win0_0.index t = ![t.val / 44, t.val / 11 % 4, 0] ∧ win0_1.index t = ![0, t.val / 44, 0, t.val % 11]
   ∧ win0_2.index t = ![0, t.val / 44, 0, t.val % 11] ∧ win0_3.index t = ![0, t.val / 44, t.val % 11, 0]
   ∧ win0_4.index t = ![t.val / 44, t.val / 11 % 4, 0] := by decide +kernel

/-- Two steps of one run read one block of words. -/
theorem words_held (c : Dev nD) (s t : Fin cfg0.N) (h : s.val / 11 = t.val / 11) : iblk m c 0 s = iblk m c 0 t := by
  funext y
  have h4 : s.val / 44 = t.val / 44 := by omega
  blk_ext [iblk, V, idx s, idx t]

/-- After a run's last step its block is the sum of its 11 steps' shares. -/
theorem block_eq (c : Dev nD) (t : Fin cfg0.N) (hf : (cfg0.win 4).flush t = true) (j : S1x2048x1024.Idx) :
    (outsAt0 m c t.val t.isLt).1 j
      = ∑ s : Fin 11, part (rows (iblk m c 0 ⟨11 * (t.val / 11) + s.val, Pipeline.run_point_lt_of_flush t ((flush0_4 t).mp hf) s⟩))
          (iblk m c 1 ⟨11 * (t.val / 11) + s.val, Pipeline.run_point_lt_of_flush t ((flush0_4 t).mp hf) s⟩)
          (iblk m c 2 ⟨11 * (t.val / 11) + s.val, Pipeline.run_point_lt_of_flush t ((flush0_4 t).mp hf) s⟩)
          (iblk m c 3 ⟨11 * (t.val / 11) + s.val, Pipeline.run_point_lt_of_flush t ((flush0_4 t).mp hf) s⟩) (j 1) (j 2) := by
  have key := Pipeline.eq_sum_fin_of_reset_step_apply_of_flush (fun n h => (outsAt0 m c n h).1) 11 (fun _ => (0 : EReal))
    (fun t j => part (rows (iblk m c 0 t)) (iblk m c 1 t) (iblk m c 2 t) (iblk m c 3 t) (j 1) (j 2))
    (fun t h0 j => ?_) (fun t h0 j => ?_) t ((flush0_4 t).mp hf) j
  · rw [key, zero_add]
  · rw [outsAt0_A m c t h0]
    frame_out
    rw [pay5, pay4]
    congr 2
    rw [View.readCov_eq_canon']
    funext i
    have hi : (Rect.unit ![0, 0] ![2048, 1024] inb_S2048x1024_S2048x1024_0_0).idx i = i := by
      funext a; fin_cases a <;> apply Fin.ext <;> simp [LoadRect.idx, Rect.unit]
    exact (congrArg _ hi).trans (stored _ i)
  · rw [outsAt0_B m c t h0]
    frame_out
    simp only [read_unread_whole]
    rw [pay5]
    congr 2
    funext i
    rw [scratch_eq m c ⟨t.val - 1, Nat.lt_of_le_of_lt (Nat.sub_le _ _) t.isLt⟩ i]
    refine congrArg (fun x => rows x i) (words_held m c _ t ?_)
    show 11 * ((t.val - 1) / 11) / 11 = t.val / 11
    omega

/-- The layer at an index of the result, from the arrays the kernel is given. -/
def layer (x0 : S16x8192x512.Idx → BitVec 32) (x1 x2 : S2x16x1024x2816.Idx → EReal) (x3 : S2x16x2816x1024.Idx → EReal)
    (e : Fin 16) (r : Fin 8192) (d : Fin 1024) : EReal :=
  ∑ f : Fin 2816, unit (unpack fun l => x0 (ix3 e r l)) (fun k => x1 (ix4 0 e k f)) (fun k => x2 (ix4 0 e k f)) (x3 (ix4 0 e f d))

set_option maxHeartbeats 1000000 in
/-- The result array after the kernel's last step, an index at a time. -/
theorem final (c : Dev nD) : (dats m 0 c).arrAt 4 cfg0.N = fun i : S16x8192x1024.Idx =>
    layer (m ((c : Thread nD τ).loc main_arg0)) (m ((c : Thread nD τ).loc main_arg1)) (m ((c : Thread nD τ).loc main_arg2))
      (m ((c : Thread nD τ).loc main_arg3)) (i 0) (i 1) (i 2) := by
  refine (dats m 0 c).arrAt_eq_of_covers 4 _ (by decide +kernel) fun t hf y => ?_
  blk_simp
  rw [after0_4]
  refine (block_eq m c t hf y).trans ?_
  unfold layer part
  refine Fin.sum_mul_add_congr fun s f hl => ?_
  have hs := s.isLt
  have h10 := (flush0_4 t).mp hf
  have ht := t.isLt
  have e44 : (11 * (t.val / 11) + s.val) / 44 = t.val / 44 := by omega
  have e11 : (11 * (t.val / 11) + s.val) / 11 = t.val / 11 := by omega
  have em : (11 * (t.val / 11) + s.val) % 11 = s.val := by omega
  have idx' := idx ⟨11 * (t.val / 11) + s.val, Pipeline.run_point_lt_of_flush t ((flush0_4 t).mp hf) s⟩
  simp only [e44, e11, em] at idx'
  refine unit_congr (fun k => ?_) (fun k => ?_) (fun k => ?_) ?_
  · refine unpack_congr (fun l => ?_) k
    blk_ext [iblk, V, idx', idx t]
  · blk_ext [iblk, V, idx', idx t]
  · blk_ext [iblk, V, idx', idx t]
  · blk_ext [iblk, V, idx', idx t]

end Cert.Kernel2Ideal.Ffn

end
-- ==== Proof.FfnRef.lean ====
module

public import proofs.«01_k».proof.Proof.Gen.Reference2Ideal.Read
public import proofs.«01_k».proof.Proof.Decode
public import Idealize.ShloMosaic.Lib.Tactic
public import Idealize.ShloMosaic.Lib.BitcastConvert
public import Idealize.ShloMosaic.Lib.Pointwise

@[expose] public section

set_option maxRecDepth 16384

noncomputable section

namespace Cert.Reference2Ideal.Ffn

open Cert.Reference2Ideal Cert.Reference2Ideal.Gen Cert.Reference2Ideal.Read Cert.Decode
open Idealize.ShloMosaic Idealize.ShloMosaic.TcCoe Idealize.SL.Sem

/-- The reference's unpacked rows. -/
theorem unpacked (x0 : S16x8192x512.Idx → BitVec 32) (e : Fin 16) (r : Fin 8192) (k : Fin 1024) :
    val_main_v3 (F := Ideal) x0 (ix3 e r k) = unpack (fun l => x0 (ix3 e r l)) k := by
  unfold unpack
  pointwise [val_main_v3, val_main_v2, val_main_v1, val_main_v0]
  have hk := k.isLt
  have hd : ∀ (a : Fin 512) (b : Fin 2), splits_S16x8192x512_w32_S16x8192x512x2_w16.drop (ix4 e r a b) = ix3 e r a := by
    intro a b; funext i; fin_cases i <;> rfl
  rw [hd]
  split_ifs with h
  · have e1 : k.val / 512 = 0 := by omega
    have e2 : k.val % 512 = k.val := by omega
    simp only [e1, e2, Nat.zero_mul]
  · have e1 : k.val / 512 = 1 := by omega
    have e2 : k.val % 512 = k.val - 512 := by omega
    simp only [e1, e2, Nat.one_mul]

theorem gateW (x1 : S2x16x1024x2816.Idx → EReal) (e : Fin 16) (k : Fin 1024) (f : Fin 2816) :
    val_main_v5 (F := Ideal) x1 (ix3 e k f) = x1 (ix4 0 e k f) := by
  rw [val_main_v5_apply, val_main_v4_apply]
  congr 1
  have := e.isLt; have := k.isLt; have := f.isLt
  funext a
  fin_cases a <;> apply Fin.ext
  · rfl
  · show ((e.val * 1024 + k.val) * 2816 + f.val) / 2883584 % 16 = e.val; omega
  · show ((e.val * 1024 + k.val) * 2816 + f.val) / 2816 % 1024 = k.val; omega
  · show ((e.val * 1024 + k.val) * 2816 + f.val) % 2816 = f.val; omega

theorem upW (x2 : S2x16x1024x2816.Idx → EReal) (e : Fin 16) (k : Fin 1024) (f : Fin 2816) :
    val_main_v8 (F := Ideal) x2 (ix3 e k f) = x2 (ix4 0 e k f) := by
  rw [val_main_v8_apply, val_main_v7_apply]
  congr 1
  have := e.isLt; have := k.isLt; have := f.isLt
  funext a
  fin_cases a <;> apply Fin.ext
  · rfl
  · show ((e.val * 1024 + k.val) * 2816 + f.val) / 2883584 % 16 = e.val; omega
  · show ((e.val * 1024 + k.val) * 2816 + f.val) / 2816 % 1024 = k.val; omega
  · show ((e.val * 1024 + k.val) * 2816 + f.val) % 2816 = f.val; omega

theorem downW (x3 : S2x16x2816x1024.Idx → EReal) (e : Fin 16) (k : Fin 2816) (f : Fin 1024) :
    val_main_v13 (F := Ideal) x3 (ix3 e k f) = x3 (ix4 0 e k f) := by
  rw [val_main_v13_apply, val_main_v12_apply]
  congr 1
  have := e.isLt; have := k.isLt; have := f.isLt
  funext a
  fin_cases a <;> apply Fin.ext
  · rfl
  · show ((e.val * 2816 + k.val) * 1024 + f.val) / 2883584 % 16 = e.val; omega
  · show ((e.val * 2816 + k.val) * 1024 + f.val) / 1024 % 2816 = k.val; omega
  · show ((e.val * 2816 + k.val) * 1024 + f.val) % 1024 = f.val; omega

theorem gate (x0 : S16x8192x512.Idx → BitVec 32) (x1 : S2x16x1024x2816.Idx → EReal) (e : Fin 16) (r : Fin 8192) (f : Fin 2816) :
    val_main_v6 (F := Ideal) x0 x1 (ix3 e r f) = ∑ k : Fin 1024, unpack (fun l => x0 (ix3 e r l)) k * x1 (ix4 0 e k f) := by
  rw [val_main_v6_apply]
  refine Finset.sum_congr rfl fun k _ => ?_
  have h1 : lidx_main_v6 (ix3 e r f) k = ix3 e r k := by funext a; fin_cases a <;> rfl
  have h2 : ridx_main_v6 (ix3 e r f) k = ix3 e k f := by funext a; fin_cases a <;> rfl
  rw [h1, h2, unpacked, gateW]

theorem up (x0 : S16x8192x512.Idx → BitVec 32) (x1 : S2x16x1024x2816.Idx → EReal) (e : Fin 16) (r : Fin 8192) (f : Fin 2816) :
    val_main_v9 (F := Ideal) x0 x1 (ix3 e r f) = ∑ k : Fin 1024, unpack (fun l => x0 (ix3 e r l)) k * x1 (ix4 0 e k f) := by
  rw [val_main_v9_apply]
  refine Finset.sum_congr rfl fun k _ => ?_
  have h1 : lidx_main_v9 (ix3 e r f) k = ix3 e r k := by funext a; fin_cases a <;> rfl
  have h2 : ridx_main_v9 (ix3 e r f) k = ix3 e k f := by funext a; fin_cases a <;> rfl
  rw [h1, h2, unpacked, upW]

/-- The reference's result at an index: the sum of the hidden units' shares. -/
theorem ref_apply (x0 : S16x8192x512.Idx → BitVec 32) (x1 x2 : S2x16x1024x2816.Idx → EReal) (x3 : S2x16x2816x1024.Idx → EReal)
    (e : Fin 16) (r : Fin 8192) (d : Fin 1024) :
    val_main_v14 (F := Ideal) x0 x1 x2 x3 (ix3 e r d)
      = ∑ f : Fin 2816, unit (unpack fun l => x0 (ix3 e r l)) (fun k => x1 (ix4 0 e k f)) (fun k => x2 (ix4 0 e k f)) (x3 (ix4 0 e f d)) := by
  rw [val_main_v14_apply]
  refine Finset.sum_congr rfl fun f _ => ?_
  have h1 : lidx_main_v14 (ix3 e r d) f = ix3 e r f := by funext a; fin_cases a <;> rfl
  have h2 : ridx_main_v14 (ix3 e r d) f = ix3 e f d := by funext a; fin_cases a <;> rfl
  rw [h1, h2, downW, val_main_v11_apply, val_main_v10_apply, val_main_call0_v5_apply, val_main_call0_v3_apply,
    val_main_call0_v4_apply, val_main_call0_v2_apply, val_main_call0_v1_apply, val_main_call0_v0_apply,
    val_main_call0_cst_apply, val_main_call0_cst_0_apply, gate, up]
  unfold unit Ideal.logistic
  have one : (FloatOps.ofBits (F := Ideal) .f32 0x3F800000#32 : EReal) = 1 := Ideal.ofBits_one_f32
  rw [one]
  rfl

end Cert.Reference2Ideal.Ffn

end
-- ==== Proof.FfnClaim.lean ====
/-
  The feed-forward kernel against its reference. `FfnBlock.lean` gives the kernel's result array as a sum of the hidden
  units' shares, `FfnRef.lean` gives the reference's result as the same sum.
-/
module

public import proofs.«01_k».proof.Defs
public import proofs.«01_k».proof.Proof.FfnBlock
public import proofs.«01_k».proof.Proof.FfnRef
public import proofs.«01_k».proof.Proof.Gen.Kernel2Ideal.Value
public import proofs.«01_k».proof.Proof.Gen.Reference2Ideal.Read

@[expose] public section

set_option maxRecDepth 16384

noncomputable section

namespace Cert.FfnClaim

open Idealize.ShloMosaic Idealize.ShloMosaic.TcCoe Idealize.SL.Sem

/-- The reference's whole result is the layer the kernel leaves. -/
theorem ref_eq (x0 : Cert.Kernel2Ideal.S16x8192x512.Idx → BitVec 32) (x1 x2 : Cert.Kernel2Ideal.S2x16x1024x2816.Idx → EReal)
    (x3 : Cert.Kernel2Ideal.S2x16x2816x1024.Idx → EReal) :
    Cert.Reference2Ideal.Read.val_main_v14 (F := Ideal) x0 x1 x2 x3
      = fun i : Cert.Kernel2Ideal.S16x8192x1024.Idx => Cert.Kernel2Ideal.Ffn.layer x0 x1 x2 x3 (i 0) (i 1) (i 2) := by
  funext i
  have hi : i = ix3 (i 0 : Fin 16) (i 1 : Fin 8192) (i 2 : Fin 1024) := by funext a; fin_cases a <;> rfl
  rw [hi]
  exact Cert.Reference2Ideal.Ffn.ref_apply x0 x1 x2 x3 _ _ _

/-- From memories that agree on the arguments, kernel and reference end with one result. -/
theorem algebraic : Cert.algebraic_Kernel2Ideal_Reference2Ideal := by
  intro m g m' g' _ hag
  refine ⟨fun c => fun i : Cert.Kernel2Ideal.S16x8192x1024.Idx => Cert.Kernel2Ideal.Ffn.layer
      (m ((c : Thread Cert.Kernel2Ideal.nD Cert.Kernel2Ideal.τ).loc Cert.Kernel2Ideal.main_arg0))
      (m ((c : Thread Cert.Kernel2Ideal.nD Cert.Kernel2Ideal.τ).loc Cert.Kernel2Ideal.main_arg1))
      (m ((c : Thread Cert.Kernel2Ideal.nD Cert.Kernel2Ideal.τ).loc Cert.Kernel2Ideal.main_arg2))
      (m ((c : Thread Cert.Kernel2Ideal.nD Cert.Kernel2Ideal.τ).loc Cert.Kernel2Ideal.main_arg3)) (i 0) (i 1) (i 2), ?_, ?_⟩
  · refine (θ_run _ _ _).mono (fun r h c => ?_) (Cert.Kernel2Ideal.Gen.run_main m g)
    exact ⟨(Cert.Kernel2Ideal.Value.post4 m r h c).trans (Cert.Kernel2Ideal.Ffn.final m c),
      Cert.Kernel2Ideal.Value.kept_main_arg0 m r h c, Cert.Kernel2Ideal.Value.kept_main_arg1 m r h c,
      Cert.Kernel2Ideal.Value.kept_main_arg2 m r h c, Cert.Kernel2Ideal.Value.kept_main_arg3 m r h c⟩
  · refine (θ_run _ _ _).mono (fun r h c => ⟨(h c).1.trans ?_, (h c).2⟩) (Cert.Reference2Ideal.Value.run m' g')
    obtain ⟨a0, a1, a2, a3⟩ := hag c
    rw [Cert.Reference2Ideal.Read.val_main_v14_eq, a0, a1, a2, a3]
    exact ref_eq _ _ _ _

end Cert.FfnClaim

end
-- ==== Proof.Ffn1Block.lean ====
module

public import proofs.«01_k».proof.Proof.Gen.Kernel3Ideal.Value
public import proofs.«01_k».proof.Proof.Decode
public import Idealize.ShloMosaic.Lib.Tactic
public import Idealize.ShloMosaic.Lib.Pipeline.ValueKit
public import Idealize.ShloMosaic.Lib.Pipeline.ValueKit.Held
public import Idealize.ShloMosaic.Lib.Pipeline.ReadBack
public import Idealize.ShloMosaic.Lib.Pipeline.Covers
public import Idealize.ShloMosaic.Lib.Pointwise

@[expose] public section

set_option maxRecDepth 16384

noncomputable section

namespace Cert.Kernel3Ideal.Ffn

open Cert.Kernel3Ideal Cert.Kernel3Ideal.Gen Cert.Decode Idealize.ShloMosaic Idealize.ShloMosaic.TcCoe Idealize.SL.Sem
open Idealize.ShloMosaic.Pipeline (Dat)

/-- What one step adds to the output block: the shares of its 256 hidden units. -/
def part (x : Vec Ideal S2048x1024 .bf16) (g u : Vec Ideal S1x1x1024x256 .f32) (d : Vec Ideal S1x1x256x1024 .f32)
    (r : Fin 2048) (l : Fin 1024) : EReal :=
  ∑ f : Fin 256, unit (fun k => x (ix2 r k)) (fun k => g (ix4 0 0 k f)) (fun k => u (ix4 0 0 k f)) (d (ix4 0 0 f l))

theorem pay5 (x : Vec Ideal S2048x1024 .bf16) (g u : Vec Ideal S1x1x1024x256 .f32) (a : Vec Ideal S1x2048x1024 .f32)
    (d : Vec Ideal S1x1x256x1024 .f32) (j : S1x2048x1024.Idx) :
    k0_pay5 x g u a d j = a j + part x g u d (j 1) (j 2) := by
  unfold part unit
  idx_vars j
  pointwise [k0_pay5]
  have : j0 = 0 := Subsingleton.elim _ _
  subst this
  rfl

theorem pay4 (j : S1x2048x1024.Idx) : k0_pay4 (F := Ideal) j = (0 : EReal) := by
  idx_vars j
  pointwise [k0_pay4]

/-- The unpacked rows of a block of words. -/
def rows (x : Vec Ideal S1x2048x512 .i32) (j : S2048x1024.Idx) : EReal :=
  unpack (fun l => x (ix3 0 (j 0) l)) (j 1)

theorem pay2 (x : Vec Ideal S1x2048x512 .i32) (j : S2048x512.Idx) :
    k0_pay2 (F := Ideal) x j = Ideal.ofBits .bf16 ((x (ix3 0 (j 0) (j 1)) : BitVec 32).extractLsb' 0 16) := by
  rw [← decode_lo]
  idx_vars j
  pointwise [k0_pay2, k0_pay1]

theorem pay3 (x : Vec Ideal S1x2048x512 .i32) (j : S2048x512.Idx) :
    k0_pay3 (F := Ideal) x j = Ideal.ofBits .bf16 ((x (ix3 0 (j 0) (j 1)) : BitVec 32).extractLsb' 16 16) := by
  rw [← decode_hi]
  idx_vars j
  pointwise [k0_pay3, k0_pay1]

/-- The two stores of a run's first step leave the unpacked rows. -/
theorem stored (x : Vec Ideal S1x2048x512 .i32) (j : S2048x1024.Idx) :
    View.canon (Val := Elt Ideal) (s := S2048x1024) (e := .bf16)
      [⟨Rect.unit ![0, 512] ![2048, 512] inb_S2048x1024_S2048x512_0_512, k0_pay3 x⟩,
        ⟨Rect.unit ![0, 0] ![2048, 512] inb_S2048x1024_S2048x512_0_0, k0_pay2 x⟩] j = rows x j := by
  have hj0 : (j 0).val < 2048 := (j 0).isLt
  have hj1 : (j 1).val < 1024 := (j 1).isLt
  unfold rows unpack
  canon_tiles z h
  · rw [pay3, dif_neg (by omega)]
    have e0 : (z 0 : Fin 2048) = j 0 := Fin.ext h0.symm
    have e1 : (z 1 : Fin 512) = ⟨(j 1).val - 512, by omega⟩ := Fin.ext (by show (z 1).val = (j 1).val - 512; omega)
    rw [e0, e1]
    rfl
  · rw [pay2, dif_pos (by omega)]
    have e0 : (z 0 : Fin 2048) = j 0 := Fin.ext h0.symm
    have e1 : (z 1 : Fin 512) = ⟨(j 1).val, by omega⟩ := Fin.ext h1.symm
    rw [e0, e1]
    rfl

variable (m : (ℓ : Loc nD τ sig) → Buf (Elt Ideal) ℓ)

/-- The scratch after step `t` holds the unpacked rows of its run's block of words. -/
theorem scratch_eq (c : Dev nD) (t : Fin cfg0.N) (j : S2048x1024.Idx) :
    (outsAt0 m c t.val t.isLt).2 j = rows (iblk m c 0 ⟨11 * (t.val / 11), Pipeline.run_start_lt t⟩) j := by
  refine Pipeline.eq_of_write_hold_apply (fun n h => (outsAt0 m c n h).2) 11 (fun t => rows (iblk m c 0 t)) (fun t h0 j => ?_)
    (fun t h0 j => ?_) t j
  · rw [outsAt0_A m c t h0]
    dsimp only
    frame_out
    exact stored _ j
  · rw [outsAt0_B m c t h0]
    rfl

/-- The blocks' places, decided over the grid: expert, row block and hidden block of each step. -/
theorem idx : ∀ t : Fin cfg0.N, win0_0.index t = ![t.val / 44, t.val / 11 % 4, 0] ∧ win0_1.index t = ![1, t.val / 44, 0, t.val % 11]
   ∧ win0_2.index t = ![1, t.val / 44, 0, t.val % 11] ∧ win0_3.index t = ![1, t.val / 44, t.val % 11, 0]
   ∧ win0_4.index t = ![t.val / 44, t.val / 11 % 4, 0] := by decide +kernel

/-- Two steps of one run read one block of words. -/
theorem words_held (c : Dev nD) (s t : Fin cfg0.N) (h : s.val / 11 = t.val / 11) : iblk m c 0 s = iblk m c 0 t := by
  funext y
  have h4 : s.val / 44 = t.val / 44 := by omega
  blk_ext [iblk, V, idx s, idx t]

/-- After a run's last step its block is the sum of its 11 steps' shares. -/
theorem block_eq (c : Dev nD) (t : Fin cfg0.N) (hf : (cfg0.win 4).flush t = true) (j : S1x2048x1024.Idx) :
    (outsAt0 m c t.val t.isLt).1 j
      = ∑ s : Fin 11, part (rows (iblk m c 0 ⟨11 * (t.val / 11) + s.val, Pipeline.run_point_lt_of_flush t ((flush0_4 t).mp hf) s⟩))
          (iblk m c 1 ⟨11 * (t.val / 11) + s.val, Pipeline.run_point_lt_of_flush t ((flush0_4 t).mp hf) s⟩)
          (iblk m c 2 ⟨11 * (t.val / 11) + s.val, Pipeline.run_point_lt_of_flush t ((flush0_4 t).mp hf) s⟩)
          (iblk m c 3 ⟨11 * (t.val / 11) + s.val, Pipeline.run_point_lt_of_flush t ((flush0_4 t).mp hf) s⟩) (j 1) (j 2) := by
  have key := Pipeline.eq_sum_fin_of_reset_step_apply_of_flush (fun n h => (outsAt0 m c n h).1) 11 (fun _ => (0 : EReal))
    (fun t j => part (rows (iblk m c 0 t)) (iblk m c 1 t) (iblk m c 2 t) (iblk m c 3 t) (j 1) (j 2))
    (fun t h0 j => ?_) (fun t h0 j => ?_) t ((flush0_4 t).mp hf) j
  · rw [key, zero_add]
  · rw [outsAt0_A m c t h0]
    frame_out
    rw [pay5, pay4]
    congr 2
    rw [View.readCov_eq_canon']
    funext i
    have hi : (Rect.unit ![0, 0] ![2048, 1024] inb_S2048x1024_S2048x1024_0_0).idx i = i := by
      funext a; fin_cases a <;> apply Fin.ext <;> simp [LoadRect.idx, Rect.unit]
    exact (congrArg _ hi).trans (stored _ i)
  · rw [outsAt0_B m c t h0]
    frame_out
    simp only [read_unread_whole]
    rw [pay5]
    congr 2
    funext i
    rw [scratch_eq m c ⟨t.val - 1, Nat.lt_of_le_of_lt (Nat.sub_le _ _) t.isLt⟩ i]
    refine congrArg (fun x => rows x i) (words_held m c _ t ?_)
    show 11 * ((t.val - 1) / 11) / 11 = t.val / 11
    omega

/-- The layer at an index of the result, from the arrays the kernel is given. -/
def layer (x0 : S16x8192x512.Idx → BitVec 32) (x1 x2 : S2x16x1024x2816.Idx → EReal) (x3 : S2x16x2816x1024.Idx → EReal)
    (e : Fin 16) (r : Fin 8192) (d : Fin 1024) : EReal :=
  ∑ f : Fin 2816, unit (unpack fun l => x0 (ix3 e r l)) (fun k => x1 (ix4 1 e k f)) (fun k => x2 (ix4 1 e k f)) (x3 (ix4 1 e f d))

set_option maxHeartbeats 1000000 in
/-- The result array after the kernel's last step, an index at a time. -/
theorem final (c : Dev nD) : (dats m 0 c).arrAt 4 cfg0.N = fun i : S16x8192x1024.Idx =>
    layer (m ((c : Thread nD τ).loc main_arg0)) (m ((c : Thread nD τ).loc main_arg1)) (m ((c : Thread nD τ).loc main_arg2))
      (m ((c : Thread nD τ).loc main_arg3)) (i 0) (i 1) (i 2) := by
  refine (dats m 0 c).arrAt_eq_of_covers 4 _ (by decide +kernel) fun t hf y => ?_
  blk_simp
  rw [after0_4]
  refine (block_eq m c t hf y).trans ?_
  unfold layer part
  refine Fin.sum_mul_add_congr fun s f hl => ?_
  have hs := s.isLt
  have h10 := (flush0_4 t).mp hf
  have ht := t.isLt
  have e44 : (11 * (t.val / 11) + s.val) / 44 = t.val / 44 := by omega
  have e11 : (11 * (t.val / 11) + s.val) / 11 = t.val / 11 := by omega
  have em : (11 * (t.val / 11) + s.val) % 11 = s.val := by omega
  have idx' := idx ⟨11 * (t.val / 11) + s.val, Pipeline.run_point_lt_of_flush t ((flush0_4 t).mp hf) s⟩
  simp only [e44, e11, em] at idx'
  refine unit_congr (fun k => ?_) (fun k => ?_) (fun k => ?_) ?_
  · refine unpack_congr (fun l => ?_) k
    blk_ext [iblk, V, idx', idx t]
  · blk_ext [iblk, V, idx', idx t]
  · blk_ext [iblk, V, idx', idx t]
  · blk_ext [iblk, V, idx', idx t]

end Cert.Kernel3Ideal.Ffn

end
-- ==== Proof.Ffn1Ref.lean ====
module

public import proofs.«01_k».proof.Proof.Gen.Reference3Ideal.Read
public import proofs.«01_k».proof.Proof.Decode
public import Idealize.ShloMosaic.Lib.Tactic
public import Idealize.ShloMosaic.Lib.BitcastConvert
public import Idealize.ShloMosaic.Lib.Pointwise

@[expose] public section

set_option maxRecDepth 16384

noncomputable section

namespace Cert.Reference3Ideal.Ffn

open Cert.Reference3Ideal Cert.Reference3Ideal.Gen Cert.Reference3Ideal.Read Cert.Decode
open Idealize.ShloMosaic Idealize.ShloMosaic.TcCoe Idealize.SL.Sem

/-- The reference's unpacked rows. -/
theorem unpacked (x0 : S16x8192x512.Idx → BitVec 32) (e : Fin 16) (r : Fin 8192) (k : Fin 1024) :
    val_main_v3 (F := Ideal) x0 (ix3 e r k) = unpack (fun l => x0 (ix3 e r l)) k := by
  unfold unpack
  pointwise [val_main_v3, val_main_v2, val_main_v1, val_main_v0]
  have hk := k.isLt
  have hd : ∀ (a : Fin 512) (b : Fin 2), splits_S16x8192x512_w32_S16x8192x512x2_w16.drop (ix4 e r a b) = ix3 e r a := by
    intro a b; funext i; fin_cases i <;> rfl
  rw [hd]
  split_ifs with h
  · have e1 : k.val / 512 = 0 := by omega
    have e2 : k.val % 512 = k.val := by omega
    simp only [e1, e2, Nat.zero_mul]
  · have e1 : k.val / 512 = 1 := by omega
    have e2 : k.val % 512 = k.val - 512 := by omega
    simp only [e1, e2, Nat.one_mul]

theorem gateW (x1 : S2x16x1024x2816.Idx → EReal) (e : Fin 16) (k : Fin 1024) (f : Fin 2816) :
    val_main_v5 (F := Ideal) x1 (ix3 e k f) = x1 (ix4 1 e k f) := by
  rw [val_main_v5_apply, val_main_v4_apply]
  congr 1
  have := e.isLt; have := k.isLt; have := f.isLt
  funext a
  fin_cases a <;> apply Fin.ext
  · rfl
  · show ((e.val * 1024 + k.val) * 2816 + f.val) / 2883584 % 16 = e.val; omega
  · show ((e.val * 1024 + k.val) * 2816 + f.val) / 2816 % 1024 = k.val; omega
  · show ((e.val * 1024 + k.val) * 2816 + f.val) % 2816 = f.val; omega

theorem upW (x2 : S2x16x1024x2816.Idx → EReal) (e : Fin 16) (k : Fin 1024) (f : Fin 2816) :
    val_main_v8 (F := Ideal) x2 (ix3 e k f) = x2 (ix4 1 e k f) := by
  rw [val_main_v8_apply, val_main_v7_apply]
  congr 1
  have := e.isLt; have := k.isLt; have := f.isLt
  funext a
  fin_cases a <;> apply Fin.ext
  · rfl
  · show ((e.val * 1024 + k.val) * 2816 + f.val) / 2883584 % 16 = e.val; omega
  · show ((e.val * 1024 + k.val) * 2816 + f.val) / 2816 % 1024 = k.val; omega
  · show ((e.val * 1024 + k.val) * 2816 + f.val) % 2816 = f.val; omega

theorem downW (x3 : S2x16x2816x1024.Idx → EReal) (e : Fin 16) (k : Fin 2816) (f : Fin 1024) :
    val_main_v13 (F := Ideal) x3 (ix3 e k f) = x3 (ix4 1 e k f) := by
  rw [val_main_v13_apply, val_main_v12_apply]
  congr 1
  have := e.isLt; have := k.isLt; have := f.isLt
  funext a
  fin_cases a <;> apply Fin.ext
  · rfl
  · show ((e.val * 2816 + k.val) * 1024 + f.val) / 2883584 % 16 = e.val; omega
  · show ((e.val * 2816 + k.val) * 1024 + f.val) / 1024 % 2816 = k.val; omega
  · show ((e.val * 2816 + k.val) * 1024 + f.val) % 1024 = f.val; omega

theorem gate (x0 : S16x8192x512.Idx → BitVec 32) (x1 : S2x16x1024x2816.Idx → EReal) (e : Fin 16) (r : Fin 8192) (f : Fin 2816) :
    val_main_v6 (F := Ideal) x0 x1 (ix3 e r f) = ∑ k : Fin 1024, unpack (fun l => x0 (ix3 e r l)) k * x1 (ix4 1 e k f) := by
  rw [val_main_v6_apply]
  refine Finset.sum_congr rfl fun k _ => ?_
  have h1 : lidx_main_v6 (ix3 e r f) k = ix3 e r k := by funext a; fin_cases a <;> rfl
  have h2 : ridx_main_v6 (ix3 e r f) k = ix3 e k f := by funext a; fin_cases a <;> rfl
  rw [h1, h2, unpacked, gateW]

theorem up (x0 : S16x8192x512.Idx → BitVec 32) (x1 : S2x16x1024x2816.Idx → EReal) (e : Fin 16) (r : Fin 8192) (f : Fin 2816) :
    val_main_v9 (F := Ideal) x0 x1 (ix3 e r f) = ∑ k : Fin 1024, unpack (fun l => x0 (ix3 e r l)) k * x1 (ix4 1 e k f) := by
  rw [val_main_v9_apply]
  refine Finset.sum_congr rfl fun k _ => ?_
  have h1 : lidx_main_v9 (ix3 e r f) k = ix3 e r k := by funext a; fin_cases a <;> rfl
  have h2 : ridx_main_v9 (ix3 e r f) k = ix3 e k f := by funext a; fin_cases a <;> rfl
  rw [h1, h2, unpacked, upW]

/-- The reference's result at an index: the sum of the hidden units' shares. -/
theorem ref_apply (x0 : S16x8192x512.Idx → BitVec 32) (x1 x2 : S2x16x1024x2816.Idx → EReal) (x3 : S2x16x2816x1024.Idx → EReal)
    (e : Fin 16) (r : Fin 8192) (d : Fin 1024) :
    val_main_v14 (F := Ideal) x0 x1 x2 x3 (ix3 e r d)
      = ∑ f : Fin 2816, unit (unpack fun l => x0 (ix3 e r l)) (fun k => x1 (ix4 1 e k f)) (fun k => x2 (ix4 1 e k f)) (x3 (ix4 1 e f d)) := by
  rw [val_main_v14_apply]
  refine Finset.sum_congr rfl fun f _ => ?_
  have h1 : lidx_main_v14 (ix3 e r d) f = ix3 e r f := by funext a; fin_cases a <;> rfl
  have h2 : ridx_main_v14 (ix3 e r d) f = ix3 e f d := by funext a; fin_cases a <;> rfl
  rw [h1, h2, downW, val_main_v11_apply, val_main_v10_apply, val_main_call0_v5_apply, val_main_call0_v3_apply,
    val_main_call0_v4_apply, val_main_call0_v2_apply, val_main_call0_v1_apply, val_main_call0_v0_apply,
    val_main_call0_cst_apply, val_main_call0_cst_0_apply, gate, up]
  unfold unit Ideal.logistic
  have one : (FloatOps.ofBits (F := Ideal) .f32 0x3F800000#32 : EReal) = 1 := Ideal.ofBits_one_f32
  rw [one]
  rfl

end Cert.Reference3Ideal.Ffn

end
-- ==== Proof.Ffn1Claim.lean ====
/-
  The feed-forward kernel against its reference. `Ffn1Block.lean` gives the kernel's result array as a sum of the hidden
  units' shares, `Ffn1Ref.lean` gives the reference's result as the same sum.
-/
module

public import proofs.«01_k».proof.Defs
public import proofs.«01_k».proof.Proof.Ffn1Block
public import proofs.«01_k».proof.Proof.Ffn1Ref
public import proofs.«01_k».proof.Proof.Gen.Kernel3Ideal.Value
public import proofs.«01_k».proof.Proof.Gen.Reference3Ideal.Read

@[expose] public section

set_option maxRecDepth 16384

noncomputable section

namespace Cert.Ffn1Claim

open Idealize.ShloMosaic Idealize.ShloMosaic.TcCoe Idealize.SL.Sem

/-- The reference's whole result is the layer the kernel leaves. -/
theorem ref_eq (x0 : Cert.Kernel3Ideal.S16x8192x512.Idx → BitVec 32) (x1 x2 : Cert.Kernel3Ideal.S2x16x1024x2816.Idx → EReal)
    (x3 : Cert.Kernel3Ideal.S2x16x2816x1024.Idx → EReal) :
    Cert.Reference3Ideal.Read.val_main_v14 (F := Ideal) x0 x1 x2 x3
      = fun i : Cert.Kernel3Ideal.S16x8192x1024.Idx => Cert.Kernel3Ideal.Ffn.layer x0 x1 x2 x3 (i 0) (i 1) (i 2) := by
  funext i
  have hi : i = ix3 (i 0 : Fin 16) (i 1 : Fin 8192) (i 2 : Fin 1024) := by funext a; fin_cases a <;> rfl
  rw [hi]
  exact Cert.Reference3Ideal.Ffn.ref_apply x0 x1 x2 x3 _ _ _

/-- From memories that agree on the arguments, kernel and reference end with one result. -/
theorem algebraic : Cert.algebraic_Kernel3Ideal_Reference3Ideal := by
  intro m g m' g' _ hag
  refine ⟨fun c => fun i : Cert.Kernel3Ideal.S16x8192x1024.Idx => Cert.Kernel3Ideal.Ffn.layer
      (m ((c : Thread Cert.Kernel3Ideal.nD Cert.Kernel3Ideal.τ).loc Cert.Kernel3Ideal.main_arg0))
      (m ((c : Thread Cert.Kernel3Ideal.nD Cert.Kernel3Ideal.τ).loc Cert.Kernel3Ideal.main_arg1))
      (m ((c : Thread Cert.Kernel3Ideal.nD Cert.Kernel3Ideal.τ).loc Cert.Kernel3Ideal.main_arg2))
      (m ((c : Thread Cert.Kernel3Ideal.nD Cert.Kernel3Ideal.τ).loc Cert.Kernel3Ideal.main_arg3)) (i 0) (i 1) (i 2), ?_, ?_⟩
  · refine (θ_run _ _ _).mono (fun r h c => ?_) (Cert.Kernel3Ideal.Gen.run_main m g)
    exact ⟨(Cert.Kernel3Ideal.Value.post4 m r h c).trans (Cert.Kernel3Ideal.Ffn.final m c),
      Cert.Kernel3Ideal.Value.kept_main_arg0 m r h c, Cert.Kernel3Ideal.Value.kept_main_arg1 m r h c,
      Cert.Kernel3Ideal.Value.kept_main_arg2 m r h c, Cert.Kernel3Ideal.Value.kept_main_arg3 m r h c⟩
  · refine (θ_run _ _ _).mono (fun r h c => ⟨(h c).1.trans ?_, (h c).2⟩) (Cert.Reference3Ideal.Value.run m' g')
    obtain ⟨a0, a1, a2, a3⟩ := hag c
    rw [Cert.Reference3Ideal.Read.val_main_v14_eq, a0, a1, a2, a3]
    exact ref_eq _ _ _ _

end Cert.Ffn1Claim

end
-- ==== Proof.AttnHost.lean ====
/-
  The arrays the windowed attention's kernel is given: the queries in slab order and scaled, the keys, the values, the padded
  sink. Each at an index, from the arguments.
-/
module

public import proofs.«01_k».proof.Proof.Gen.KernelIdeal.Value
public import Idealize.ShloMosaic.Lib.Tactic
public import Idealize.ShloMosaic.Lib.Pointwise
public import Mathlib.Tactic.NormNum

@[expose] public section

set_option maxRecDepth 16384

noncomputable section

namespace Cert.KernelIdeal.Attn

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

theorem V_k (c : Dev nD) : V m c main_v6 = (m ((c : Thread nD τ).loc main_arg1) : S16x4352x128.Idx → EReal) := by
  unfold V
  simp only [hostOps0, hostOps0_1, List.flatten_cons, List.flatten_nil, List.append_nil, List.cons_append, List.nil_append]
  after_results
  rfl

theorem V_v (c : Dev nD) : V m c main_v7 = (m ((c : Thread nD τ).loc main_arg2) : S16x4352x128.Idx → EReal) := by
  unfold V
  simp only [hostOps0, hostOps0_1, List.flatten_cons, List.flatten_nil, List.append_nil, List.cons_append, List.nil_append]
  after_results
  rfl

/-- The queries in slab order, scaled. -/
def slabs (x : FVec Ideal S16x4352x384 .f32) : FVec Ideal S16x4352x384 .bf16 :=
  truncf .bf16 (mulf (shapeCast S16x4352x384 (transpose S16x4352x3x2x64 [0, 1, 3, 2, 4] (shapeCast S16x4352x2x3x64 x
    shapeCasts_S16x4352x384_S16x4352x2x3x64) transposes_S16x4352x2x3x64_S16x4352x3x2x64_0_1_3_2_4)
    shapeCasts_S16x4352x3x2x64_S16x4352x384)
    (broadcastInDim S16x4352x384 ![] bcast_S_S16x4352x384 (constant (F := Ideal) S_ .f32 0x3E000000#32))) bitsLt_bf16_f32

theorem V_q (c : Dev nD) : V m c main_v5 = slabs (m ((c : Thread nD τ).loc main_arg0)) := by
  unfold V
  simp only [hostOps0, hostOps0_1, List.flatten_cons, List.flatten_nil, List.append_nil, List.cons_append, List.nil_append]
  after_results
  rfl

theorem V_s (c : Dev nD) : V m c main_v8 = pad S8 ![0] ![2] ![0] (m ((c : Thread nD τ).loc main_arg3)) (sitofp (F := Ideal) .f32 (constantI S_ 32 0#32)) pads_S6_S8_020 h_S_ := by
  unfold V
  simp only [hostOps0, hostOps0_1, List.flatten_cons, List.flatten_nil, List.append_nil, List.cons_append, List.nil_append]
  after_results
  rfl

theorem V_s_apply (c : Dev nD) (j : Fin 8) (h : j.val < 6) : V m c main_v8 (ix1 j) = (m ((c : Thread nD τ).loc main_arg3) : S6.Idx → EReal) (ix1 ⟨j.val, h⟩) := by
  rw [V_s]
  generalize hx : (m ((c : Thread nD τ).loc main_arg3) : S6.Idx → EReal) = x
  pointwise
  exact dif_pos fun a => by fin_cases a; exact h

theorem eighth : Ideal.ofBits .f32 0x3E000000#32 = (((1 : ℝ) / 8 : ℝ) : EReal) := by
  simp [Ideal.ofBits, Ideal.ieee, -EReal.coe_mul]
  norm_num

theorem slabs_apply (x : FVec Ideal S16x4352x384 .f32) (b : Fin 16) (p : Fin 4352) (c : Fin 384) :
    slabs x (ix3 b p c) = (x (ix3 b p ⟨192 * (c.val % 128 / 64) + 64 * (c.val / 128) + c.val % 64, by omega⟩) : EReal) * (((1 : ℝ) / 8 : ℝ) : EReal) := by
  pointwise [slabs]
  rw [eighth]
  congr 3
  apply Fin.ext
  dsimp only
  omega

end Cert.KernelIdeal.Attn

end
-- ==== Proof.AttnPay.lean ====
/-
  The values the windowed attention's grid point computes, an entry at a time.
-/
module

public import proofs.«01_k».proof.Proof.Gen.KernelIdeal.Value
public import Idealize.ShloMosaic.Lib.Tactic
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem

/-- The normalised sum of one row: scores, sink and values. -/
def soft (s : Fin 640 → EReal) (z : EReal) (v : Fin 640 → EReal) : EReal :=
  Ideal.div (∑ x : Fin 640, Ideal.exp (s x - max (Finset.fold max (⊥ : EReal) s Finset.univ) z) * v x)
    (∑ x : Fin 640, Ideal.exp (s x - max (Finset.fold max (⊥ : EReal) s Finset.univ) z)
      + Ideal.exp (z - max (Finset.fold max (⊥ : EReal) s Finset.univ) z))

/-- A row of scores with the block before masked by `a` and the block after masked by `b`. -/
def maskd (a b : Fin 128 → BitVec 1) (s : Fin 640 → EReal) (y : Fin 640) : EReal :=
  if h : y.val < 128 then Scalar.select (a ⟨y.val, h⟩) (s y) ⊥
  else if y.val < 256 then s y
  else if h : y.val < 384 then Scalar.select (b ⟨y.val - 256, by omega⟩) (s y) ⊥
  else s y

/-- The scores of one row of one group: lanes outside the group count as nothing. -/
def dot (lo : Fin 128 → BitVec 1) (q : FVec Ideal S128x384 .bf16) (k : FVec Ideal S640x128 .bf16) (r : Fin 384) (y : Fin 640) : EReal :=
  ∑ x : Fin 128, Scalar.select (lo x) (q (ix2 ⟨r.val % 128, Nat.mod_lt _ (by decide)⟩ ⟨128 * (r.val / 128) + x.val, by omega⟩) : EReal) 0
    * k (ix2 y x)

theorem qsel (c : BitVec 1) (q : FVec Ideal S128x384 .bf16) (r : Fin 384) (x : Fin 128)  :
    (if h : r.val < 128 then Scalar.select c (q (ix2 ⟨r.val, h⟩ ⟨x.val, by omega⟩) : EReal) 0
      else if h' : r.val - 128 < 128 then Scalar.select c (q (ix2 ⟨r.val - 128, h'⟩ ⟨128 + x.val, by omega⟩) : EReal) 0
      else Scalar.select c (q (ix2 ⟨r.val - 128 - 128, by omega⟩ ⟨256 + x.val, by omega⟩) : EReal) 0)
    = Scalar.select c (q (ix2 ⟨r.val % 128, Nat.mod_lt _ (by decide)⟩ ⟨128 * (r.val / 128) + x.val, by omega⟩) : EReal) 0 := by
  have hr := r.isLt
  split_ifs <;> (congr 3 <;> apply Fin.ext <;> dsimp only <;> omega)

theorem named_mask : (Named.named (F := Ideal) (φ := .f32) κ "mask" 0xF149F2CA#32 : EReal) = ⊥ := rfl

theorem pay11 (v : FVec Ideal S640x128 .bf16) (z : FVec Ideal S384x1 .f32) (s : FVec Ideal S384x640 .f32) (j0 : Fin 384) (j1 : Fin 128) :
    k0_pay11 v z s (ix2 j0 j1) = soft (fun y => s (ix2 j0 y)) (z (ix2 j0 0)) (fun y => v (ix2 y j1)) := by
  pointwise [k0_pay11, soft]
  rfl

/-- One lane's product, at a row of the stack of the three slabs. -/
theorem qsel_mul (c : BitVec 1) (q : FVec Ideal S128x384 .bf16) (k : FVec Ideal S640x128 .bf16) (r : Fin 384) (x : Fin 128)
    (y y' : Fin 640) (hy : y.val = y'.val)  :
    (if h : r.val < 128 then Scalar.select c (q (ix2 ⟨r.val, h⟩ ⟨x.val, by omega⟩) : EReal) 0
      else if h' : r.val - 128 < 128 then Scalar.select c (q (ix2 ⟨r.val - 128, h'⟩ ⟨128 + x.val, by omega⟩) : EReal) 0
      else Scalar.select c (q (ix2 ⟨r.val - 128 - 128, by omega⟩ ⟨256 + x.val, by omega⟩) : EReal) 0) * (k (ix2 y x) : EReal)
    = Scalar.select c (q (ix2 ⟨r.val % 128, Nat.mod_lt _ (by decide)⟩ ⟨128 * (r.val / 128) + x.val, by omega⟩) : EReal) 0
      * (k (ix2 y' x) : EReal) := by
  obtain rfl : y = y' := Fin.ext hy
  rw [qsel]

theorem sel_congr {c c' : BitVec 1} {a a' b : EReal} (h : c = c') (h' : a = a') : Scalar.select c a b = Scalar.select c' a' b := by
  rw [h, h']

set_option maxHeartbeats 1000000 in
theorem pay10 (a b : IVec S384x128 1) (k : FVec Ideal S640x128 .bf16) (q : Vec Ideal S1x128x384 .bf16) (j0 : Fin 384) (j1 : Fin 640) :
    k0_pay10 a b k q (ix2 j0 j1) = maskd (fun x => a (ix2 j0 x)) (fun x => b (ix2 j0 x))
      (dot (fun x => k0_pay8 (ix2 0 x)) (k0_pay7 q) k j0) j1 := by
  have h1 := j1.isLt
  generalize hR : maskd (fun x => a (ix2 j0 x)) (fun x => b (ix2 j0 x)) (dot (fun x => k0_pay8 (ix2 0 x)) (k0_pay7 q) k j0) j1 = R
  unfold k0_pay10
  generalize k0_pay7 q = q' at hR ⊢
  generalize k0_pay8 = lo at hR ⊢
  pointwise
  refine Eq.trans ?_ hR
  unfold maskd dot
  rcases Nat.lt_or_ge j1.val 128 with h1 | h1
  · refine (dif_pos h1).trans (Eq.trans ?_ (dif_pos h1).symm)
    exact sel_congr rfl (Finset.sum_congr rfl fun x _ => qsel_mul (lo (ix2 0 x)) q' k j0 x _ j1 rfl)
  refine (dif_neg (Nat.not_lt.mpr h1)).trans (Eq.trans ?_ (dif_neg (Nat.not_lt.mpr h1)).symm)
  rcases Nat.lt_or_ge j1.val 256 with h2 | h2
  · refine (dif_pos (show j1.val - 128 < 128 by omega)).trans (Eq.trans ?_ (if_pos h2).symm)
    exact Finset.sum_congr rfl fun x _ => qsel_mul (lo (ix2 0 x)) q' k j0 x _ j1 (by dsimp only; omega)
  refine (dif_neg (show ¬ j1.val - 128 < 128 by omega)).trans (Eq.trans ?_ (if_neg (Nat.not_lt.mpr h2)).symm)
  rcases Nat.lt_or_ge j1.val 384 with h3 | h3
  · refine (dif_pos (show j1.val - 128 - 128 < 128 by omega)).trans (Eq.trans ?_ (dif_pos h3).symm)
    exact sel_congr rfl (Finset.sum_congr rfl fun x _ => qsel_mul (lo (ix2 0 x)) q' k j0 x _ j1 (by dsimp only; omega))
  refine (dif_neg (show ¬ j1.val - 128 - 128 < 128 by omega)).trans (Eq.trans ?_ (dif_neg (Nat.not_lt.mpr h3)).symm)
  rcases Nat.lt_or_ge j1.val 512 with h4 | h4
  · refine (dif_pos (show j1.val - 128 - 128 - 128 < 128 by omega)).trans ?_
    exact Finset.sum_congr rfl fun x _ => qsel_mul (lo (ix2 0 x)) q' k j0 x _ j1 (by dsimp only; omega)
  · refine (dif_neg (show ¬ j1.val - 128 - 128 - 128 < 128 by omega)).trans ?_
    exact Finset.sum_congr rfl fun x _ => qsel_mul (lo (ix2 0 x)) q' k j0 x _ j1 (by dsimp only; omega)

theorem pay13 (k : FVec Ideal S640x128 .bf16) (q : FVec Ideal S128x384 .bf16) (lo : IVec S1x128 1) (j0 : Fin 384) (j1 : Fin 640) :
    k0_pay13 k q lo (ix2 j0 j1) = dot (fun x => IntOp.xori (lo (ix2 0 x)) 1#1) q k j0 j1 := by
  generalize hR : dot (fun x => IntOp.xori (lo (ix2 0 x)) 1#1) q k j0 j1 = R
  pointwise [k0_pay13]
  refine Eq.trans ?_ hR
  exact Finset.sum_congr rfl fun x _ => qsel_mul (IntOp.xori (lo (ix2 0 x)) 1#1) q k j0 x j1 j1 rfl

theorem pay7 (q : Vec Ideal S1x128x384 .bf16) (i : Fin 128) (c : Fin 384) : k0_pay7 (F := Ideal) q (ix2 i c) = q (ix3 0 i c) := by
  pointwise [k0_pay7]

theorem pay14 (k : FVec Ideal S640x128 .bf16) (q : FVec Ideal S128x384 .bf16) (lo : IVec S1x128 1) (j0 : Fin 384) (j1 : Fin 128) :
    k0_pay14 k q lo (ix2 j0 j1) = k0_pay13 k q lo (ix2 j0 ⟨j1.val, by omega⟩) := by
  pointwise [k0_pay13, k0_pay14]

theorem pay15 (j : S384x128.Idx) : k0_pay15 (F := Ideal) j = (⊥ : EReal) := by
  idx_vars j
  pointwise [k0_pay15]
  rfl

/-- The rows of a block before, the block itself, the block after and the context, one under the other. -/
def stack (a b c : Vec Ideal S1x128x128 .bf16) (d : Vec Ideal S1x256x128 .bf16) (y : Fin 640) (x : Fin 128) : EReal :=
  if h : y.val < 128 then a (ix3 0 ⟨y.val, h⟩ x)
  else if h : y.val < 256 then b (ix3 0 ⟨y.val - 128, by omega⟩ x)
  else if h : y.val < 384 then c (ix3 0 ⟨y.val - 256, by omega⟩ x)
  else d (ix3 0 ⟨y.val - 384, by omega⟩ x)

theorem pay5 (a b c : Vec Ideal S1x128x128 .bf16) (d : Vec Ideal S1x256x128 .bf16) (y : Fin 640) (x : Fin 128) :
    k0_pay5 (F := Ideal) a b c d (ix2 y x) = stack a b c d y x := by
  have hy := y.isLt
  generalize hR : stack a b c d y x = R
  pointwise [k0_pay5]
  refine Eq.trans ?_ hR
  unfold stack
  rcases Nat.lt_or_ge y.val 128 with h1 | h1
  · exact (dif_pos h1).trans (Eq.trans (by rfl) (dif_pos h1).symm)
  refine (dif_neg (Nat.not_lt.mpr h1)).trans (Eq.trans ?_ (dif_neg (Nat.not_lt.mpr h1)).symm)
  rcases Nat.lt_or_ge y.val 256 with h2 | h2
  · exact (dif_pos (show y.val - 128 < 128 by omega)).trans (Eq.trans (by rfl) (dif_pos h2).symm)
  refine (dif_neg (show ¬ y.val - 128 < 128 by omega)).trans (Eq.trans ?_ (dif_neg (Nat.not_lt.mpr h2)).symm)
  rcases Nat.lt_or_ge y.val 384 with h3 | h3
  · refine (dif_pos (show y.val - 128 - 128 < 128 by omega)).trans (Eq.trans ?_ (dif_pos h3).symm)
    exact congrArg (fun w => c (ix3 0 w x)) (Fin.ext (by dsimp only; omega))
  refine (dif_neg (show ¬ y.val - 128 - 128 < 128 by omega)).trans (Eq.trans ?_ (dif_neg (Nat.not_lt.mpr h3)).symm)
  exact congrArg (fun w => d (ix3 0 w x)) (Fin.ext (by dsimp only; omega))

theorem pay6 (a b c : Vec Ideal S1x128x128 .bf16) (d : Vec Ideal S1x256x128 .bf16) (y : Fin 640) (x : Fin 128) :
    k0_pay6 (F := Ideal) a b c d (ix2 y x) = stack a b c d y x := pay5 a b c d y x

end Cert.KernelIdeal.Attn

end
-- ==== Proof.AttnMask.lean ====
/-
  The masks, the sink column and the stored block of the windowed attention, an entry at a time.
-/
module

public import proofs.«01_k».proof.Proof.AttnPay
public import Idealize.ShloMosaic.Lib.Tactic
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem

theorem sel_row (a b c : EReal) (r : Fin 384) :
    Scalar.select (IntOp.cmpi CmpIPredicate.sge (BitVec.ofNat 32 r.val) 256#32) c
      (Scalar.select (IntOp.cmpi CmpIPredicate.sge (BitVec.ofNat 32 r.val) 128#32) b a)
    = if r.val < 128 then a else if r.val < 256 then b else c := by
  have h : ∀ r : Fin 384, IntOp.cmpi CmpIPredicate.sge (BitVec.ofNat 32 r.val) 256#32 = BitVec.ofBool (decide (256 ≤ r.val))
      ∧ IntOp.cmpi CmpIPredicate.sge (BitVec.ofNat 32 r.val) 128#32 = BitVec.ofBool (decide (128 ≤ r.val)) := by decide +kernel
  rw [(h r).1, (h r).2]
  rcases Nat.lt_or_ge r.val 128 with h1 | h1
  · rw [if_pos h1, decide_eq_false (by omega), decide_eq_false (by omega)]; rfl
  · rw [if_neg (by omega), decide_eq_true h1]
    rcases Nat.lt_or_ge r.val 256 with h2 | h2
    · rw [if_pos h2, decide_eq_false (by omega)]; rfl
    · rw [if_neg (by omega), decide_eq_true h2]; rfl

theorem pay9 (a b c : EReal) (r : Fin 384) :
    k0_pay9 (F := Ideal) a b c (ix2 r 0) = if r.val < 128 then a else if r.val < 256 then b else c := by
  pointwise [k0_pay9]
  exact sel_row a b c r

theorem pay12 (a b c : EReal) (r : Fin 384) :
    k0_pay12 (F := Ideal) (iota Kind.tc S384x1 32 [0] iota_S384x1_d0_w32) a b c (ix2 r 0) = if r.val < 128 then a else if r.val < 256 then b else c := by
  pointwise [k0_pay12]
  exact sel_row a b c r

theorem low7 : ∀ r : Fin 384, IntOp.andi (BitVec.ofNat 32 r.val) 127#32 = BitVec.ofNat 32 (r.val % 128) := by decide +kernel

theorem cmp_ge : ∀ i x : Fin 128, IntOp.cmpi CmpIPredicate.sge (BitVec.ofNat 32 x.val) (BitVec.ofNat 32 i.val)
    = BitVec.ofBool (decide (i.val ≤ x.val)) := by decide +kernel

theorem cmp_le : ∀ i x : Fin 128, IntOp.cmpi CmpIPredicate.sle (BitVec.ofNat 32 x.val) (BitVec.ofNat 32 i.val)
    = BitVec.ofBool (decide (x.val ≤ i.val)) := by decide +kernel

theorem edges : ∀ n : Fin 32, Scalar.cmpi CmpIPredicate.sgt (BitVec.ofNat 32 n.val) 0#32 = BitVec.ofBool (decide (0 < n.val))
    ∧ Scalar.cmpi CmpIPredicate.slt (BitVec.ofNat 32 n.val) 31#32 = BitVec.ofBool (decide (n.val < 31)) := by decide +kernel

theorem and_bool (p q : Bool) : IntOp.andi (BitVec.ofBool p) (BitVec.ofBool q) = BitVec.ofBool (p && q) := by
  cases p <;> cases q <;> rfl

theorem pay3 (i : grid0.Coords) (r : Fin 384) (x : Fin 128) :
    k0_pay3 i (ix2 r x) = BitVec.ofBool (decide (r.val % 128 ≤ x.val ∧ 0 < (i 1).val)) := by
  pointwise [k0_pay3, k0_pay2]
  rw [low7, cmp_ge ⟨r.val % 128, Nat.mod_lt _ (by decide)⟩ x, (edges ⟨(i 1).val, (i 1).isLt⟩).1, and_bool]
  congr 1
  simp

theorem pay4 (i : grid0.Coords) (r : Fin 384) (x : Fin 128) :
    k0_pay4 i (ix2 r x) = BitVec.ofBool (decide (x.val ≤ r.val % 128 ∧ (i 1).val < 31)) := by
  pointwise [k0_pay4, k0_pay2]
  rw [low7, cmp_le ⟨r.val % 128, Nat.mod_lt _ (by decide)⟩ x, (edges ⟨(i 1).val, (i 1).isLt⟩).2, and_bool]
  congr 1
  simp

theorem pay8 (x : Fin 128) : k0_pay8 (ix2 0 x) = BitVec.ofBool (decide (x.val < 64)) := by
  pointwise [k0_pay8]
  revert x
  decide +kernel

end Cert.KernelIdeal.Attn

end
-- ==== Proof.AttnStore.lean ====
/-
  The block one grid point of the windowed attention stores, an entry at a time.
-/
module

public import proofs.«01_k».proof.Proof.AttnPay
public import Idealize.ShloMosaic.Lib.Tactic
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem

/-- A row of the second group's masked scores as the five pieces put side by side. -/
def pieces (a b : IVec S384x128 1) (sc : FVec Ideal S384x640 .f32) (sc0 cst : FVec Ideal S384x128 .f32) (r : Fin 384) (x : Fin 640) : EReal :=
  if h_1 : x.val < 128 then
    Scalar.select (a (ix2 r ⟨x.val, h_1⟩)) (sc0 (ix2 r ⟨x.val, h_1⟩)) (cst (ix2 r ⟨x.val, h_1⟩))
  else
    if h_2 : x.val - 128 < 128 then sc (ix2 r ⟨128 + (x.val - 128), by omega⟩)
    else
      if h_3 : x.val - 128 - 128 < 128 then
        Scalar.select (b (ix2 r ⟨x.val - 128 - 128, h_3⟩))
          (sc (ix2 r ⟨256 + (x.val - 128 - 128), by omega⟩)) (Named.named (F := Ideal) (φ := .f32) κ "mask" 0xF149F2CA#32)
      else
        if h_4 : x.val - 128 - 128 - 128 < 128 then
          sc (ix2 r ⟨384 + (x.val - 128 - 128 - 128), by omega⟩)
        else sc (ix2 r ⟨512 + (x.val - 128 - 128 - 128 - 128), by omega⟩)

theorem pieces_eq (a b : IVec S384x128 1) (sc : FVec Ideal S384x640 .f32) (sc0 cst : FVec Ideal S384x128 .f32)
    (hsc : ∀ r x, sc0 (ix2 r x) = sc (ix2 r ⟨x.val, by omega⟩)) (hc : ∀ r x, cst (ix2 r x) = (⊥ : EReal)) (r : Fin 384) :
    pieces a b sc sc0 cst r = maskd (fun x => a (ix2 r x)) (fun x => b (ix2 r x)) (fun y => sc (ix2 r y)) := by
  funext y
  have hy := y.isLt
  unfold pieces maskd
  have e : ∀ (w : Nat) (hw : w < 640), w = y.val → sc (ix2 r ⟨w, hw⟩) = sc (ix2 r y) := fun w hw h => by subst h; rfl
  split_ifs <;> first
    | (exfalso; omega)
    | (rw [hsc, hc])
    | (rw [e _ _ (by omega)]; done)
    | (rw [named_mask, e _ _ (by omega)]; exact sel_congr (congrArg (fun w => b (ix2 r w)) (Fin.ext (by dsimp only; omega))) rfl)

/-- The second group's scores under their masks, the five pieces put side by side. -/
def scores2 (a b : IVec S384x128 1) (sc : FVec Ideal S384x640 .f32) (sc0 cst : FVec Ideal S384x128 .f32) : FVec Ideal S384x640 .f32 :=
  concatenate S384x640 1 [⟨S384x128, select a sc0 cst⟩,
    ⟨S384x128, extractStridedSlice S384x128 ![0, 128] sc slices_S384x640_o0_128_S384x128⟩,
    ⟨S384x128, select b (extractStridedSlice S384x128 ![0, 256] sc slices_S384x640_o0_256_S384x128)
      (broadcast S384x128 (Named.named (F := Ideal) (φ := .f32) κ "mask" 0xF149F2CA#32))⟩,
    ⟨S384x128, extractStridedSlice S384x128 ![0, 384] sc slices_S384x640_o0_384_S384x128⟩,
    ⟨S384x128, extractStridedSlice S384x128 ![0, 512] sc slices_S384x640_o0_512_S384x128⟩]
    concatenates_S384x128_S384x128_S384x128_S384x128_S384x128_S384x640_d1

/-- One slab of the block: each lane taken from the group it belongs to. -/
def slab (lo : IVec S1x128 1) (x y : FVec Ideal S128x128 .f32) : FVec Ideal S128x128 .f32 :=
  select (broadcastTo S128x128 (shapeCast S1x128 lo shapeCasts_S1x128_S1x128) broadcasts_S1x128_S128x128) x y

/-- The two groups' rows, taken together and laid out in the block. -/
def join (lo : IVec S1x128 1) (o o' : FVec Ideal S384x128 .f32) : FVec Ideal S1x128x384 .bf16 :=
  shapeCast S1x128x384 (truncf .bf16 (concatenate S128x384 1
    [⟨S128x128, slab lo (extractStridedSlice S128x128 ![0, 0] o slices_S384x128_o0_0_S128x128)
        (extractStridedSlice S128x128 ![0, 0] o' slices_S384x128_o0_0_S128x128)⟩,
     ⟨S128x128, slab lo (extractStridedSlice S128x128 ![128, 0] o slices_S384x128_o128_0_S128x128)
        (extractStridedSlice S128x128 ![128, 0] o' slices_S384x128_o128_0_S128x128)⟩,
     ⟨S128x128, slab lo (extractStridedSlice S128x128 ![256, 0] o slices_S384x128_o256_0_S128x128)
        (extractStridedSlice S128x128 ![256, 0] o' slices_S384x128_o256_0_S128x128)⟩]
    concatenates_S128x128_S128x128_S128x128_S128x384_d1) bitsLt_bf16_f32) shapeCasts_S128x384_S1x128x384

theorem pay1_eq (a b : IVec S384x128 1) (v : FVec Ideal S640x128 .bf16) (lo : IVec S1x128 1) (o : FVec Ideal S384x128 .f32)
    (z : FVec Ideal S384x1 .f32) (sc : FVec Ideal S384x640 .f32) (sc0 cst : FVec Ideal S384x128 .f32) :
    k0_pay1 a b v lo o z sc sc0 cst = join lo o (k0_pay11 v z (scores2 a b sc sc0 cst)) := rfl

theorem scores2_apply (a b : IVec S384x128 1) (sc : FVec Ideal S384x640 .f32) (sc0 cst : FVec Ideal S384x128 .f32) (r : Fin 384) (y : Fin 640) :
    scores2 a b sc sc0 cst (ix2 r y) = pieces a b sc sc0 cst r y := by
  generalize hR : pieces a b sc sc0 cst r y = R
  pointwise [scores2]
  refine Eq.trans ?_ hR
  rfl

theorem row_pick (lo : IVec S1x128 1) (o o' : FVec Ideal S384x128 .f32) (r r' : Fin 384) (l l' : Fin 128) (hr : r.val = r'.val)
    (hl : l.val = l'.val) : (Scalar.select (lo (ix2 0 l)) (o (ix2 r l)) (o' (ix2 r l)) : EReal)
      = Scalar.select (lo (ix2 0 l')) (o (ix2 r' l')) (o' (ix2 r' l')) := by
  obtain rfl : r = r' := Fin.ext hr
  obtain rfl : l = l' := Fin.ext hl
  rfl

theorem join_apply (lo : IVec S1x128 1) (o o' : FVec Ideal S384x128 .f32) (i : Fin 128) (c : Fin 384) :
    join lo o o' (ix3 0 i c)
      = (Scalar.select (lo (ix2 0 ⟨c.val % 128, Nat.mod_lt _ (by decide)⟩))
          (o (ix2 ⟨128 * (c.val / 128) + i.val, by omega⟩ ⟨c.val % 128, Nat.mod_lt _ (by decide)⟩))
          (o' (ix2 ⟨128 * (c.val / 128) + i.val, by omega⟩ ⟨c.val % 128, Nat.mod_lt _ (by decide)⟩)) : EReal) := by
  generalize hR : Scalar.select _ _ _ = R
  pointwise [join, slab]
  refine Eq.trans ?_ hR
  have hcl := c.isLt
  rcases Nat.lt_or_ge c.val 128 with h1 | h1
  · refine (dif_pos h1).trans ?_
    exact row_pick lo o o' ⟨i.val, by omega⟩ _ ⟨c.val, h1⟩ _ (by dsimp only; omega) (by dsimp only; omega)
  refine (dif_neg (Nat.not_lt.mpr h1)).trans ?_
  rcases Nat.lt_or_ge c.val 256 with h2 | h2
  · refine (dif_pos (show c.val - 128 < 128 by omega)).trans ?_
    exact row_pick lo o o' ⟨128 + i.val, by omega⟩ _ ⟨c.val - 128, by omega⟩ _ (by dsimp only; omega) (by dsimp only; omega)
  refine (dif_neg (show ¬ c.val - 128 < 128 by omega)).trans ?_
  exact row_pick lo o o' ⟨256 + i.val, by omega⟩ _ ⟨c.val - 128 - 128, by omega⟩ _ (by dsimp only; omega) (by dsimp only; omega)

theorem pay1 (a b : IVec S384x128 1) (v : FVec Ideal S640x128 .bf16) (lo : IVec S1x128 1) (o : FVec Ideal S384x128 .f32)
    (z : FVec Ideal S384x1 .f32) (sc : FVec Ideal S384x640 .f32) (sc0 cst : FVec Ideal S384x128 .f32)
    (hsc : ∀ r x, sc0 (ix2 r x) = sc (ix2 r ⟨x.val, by omega⟩)) (hc : ∀ r x, cst (ix2 r x) = (⊥ : EReal))
    (i : Fin 128) (c : Fin 384) :
    k0_pay1 a b v lo o z sc sc0 cst (ix3 0 i c)
      = (Scalar.select (lo (ix2 0 ⟨c.val % 128, Nat.mod_lt _ (by decide)⟩))
          (o (ix2 ⟨128 * (c.val / 128) + i.val, by omega⟩ ⟨c.val % 128, Nat.mod_lt _ (by decide)⟩) : EReal)
          (soft (maskd (fun x => a (ix2 ⟨128 * (c.val / 128) + i.val, by omega⟩ x)) (fun x => b (ix2 ⟨128 * (c.val / 128) + i.val, by omega⟩ x))
              (fun y => sc (ix2 ⟨128 * (c.val / 128) + i.val, by omega⟩ y)))
            (z (ix2 ⟨128 * (c.val / 128) + i.val, by omega⟩ 0)) (fun y => v (ix2 y ⟨c.val % 128, Nat.mod_lt _ (by decide)⟩))) : EReal) := by
  rw [pay1_eq, join_apply, pay11]
  simp only [scores2_apply]
  rw [← pieces_eq a b sc sc0 cst hsc hc]

end Cert.KernelIdeal.Attn

end
-- ==== Proof.AttnBlock.lean ====
/-
  What one grid point of the windowed attention writes to its output block, an entry at a time, from the blocks it reads.
-/
module

public import proofs.«01_k».proof.Proof.AttnMask
public import proofs.«01_k».proof.Proof.AttnStore
public import Idealize.ShloMosaic.Lib.Pipeline.ValueKit
public import Idealize.ShloMosaic.Lib.Pipeline.ReadBack
public import Idealize.ShloMosaic.Lib.Pipeline.Covers

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

/-- Whether a query at row `i` of block `n` sees column `y` of the stack: the block before from its own row on, its own
    block, the block after up to its own row, the whole context. -/
def sees (n i : Nat) (y : Fin 640) : Prop :=
  (128 ≤ y.val ∨ (i ≤ y.val ∧ 0 < n)) ∧ (y.val < 256 ∨ 384 ≤ y.val ∨ (y.val - 256 ≤ i ∧ n < 31))

instance (n i : Nat) (y : Fin 640) : Decidable (sees n i y) := by unfold sees; infer_instance

theorem sel_bool (p : Prop) [Decidable p] (a b : EReal) : Scalar.select (BitVec.ofBool (decide p)) a b = if p then a else b := by
  unfold Scalar.select
  by_cases h : p <;> simp [h]

theorem maskd_sees (t : grid0.Coords) (r : Fin 384) (s : Fin 640 → EReal) :
    maskd (fun x => k0_pay3 t (ix2 r x)) (fun x => k0_pay4 t (ix2 r x)) s
      = fun y => if sees (t 1).val (r.val % 128) y then s y else ⊥ := by
  funext y
  unfold maskd sees
  simp only [pay3, pay4, sel_bool]
  have hy := y.isLt
  rcases Nat.lt_or_ge y.val 128 with h1 | h1
  · rw [dif_pos h1]
    exact if_congr ⟨fun h => by omega, fun h => by omega⟩ rfl rfl
  rw [dif_neg (by omega)]
  rcases Nat.lt_or_ge y.val 256 with h2 | h2
  · rw [if_pos h2]
    exact (if_pos (by omega)).symm
  rw [if_neg (by omega)]
  rcases Nat.lt_or_ge y.val 384 with h3 | h3
  · rw [dif_pos h3]
    exact if_congr ⟨fun h => by omega, fun h => by omega⟩ rfl rfl
  rw [dif_neg (by omega)]
  exact (if_pos (by omega)).symm

theorem xor_bool (p : Prop) [Decidable p] : IntOp.xori (BitVec.ofBool (decide p)) 1#1 = BitVec.ofBool (decide (¬ p)) := by
  by_cases h : p <;> simp [h] <;> rfl

theorem half (f h : Fin 128 → EReal) : (∑ x : Fin 128, (if x.val < 64 then f x else 0) * h x)
    = ∑ d : Fin 64, f ⟨d.val, by omega⟩ * h ⟨d.val, by omega⟩ := by
  have := Fin.sum_univ_add (a := 64) (b := 64) (fun x : Fin (64 + 64) => (if x.val < 64 then f x else 0) * h x)
  refine this.trans ?_
  rw [Finset.sum_eq_zero (s := Finset.univ) (f := fun i : Fin 64 => (if (Fin.natAdd 64 i).val < 64 then f (Fin.natAdd 64 i) else 0) * h (Fin.natAdd 64 i)), add_zero]
  · refine Finset.sum_congr rfl fun d _ => ?_
    rw [if_pos (by show d.val < 64; exact d.isLt)]
    rfl
  · intro i _
    rw [if_neg (by simp), zero_mul]

theorem half' (f h : Fin 128 → EReal) : (∑ x : Fin 128, (if ¬ x.val < 64 then f x else 0) * h x)
    = ∑ d : Fin 64, f ⟨64 + d.val, by omega⟩ * h ⟨64 + d.val, by omega⟩ := by
  have := Fin.sum_univ_add (a := 64) (b := 64) (fun x : Fin (64 + 64) => (if ¬ x.val < 64 then f x else 0) * h x)
  refine this.trans ?_
  rw [Finset.sum_eq_zero (s := Finset.univ) (f := fun i : Fin 64 => (if ¬ (Fin.castAdd 64 i).val < 64 then f (Fin.castAdd 64 i) else 0) * h (Fin.castAdd 64 i)), zero_add]
  · refine Finset.sum_congr rfl fun d _ => ?_
    rw [if_pos (by simp)]
    rfl
  · intro i _
    rw [if_neg (by simp), zero_mul]

/-- The scores of one head's row against the stack of keys. -/
def score (q : Vec Ideal S1x128x384 .bf16) (k : Fin 640 → Fin 128 → EReal) (i : Fin 128) (s : Fin 3) (g : Fin 2) (y : Fin 640) : EReal :=
  ∑ d : Fin 64, q (ix3 0 i ⟨128 * s.val + (64 * g.val + d.val), by omega⟩) * k y ⟨64 * g.val + d.val, by omega⟩

theorem dot_lo (q : Vec Ideal S1x128x384 .bf16) (a b c : Vec Ideal S1x128x128 .bf16) (d' : Vec Ideal S1x256x128 .bf16)
    (i : Fin 128) (s : Fin 3) (r : Fin 384) (hr : r.val = 128 * s.val + i.val) (y : Fin 640) :
    dot (fun x => k0_pay8 (ix2 0 x)) (k0_pay7 q) (k0_pay5 a b c d') r y = score q (stack a b c d') i s 0 y := by
  unfold dot score
  simp only [pay8, pay7, pay5, sel_bool]
  refine (half (fun x => q (ix3 0 ⟨r.val % 128, Nat.mod_lt _ (by decide)⟩ ⟨128 * (r.val / 128) + x.val, by omega⟩)) (fun x => stack a b c d' y x)).trans ?_
  refine Finset.sum_congr rfl fun d _ => ?_
  have e1 : (⟨r.val % 128, Nat.mod_lt _ (by decide)⟩ : Fin 128) = i := Fin.ext (by dsimp only; omega)
  rw [e1]
  have e2 : (⟨128 * (r.val / 128) + d.val, by omega⟩ : Fin 384) = ⟨128 * s.val + (64 * 0 + d.val), by omega⟩ := Fin.ext (by dsimp only; omega)
  have e3 : (⟨d.val, by omega⟩ : Fin 128) = ⟨64 * 0 + d.val, by omega⟩ := Fin.ext (by dsimp only; omega)
  exact congrArg₂ (fun u v => q (ix3 0 i u) * stack a b c d' y v) e2 e3

theorem dot_hi (q : Vec Ideal S1x128x384 .bf16) (a b c : Vec Ideal S1x128x128 .bf16) (d' : Vec Ideal S1x256x128 .bf16)
    (i : Fin 128) (s : Fin 3) (r : Fin 384) (hr : r.val = 128 * s.val + i.val) (y : Fin 640) :
    dot (fun x => IntOp.xori (k0_pay8 (ix2 0 x)) 1#1) (k0_pay7 q) (k0_pay5 a b c d') r y = score q (stack a b c d') i s 1 y := by
  unfold dot score
  simp only [pay8, pay7, pay5, xor_bool, sel_bool]
  refine (half' (fun x => q (ix3 0 ⟨r.val % 128, Nat.mod_lt _ (by decide)⟩ ⟨128 * (r.val / 128) + x.val, by omega⟩)) (fun x => stack a b c d' y x)).trans ?_
  refine Finset.sum_congr rfl fun d _ => ?_
  have e1 : (⟨r.val % 128, Nat.mod_lt _ (by decide)⟩ : Fin 128) = i := Fin.ext (by dsimp only; omega)
  rw [e1]
  have e2 : (⟨128 * (r.val / 128) + (64 + d.val), by omega⟩ : Fin 384) = ⟨128 * s.val + (64 * 1 + d.val), by omega⟩ := Fin.ext (by dsimp only; omega)
  have e3 : (⟨64 + d.val, by omega⟩ : Fin 128) = ⟨64 * 1 + d.val, by omega⟩ := Fin.ext (by dsimp only)
  exact congrArg₂ (fun u v => q (ix3 0 i u) * stack a b c d' y v) e2 e3

variable (m : (ℓ : Loc nD τ sig) → Buf (Elt Ideal) ℓ)

/-- The sink of a row's head, read off the padded sink. -/
def snk (z : S8.Idx → EReal) (s : Fin 3) (g : Fin 2) : EReal := z (ix1 ⟨3 * g.val + s.val, by omega⟩)

theorem sel3 (f : Fin 8 → EReal) (s : Fin 3) (g : Fin 2) (r : Fin 384) (i : Fin 128) (hr : r.val = 128 * s.val + i.val) (j0 j1 j2 : Fin 8)
    (h0 : j0.val = 3 * g.val) (h1 : j1.val = 3 * g.val + 1) (h2 : j2.val = 3 * g.val + 2) :
    (if r.val < 128 then f j0 else if r.val < 256 then f j1 else f j2) = f ⟨3 * g.val + s.val, by omega⟩ := by
  split_ifs <;> (congr 1; apply Fin.ext; dsimp only; omega)

theorem block_eq (c : Dev nD) (t : Fin cfg0.N) (i : Fin 128) (s : Fin 3) (g : Fin 2) (d : Fin 64) :
    outsAt0 m c t (ix3 0 i ⟨128 * s.val + 64 * g.val + d.val, by omega⟩)
      = soft (fun y => if sees (grid0.coords t 1).val i.val y
            then score (iblk m c 1 t) (stack (iblk m c 2 t) (iblk m c 3 t) (iblk m c 4 t) (iblk m c 5 t)) i s g y else ⊥)
          (snk (iblk m c 0 t) s g)
          (fun y => stack (iblk m c 6 t) (iblk m c 7 t) (iblk m c 8 t) (iblk m c 9 t) y ⟨64 * g.val + d.val, by omega⟩) := by
  unfold outsAt0
  frame_out
  have hs := s.isLt
  have hg := g.isLt
  have hd := d.isLt
  have e1 : (⟨128 * ((128 * s.val + 64 * g.val + d.val) / 128) + i.val, by omega⟩ : Fin 384) = ⟨128 * s.val + i.val, by omega⟩ :=
    Fin.ext (by dsimp only; omega)
  have e2 : (⟨(128 * s.val + 64 * g.val + d.val) % 128, Nat.mod_lt _ (by decide)⟩ : Fin 128) = ⟨64 * g.val + d.val, by omega⟩ :=
    Fin.ext (by dsimp only; omega)
  have e3 : (128 * s.val + i.val) % 128 = i.val := by omega
  rw [pay1 _ _ _ _ _ _ _ _ _ (fun r x => pay14 _ _ _ r x) (fun r x => pay15 _)]
  simp only [e1, e2]
  rw [pay11, pay9, pay12, pay8]
  simp only [pay10, pay13, pay6, maskd_sees, e3]
  rw [sel_bool]
  have hz : ∀ (o : Nat) (ho : o < 8) (h : _) (p : _), View.ld (iblk m c 0 t) (Rect.unit ![o] ![1] h) (Shape.Idx.first p) = (iblk m c 0 t : S8.Idx → EReal) (ix1 ⟨o, ho⟩) := by
    intro o ho h p
    exact congrArg (iblk m c 0 t : S8.Idx → EReal) (by funext a; fin_cases a; apply Fin.ext; simp [LoadRect.idx, Rect.unit, Shape.Idx.first])
  rw [hz 0 (by decide), hz 1 (by decide), hz 2 (by decide), hz 3 (by decide), hz 4 (by decide), hz 5 (by decide)]
  unfold snk
  by_cases h : g = 0
  · subst h
    rw [if_pos (by show 64 * 0 + d.val < 64; omega)]
    simp only [dot_lo _ _ _ _ _ i s ⟨128 * s.val + i.val, by omega⟩ rfl]
    rw [sel3 (fun j => (iblk m c 0 t : S8.Idx → EReal) (ix1 j)) s 0 ⟨128 * s.val + i.val, by omega⟩ i rfl _ _ _ rfl rfl rfl]
  · have h1 : g = 1 := Fin.ext (by have : g.val ≠ 0 := fun e => h (Fin.ext e); show g.val = 1; omega)
    subst h1
    rw [if_neg (by show ¬ 64 * 1 + d.val < 64; omega)]
    simp only [dot_hi _ _ _ _ _ i s ⟨128 * s.val + i.val, by omega⟩ rfl]
    rw [sel3 (fun j => (iblk m c 0 t : S8.Idx → EReal) (ix1 j)) s 1 ⟨128 * s.val + i.val, by omega⟩ i rfl _ _ _ rfl rfl rfl]

end Cert.KernelIdeal.Attn

end
-- ==== Proof.AttnSoft.lean ====
/-
  The value both sides of the windowed attention come to, and the step between a row normalised before the values are
  weighed and one normalised after.
-/
module

public import proofs.«01_k».proof.Proof.AttnBlock

@[expose] public section

set_option maxRecDepth 16384

noncomputable section

namespace Cert.KernelIdeal.Attn

open Cert.KernelIdeal Cert.KernelIdeal.Gen Idealize.ShloMosaic Idealize.ShloMosaic.TcCoe Idealize.SL.Sem

/-- The row of the keys that column `y` of block `n`'s window holds: the block before, its own, the one after (each kept
    inside the sequence), then the context. -/
def kp (n : Fin 32) (y : Fin 640) : Fin 4352 :=
  ⟨if y.val < 128 then (n.val - 1) * 128 + y.val else if y.val < 256 then n.val * 128 + (y.val - 128)
    else if y.val < 384 then min (n.val + 1) 31 * 128 + (y.val - 256) else 4096 + (y.val - 384),
    by have := y.isLt; have := n.isLt; split_ifs <;> omega⟩

/-- The score of a query against column `y` of its window. -/
def sc (q : S16x4352x384.Idx → EReal) (k : S16x4352x128.Idx → EReal) (b : Fin 16) (n : Fin 32) (i : Fin 128) (g : Fin 2) (r : Fin 3)
    (y : Fin 640) : EReal :=
  if sees n.val i.val y then
    (∑ d : Fin 64, q (ix3 b ⟨n.val * 128 + i.val, by omega⟩ ⟨g.val * 192 + r.val * 64 + d.val, by omega⟩)
      * k (ix3 b (kp n y) ⟨g.val * 64 + d.val, by omega⟩)) * (((1 : ℝ) / 8 : ℝ) : EReal)
  else ⊥

/-- One entry of the windowed attention. -/
def att (q : S16x4352x384.Idx → EReal) (k v : S16x4352x128.Idx → EReal) (z : S6.Idx → EReal) (b : Fin 16) (n : Fin 32) (i : Fin 128)
    (r : Fin 3) (g : Fin 2) (d : Fin 64) : EReal :=
  soft (sc q k b n i g r) (z (ix1 ⟨3 * g.val + r.val, by omega⟩)) (fun y => v (ix3 b (kp n y) ⟨g.val * 64 + d.val, by omega⟩))

theorem sum_mul_nonneg {n : Nat} (f : Fin n → EReal) (c : ℝ) (hc : 0 ≤ c) : (∑ x, f x) * (c : EReal) = ∑ x, f x * (c : EReal) := by
  have h : ∀ s : Finset (Fin n), (∑ x ∈ s, f x) * (c : EReal) = ∑ x ∈ s, f x * (c : EReal) := by
    intro s
    induction s using Finset.cons_induction with
    | empty => simp
    | cons a s ha ih =>
      rw [Finset.sum_cons, Finset.sum_cons, EReal.right_distrib_of_nonneg_of_ne_top (by exact_mod_cast hc) (EReal.coe_ne_top c), ih]
  exact h Finset.univ

theorem sum_coe {n : Nat} (f : Fin n → ℝ) : (∑ x, ((f x : ℝ) : EReal)) = ((∑ x, f x : ℝ) : EReal) := by
  have h : ∀ s : Finset (Fin n), (∑ x ∈ s, ((f x : ℝ) : EReal)) = ((∑ x ∈ s, f x : ℝ) : EReal) := by
    intro s
    induction s using Finset.cons_induction with
    | empty => simp
    | cons a s ha ih => rw [Finset.sum_cons, Finset.sum_cons, ih, EReal.coe_add]
  exact h Finset.univ

theorem fold_last (s : Fin 641 → EReal) : Finset.fold max (⊥ : EReal) s Finset.univ
    = max (Finset.fold max (⊥ : EReal) (fun y : Fin 640 => s y.castSucc) Finset.univ) (s (Fin.last 640)) := by
  rw [Fin.univ_castSuccEmb, Finset.fold_cons, Finset.fold_map, max_comm]
  rfl

theorem fold_ne_top (s : Fin 640 → EReal) (h : ∀ y, s y ≠ ⊤) : Finset.fold max (⊥ : EReal) s Finset.univ ≠ ⊤ := by
  have e : ∀ t : Finset (Fin 640), Finset.fold max (⊥ : EReal) s t ≠ ⊤ := by
    intro t
    induction t using Finset.cons_induction with
    | empty => simp
    | cons a t ha ih =>
      rw [Finset.fold_cons]
      rcases max_choice (s a) (Finset.fold max (⊥ : EReal) s t) with h' | h' <;> rw [h']
      · exact h a
      · exact ih
  exact e Finset.univ

theorem max_real (s : Fin 640 → EReal) (h : ∀ y, s y ≠ ⊤) (z : ℝ) :
    ∃ M : ℝ, max (Finset.fold max (⊥ : EReal) s Finset.univ) (z : EReal) = (M : EReal) := by
  have h1 : max (Finset.fold max (⊥ : EReal) s Finset.univ) (z : EReal) ≠ ⊤ := by
    rcases max_choice (Finset.fold max (⊥ : EReal) s Finset.univ) (z : EReal) with h' | h' <;> rw [h']
    · exact fold_ne_top s h
    · exact EReal.coe_ne_top z
  have h2 : max (Finset.fold max (⊥ : EReal) s Finset.univ) (z : EReal) ≠ ⊥ :=
    fun e => EReal.coe_ne_bot z (le_bot_iff.mp (e ▸ le_max_right _ _))
  exact ⟨_, (EReal.coe_toReal h1 h2).symm⟩

theorem exp_real (a : EReal) (M : ℝ) (h : a ≠ ⊤) : ∃ e : ℝ, 0 ≤ e ∧ Ideal.exp (a - (M : EReal)) = (e : EReal) ∧ (a = ⊥ → e = 0) := by
  induction a with
  | bot => exact ⟨0, le_refl _, by rw [EReal.bot_sub, Ideal.exp_bot]; rfl, fun _ => rfl⟩
  | top => exact absurd rfl h
  | coe a => exact ⟨Real.exp (a - M), (Real.exp_pos _).le, by rw [← EReal.coe_sub, Ideal.exp_coe], fun e => absurd e (EReal.coe_ne_bot a)⟩

/-- A row of real or absent scores and a real sink: dividing each weight first, or the weighed sum last, is the same. -/
theorem soft_eq (s : Fin 640 → EReal) (h : ∀ y, s y ≠ ⊤) (z : ℝ) (v w : Fin 640 → EReal) (hw : ∀ y, s y ≠ ⊥ → w y = v y) (M D : EReal)
    (hM : M = max (Finset.fold max (⊥ : EReal) s Finset.univ) (z : EReal))
    (hD : D = ∑ y : Fin 640, Ideal.exp (s y - M) + Ideal.exp ((z : EReal) - M)) :
    ∑ y : Fin 640, w y * Ideal.div (Ideal.exp (s y - M)) D = soft s (z : EReal) v := by
  unfold soft
  rw [← hM, ← hD]
  obtain ⟨m, hm⟩ := max_real s h z
  rw [hm] at hM
  subst hM
  choose e he0 he hb using fun y => exp_real (s y) m (h y)
  have hz : Ideal.exp ((z : EReal) - (m : EReal)) = ((Real.exp (z - m) : ℝ) : EReal) := by rw [← EReal.coe_sub, Ideal.exp_coe]
  have hd : D = ((∑ y, e y + Real.exp (z - m) : ℝ) : EReal) := by
    rw [hD, hz, EReal.coe_add, ← sum_coe]
    exact congrArg (· + _) (Finset.sum_congr rfl fun y _ => he y)
  have hpos : 0 < ∑ y, e y + Real.exp (z - m) := add_pos_of_nonneg_of_pos (Finset.sum_nonneg fun y _ => he0 y) (Real.exp_pos _)
  rw [hd, Ideal.div_coe hpos.ne', sum_mul_nonneg _ _ (one_div_pos.mpr hpos).le]
  refine Finset.sum_congr rfl fun y _ => ?_
  rw [Ideal.div_coe hpos.ne', he y, ← mul_assoc]
  by_cases hy : s y = ⊥
  · rw [hb y hy]; simp
  · rw [hw y hy, mul_comm (v y)]

end Cert.KernelIdeal.Attn

end
-- ==== Proof.AttnFinal.lean ====
/-
  The windowed attention's result array after the kernel's last step.
-/
module

public import proofs.«01_k».proof.Proof.AttnHost
public import proofs.«01_k».proof.Proof.AttnSoft

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ)

/-- The blocks of a grid point, by sequence and by block of the sequence. -/
theorem idx : ∀ t : Fin cfg0.N, (grid0.coords t 1).val = t.val % 32 ∧ win0_0.index t = ![0] ∧
    win0_1.index t = ![t.val / 32, t.val % 32, 0] ∧
    win0_2.index t = ![t.val / 32, t.val % 32 - 1, 0] ∧ win0_3.index t = ![t.val / 32, t.val % 32, 0] ∧
    win0_4.index t = ![t.val / 32, min (t.val % 32 + 1) 31, 0] ∧ win0_5.index t = ![t.val / 32, 16, 0] ∧
    win0_6.index t = ![t.val / 32, t.val % 32 - 1, 0] ∧ win0_7.index t = ![t.val / 32, t.val % 32, 0] ∧
    win0_8.index t = ![t.val / 32, min (t.val % 32 + 1) 31, 0] ∧ win0_9.index t = ![t.val / 32, 16, 0] ∧
    win0_10.index t = ![t.val / 32, t.val % 32, 0] := by
  decide +kernel

theorem lt_N (t : Fin cfg0.N) : t.val < 512 := t.isLt

theorem blk0 (c : Dev nD) (t : Fin cfg0.N) (j : Fin 8) : (iblk m c 0 t : S8.Idx → EReal) (ix1 j) = V m c main_v8 (ix1 j) := by
  generalize hv : V m c main_v8 = v
  have := lt_N t
  blk_ext [iblk, hv, idx t]

theorem blk1 (c : Dev nD) (t : Fin cfg0.N) (i : Fin 128) (d : Fin 384) : (iblk m c 1 t : S1x128x384.Idx → EReal) (ix3 0 i d)
    = V m c main_v5 (ix3 ⟨t.val / 32, by have := lt_N t; omega⟩ ⟨t.val % 32 * 128 + i.val, by have := lt_N t; omega⟩ d) := by
  have := lt_N t
  blk_ext [iblk, idx t]

theorem blk2 (c : Dev nD) (t : Fin cfg0.N) (i : Fin 128) (d : Fin 128) : (iblk m c 2 t : S1x128x128.Idx → EReal) (ix3 0 i d)
    = V m c main_v6 (ix3 ⟨t.val / 32, by have := lt_N t; omega⟩ ⟨(t.val % 32 - 1) * 128 + i.val, by have := lt_N t; omega⟩ d) := by
  have := lt_N t
  blk_ext [iblk, idx t]

theorem blk3 (c : Dev nD) (t : Fin cfg0.N) (i : Fin 128) (d : Fin 128) : (iblk m c 3 t : S1x128x128.Idx → EReal) (ix3 0 i d)
    = V m c main_v6 (ix3 ⟨t.val / 32, by have := lt_N t; omega⟩ ⟨t.val % 32 * 128 + i.val, by have := lt_N t; omega⟩ d) := by
  have := lt_N t
  blk_ext [iblk, idx t]

theorem blk4 (c : Dev nD) (t : Fin cfg0.N) (i : Fin 128) (d : Fin 128) : (iblk m c 4 t : S1x128x128.Idx → EReal) (ix3 0 i d)
    = V m c main_v6 (ix3 ⟨t.val / 32, by have := lt_N t; omega⟩ ⟨min (t.val % 32 + 1) 31 * 128 + i.val, by have := lt_N t; omega⟩ d) := by
  have := lt_N t
  blk_ext [iblk, idx t]

theorem blk5 (c : Dev nD) (t : Fin cfg0.N) (i : Fin 256) (d : Fin 128) : (iblk m c 5 t : S1x256x128.Idx → EReal) (ix3 0 i d)
    = V m c main_v6 (ix3 ⟨t.val / 32, by have := lt_N t; omega⟩ ⟨4096 + i.val, by have := lt_N t; omega⟩ d) := by
  have := lt_N t
  blk_ext [iblk, idx t]

theorem blk6 (c : Dev nD) (t : Fin cfg0.N) (i : Fin 128) (d : Fin 128) : (iblk m c 6 t : S1x128x128.Idx → EReal) (ix3 0 i d)
    = V m c main_v7 (ix3 ⟨t.val / 32, by have := lt_N t; omega⟩ ⟨(t.val % 32 - 1) * 128 + i.val, by have := lt_N t; omega⟩ d) := by
  have := lt_N t
  blk_ext [iblk, idx t]

theorem blk7 (c : Dev nD) (t : Fin cfg0.N) (i : Fin 128) (d : Fin 128) : (iblk m c 7 t : S1x128x128.Idx → EReal) (ix3 0 i d)
    = V m c main_v7 (ix3 ⟨t.val / 32, by have := lt_N t; omega⟩ ⟨t.val % 32 * 128 + i.val, by have := lt_N t; omega⟩ d) := by
  have := lt_N t
  blk_ext [iblk, idx t]

theorem blk8 (c : Dev nD) (t : Fin cfg0.N) (i : Fin 128) (d : Fin 128) : (iblk m c 8 t : S1x128x128.Idx → EReal) (ix3 0 i d)
    = V m c main_v7 (ix3 ⟨t.val / 32, by have := lt_N t; omega⟩ ⟨min (t.val % 32 + 1) 31 * 128 + i.val, by have := lt_N t; omega⟩ d) := by
  have := lt_N t
  blk_ext [iblk, idx t]

theorem blk9 (c : Dev nD) (t : Fin cfg0.N) (i : Fin 256) (d : Fin 128) : (iblk m c 9 t : S1x256x128.Idx → EReal) (ix3 0 i d)
    = V m c main_v7 (ix3 ⟨t.val / 32, by have := lt_N t; omega⟩ ⟨4096 + i.val, by have := lt_N t; omega⟩ d) := by
  have := lt_N t
  blk_ext [iblk, idx t]

theorem stack_eq (a b c : Vec Ideal S1x128x128 .bf16) (d : Vec Ideal S1x256x128 .bf16) (k : S16x4352x128.Idx → EReal) (s : Fin 16) (n : Fin 32)
    (ha : ∀ (i : Fin 128) (x : Fin 128), a (ix3 0 i x) = k (ix3 s ⟨(n.val - 1) * 128 + i.val, by omega⟩ x))
    (hb : ∀ (i : Fin 128) (x : Fin 128), b (ix3 0 i x) = k (ix3 s ⟨n.val * 128 + i.val, by omega⟩ x))
    (hc : ∀ (i : Fin 128) (x : Fin 128), c (ix3 0 i x) = k (ix3 s ⟨min (n.val + 1) 31 * 128 + i.val, by omega⟩ x))
    (hd : ∀ (i : Fin 256) (x : Fin 128), d (ix3 0 i x) = k (ix3 s ⟨4096 + i.val, by omega⟩ x))
    (y : Fin 640) (x : Fin 128) : stack a b c d y x = k (ix3 s (kp n y) x) := by
  unfold stack kp
  have hy := y.isLt
  have e : ∀ u v : Fin 4352, u.val = v.val → k (ix3 s u x) = k (ix3 s v x) := fun u v h => by rw [Fin.ext h]
  split_ifs
  · exact ha _ x
  · exact hb _ x
  · exact hc _ x
  · exact hd _ x

/-- The windowed attention at an index of the result, from the arrays the kernel is given. -/
def whole (q : S16x4352x384.Idx → EReal) (k v : S16x4352x128.Idx → EReal) (z : S6.Idx → EReal) (b : Fin 16) (p : Fin 4096) (x : Fin 384) : EReal :=
  att q k v z b ⟨p.val / 128, by omega⟩ ⟨p.val % 128, by omega⟩ ⟨x.val / 128, by omega⟩ ⟨x.val / 64 % 2, by omega⟩ ⟨x.val % 64, by omega⟩

theorem soft_congr {s s' v v' : Fin 640 → EReal} {z z' : EReal} (h : ∀ y, s y = s' y) (hz : z = z') (hv : ∀ y, v y = v' y) :
    soft s z v = soft s' z' v' := by
  rw [funext h, hz, funext hv]

/-- A block's entry, from the arguments. -/
theorem block_att (c : Dev nD) (t : Fin cfg0.N) (i : Fin 128) (r : Fin 3) (g : Fin 2) (d : Fin 64) :
    outsAt0 m c t (ix3 0 i ⟨128 * r.val + 64 * g.val + d.val, by omega⟩)
      = att (m ((c : Thread nD τ).loc main_arg0)) (m ((c : Thread nD τ).loc main_arg1)) (m ((c : Thread nD τ).loc main_arg2))
          (m ((c : Thread nD τ).loc main_arg3)) ⟨t.val / 32, by have := lt_N t; omega⟩ ⟨t.val % 32, by omega⟩ i r g d := by
  have ht := lt_N t
  have hg := g.isLt
  have hr := r.isLt
  have hd := d.isLt
  refine (block_eq m c t i r g d).trans ?_
  have hk := stack_eq (iblk m c 2 t) (iblk m c 3 t) (iblk m c 4 t) (iblk m c 5 t) (m ((c : Thread nD τ).loc main_arg1) : S16x4352x128.Idx → EReal)
    ⟨t.val / 32, by omega⟩ ⟨t.val % 32, by omega⟩
    (fun i x => (blk2 m c t i x).trans (by rw [V_k])) (fun i x => (blk3 m c t i x).trans (by rw [V_k]))
    (fun i x => (blk4 m c t i x).trans (by rw [V_k])) (fun i x => (blk5 m c t i x).trans (by rw [V_k]))
  have hv := stack_eq (iblk m c 6 t) (iblk m c 7 t) (iblk m c 8 t) (iblk m c 9 t) (m ((c : Thread nD τ).loc main_arg2) : S16x4352x128.Idx → EReal)
    ⟨t.val / 32, by omega⟩ ⟨t.val % 32, by omega⟩
    (fun i x => (blk6 m c t i x).trans (by rw [V_v])) (fun i x => (blk7 m c t i x).trans (by rw [V_v]))
    (fun i x => (blk8 m c t i x).trans (by rw [V_v])) (fun i x => (blk9 m c t i x).trans (by rw [V_v]))
  have hn := (idx t).1
  unfold att
  refine soft_congr (fun y => ?_) ?_ (fun y => ?_)
  · unfold sc
    rw [hn]
    refine if_congr Iff.rfl ?_ rfl
    unfold score
    rw [sum_mul_nonneg _ _ (by norm_num)]
    refine Finset.sum_congr rfl fun x _ => ?_
    have hx := x.isLt
    rw [hk y, blk1, V_q, slabs_apply, mul_right_comm]
    refine congrArg (· * _) (congrArg₂ (fun u v : EReal => u * v) ?_ ?_)
    · exact congrArg (fun u => (m ((c : Thread nD τ).loc main_arg0) : S16x4352x384.Idx → EReal) (ix3 _ _ u)) (Fin.ext (by dsimp only; omega))
    · exact congrArg (fun u => (m ((c : Thread nD τ).loc main_arg1) : S16x4352x128.Idx → EReal) (ix3 _ _ u)) (Fin.ext (by dsimp only; omega))
  · unfold snk
    rw [blk0, V_s_apply m c ⟨3 * g.val + r.val, by omega⟩ (by dsimp only; omega)]
  · rw [hv y]
    exact congrArg (fun u => (m ((c : Thread nD τ).loc main_arg2) : S16x4352x128.Idx → EReal) (ix3 _ _ u)) (Fin.ext (by dsimp only; omega))

/-- The result array after the kernel's last step, an index at a time. -/
theorem final (c : Dev nD) : (dats m 0 c).arrAt 10 cfg0.N = fun i : S16x4096x384.Idx =>
    whole (m ((c : Thread nD τ).loc main_arg0)) (m ((c : Thread nD τ).loc main_arg1)) (m ((c : Thread nD τ).loc main_arg2))
      (m ((c : Thread nD τ).loc main_arg3)) (i 0) (i 1) (i 2) := by
  refine (dats m 0 c).arrAt_eq_of_covers 10 _ (by decide +kernel) fun t hf y => ?_
  blk_simp
  rw [after0_10]
  have ht := lt_N t
  obtain ⟨i, x, hy⟩ : ∃ (i : Fin 128) (x : Fin 384), y = (ix3 (0 : Fin 1) i x : S1x128x384.Idx) :=
    ⟨y 1, y 2, by funext a; fin_cases a; exacts [Fin.ext (Nat.lt_one_iff.mp (y 0).isLt), rfl, rfl]⟩
  subst hy
  have he : ∀ f : S16x4096x384.Idx → EReal, f ((win0_10.blk t).view.emb (ix3 (0 : Fin 1) i x : S1x128x384.Idx))
      = f (ix3 ⟨t.val / 32, by omega⟩ ⟨t.val % 32 * 128 + i.val, by omega⟩ x) := by
    intro f
    blk_ext [idx t]
  refine Eq.trans ?_ (he (fun i => whole (m ((c : Thread nD τ).loc main_arg0)) (m ((c : Thread nD τ).loc main_arg1))
    (m ((c : Thread nD τ).loc main_arg2)) (m ((c : Thread nD τ).loc main_arg3)) (i 0) (i 1) (i 2))).symm
  have hx : x = ⟨128 * (x.val / 128) + 64 * (x.val / 64 % 2) + x.val % 64, by omega⟩ := Fin.ext (by dsimp only; omega)
  refine (congrArg (fun u => outsAt0 m c t (ix3 (0 : Fin 1) i u)) hx).trans ?_
  refine (block_att m c t i ⟨x.val / 128, by omega⟩ ⟨x.val / 64 % 2, by omega⟩ ⟨x.val % 64, by omega⟩).trans ?_
  have e1 : (⟨t.val % 32, by omega⟩ : Fin 32) = ⟨(t.val % 32 * 128 + i.val) / 128, by omega⟩ := Fin.ext (by dsimp only; omega)
  have e2 : i = ⟨(t.val % 32 * 128 + i.val) % 128, by omega⟩ := Fin.ext (by dsimp only; omega)
  show _ = whole _ _ _ _ (⟨t.val / 32, by omega⟩ : Fin 16) (⟨t.val % 32 * 128 + i.val, by omega⟩ : Fin 4096) x
  unfold whole
  exact congrArg₂ (fun n i => att (m ((c : Thread nD τ).loc main_arg0)) (m ((c : Thread nD τ).loc main_arg1)) (m ((c : Thread nD τ).loc main_arg2))
    (m ((c : Thread nD τ).loc main_arg3)) ⟨t.val / 32, by omega⟩ n i ⟨x.val / 128, by omega⟩ ⟨x.val / 64 % 2, by omega⟩ ⟨x.val % 64, by omega⟩) e1 e2

end Cert.KernelIdeal.Attn

end
-- ==== Proof.AttnRefA.lean ====
/-
  The windowed attention's reference, read an entry at a time: the banded keys and values, the mask, the scores.
-/
module

public import proofs.«01_k».proof.Proof.Gen.ReferenceIdeal.Read
public import proofs.«01_k».proof.Proof.AttnSoft
public import Idealize.ShloMosaic.Lib.Tactic
public import Idealize.ShloMosaic.Lib.Pointwise

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe Idealize.SL.Sem

theorem v9 (x : S16x4352x128.Idx → EReal) (b : Fin 16) (n : Fin 34) (p : Fin 128) (g : Fin 2) (d : Fin 64)
    (h : 128 ≤ n.val * 128 + p.val ∧ n.val * 128 + p.val - 128 < 4096) :
    val_main_v9 (F := Ideal) x (ix5 b n p g d)
      = x (ix3 b ⟨n.val * 128 + p.val - 128, by omega⟩ ⟨g.val * 64 + d.val, by omega⟩) := by
  generalize hR : x (ix3 b ⟨n.val * 128 + p.val - 128, by omega⟩ ⟨g.val * 64 + d.val, by omega⟩) = R
  pointwise [val_main_v9, val_main_v8, val_main_v7, val_main_v6]
  exact (dif_pos h).trans hR

/-- The keys in the band of block `n`, where the row lies in the sequence. -/
theorem v13 (x : S16x4352x128.Idx → EReal) (b : Fin 16) (n : Fin 32) (y : Fin 384) (g : Fin 2) (d : Fin 64)
    (h : 128 ≤ n.val * 128 + y.val ∧ n.val * 128 + y.val - 128 < 4096) :
    val_main_v13 (F := Ideal) x (ix5 b n y g d)
      = x (ix3 b ⟨n.val * 128 + y.val - 128, by omega⟩ ⟨g.val * 64 + d.val, by omega⟩) := by
  have hy := y.isLt
  have hn := n.isLt
  generalize hR : x (ix3 b ⟨n.val * 128 + y.val - 128, by omega⟩ ⟨g.val * 64 + d.val, by omega⟩) = R
  have hk := v9 x b
  unfold val_main_v13 val_main_v10 val_main_v11 val_main_v12
  generalize val_main_v9 (F := Ideal) x = k at hk ⊢
  have e : ∀ (o : Nat) (ho : o < 4352) (h' : o = n.val * 128 + y.val - 128), x (ix3 b ⟨o, ho⟩ ⟨g.val * 64 + d.val, by omega⟩) = R :=
    fun o ho h' => by subst h'; exact hR
  pointwise
  rcases Nat.lt_or_ge y.val 128 with h1 | h1
  · exact (dif_pos h1).trans ((hk ⟨n.val, by omega⟩ ⟨y.val, h1⟩ g d ⟨by dsimp only; omega, by dsimp only; omega⟩).trans
      (e _ _ (by dsimp only)))
  refine (dif_neg (Nat.not_lt.mpr h1)).trans ?_
  rcases Nat.lt_or_ge (y.val - 128) 128 with h2 | h2
  · exact (dif_pos h2).trans ((hk ⟨1 + n.val, by omega⟩ ⟨y.val - 128, h2⟩ g d ⟨by dsimp only; omega, by dsimp only; omega⟩).trans
      (e _ _ (by dsimp only; omega)))
  refine (dif_neg (Nat.not_lt.mpr h2)).trans ?_
  exact (hk ⟨2 + n.val, by omega⟩ ⟨y.val - 128 - 128, by omega⟩ g d ⟨by dsimp only; omega, by dsimp only; omega⟩).trans
      (e _ _ (by dsimp only; omega))

theorem v17 (x : S16x4352x128.Idx → EReal) (b : Fin 16) (n : Fin 34) (p : Fin 128) (g : Fin 2) (d : Fin 64)
    (h : 128 ≤ n.val * 128 + p.val ∧ n.val * 128 + p.val - 128 < 4096) :
    val_main_v17 (F := Ideal) x (ix5 b n p g d)
      = x (ix3 b ⟨n.val * 128 + p.val - 128, by omega⟩ ⟨g.val * 64 + d.val, by omega⟩) := by
  generalize hR : x (ix3 b ⟨n.val * 128 + p.val - 128, by omega⟩ ⟨g.val * 64 + d.val, by omega⟩) = R
  pointwise [val_main_v17, val_main_v16, val_main_v15, val_main_v14]
  exact (dif_pos h).trans hR

/-- The values in the band of block `n`, where the row lies in the sequence. -/
theorem v21 (x : S16x4352x128.Idx → EReal) (b : Fin 16) (n : Fin 32) (y : Fin 384) (g : Fin 2) (d : Fin 64)
    (h : 128 ≤ n.val * 128 + y.val ∧ n.val * 128 + y.val - 128 < 4096) :
    val_main_v21 (F := Ideal) x (ix5 b n y g d)
      = x (ix3 b ⟨n.val * 128 + y.val - 128, by omega⟩ ⟨g.val * 64 + d.val, by omega⟩) := by
  have hy := y.isLt
  have hn := n.isLt
  generalize hR : x (ix3 b ⟨n.val * 128 + y.val - 128, by omega⟩ ⟨g.val * 64 + d.val, by omega⟩) = R
  have hk := v17 x b
  unfold val_main_v21 val_main_v18 val_main_v19 val_main_v20
  generalize val_main_v17 (F := Ideal) x = k at hk ⊢
  have e : ∀ (o : Nat) (ho : o < 4352) (h' : o = n.val * 128 + y.val - 128), x (ix3 b ⟨o, ho⟩ ⟨g.val * 64 + d.val, by omega⟩) = R :=
    fun o ho h' => by subst h'; exact hR
  pointwise
  rcases Nat.lt_or_ge y.val 128 with h1 | h1
  · exact (dif_pos h1).trans ((hk ⟨n.val, by omega⟩ ⟨y.val, h1⟩ g d ⟨by dsimp only; omega, by dsimp only; omega⟩).trans
      (e _ _ (by dsimp only)))
  refine (dif_neg (Nat.not_lt.mpr h1)).trans ?_
  rcases Nat.lt_or_ge (y.val - 128) 128 with h2 | h2
  · exact (dif_pos h2).trans ((hk ⟨1 + n.val, by omega⟩ ⟨y.val - 128, h2⟩ g d ⟨by dsimp only; omega, by dsimp only; omega⟩).trans
      (e _ _ (by dsimp only; omega)))
  refine (dif_neg (Nat.not_lt.mpr h2)).trans ?_
  exact (hk ⟨2 + n.val, by omega⟩ ⟨y.val - 128 - 128, by omega⟩ g d ⟨by dsimp only; omega, by dsimp only; omega⟩).trans
      (e _ _ (by dsimp only; omega))

theorem v5 (x : S16x4352x384.Idx → EReal) (b : Fin 16) (n : Fin 32) (i : Fin 128) (g : Fin 2) (r : Fin 3) (d : Fin 64) :
    val_main_v5 (F := Ideal) x (ix6 b n i g r d)
      = x (ix3 b ⟨n.val * 128 + i.val, by omega⟩ ⟨g.val * 192 + r.val * 64 + d.val, by omega⟩) := by
  pointwise [val_main_v5, val_main_v0]

theorem dist_eq (n : Fin 32) (i : Fin 128) (y : Fin 384) :
    IntOp.subi (IntOp.addi (IntOp.muli (BitVec.ofNat 32 n.val) 128#32) (BitVec.ofNat 32 i.val))
      (IntOp.addi (IntOp.muli (IntOp.subi (BitVec.ofNat 32 n.val) 1#32) 128#32) (BitVec.ofNat 32 y.val))
      = BitVec.ofNat 32 (128 + i.val) - BitVec.ofNat 32 y.val := by
  have := n.isLt; have := i.isLt; have := y.isLt
  show (BitVec.ofNat 32 n.val * 128#32 + BitVec.ofNat 32 i.val) - ((BitVec.ofNat 32 n.val - 1#32) * 128#32 + BitVec.ofNat 32 y.val) = _
  apply BitVec.eq_of_toNat_eq
  simp only [BitVec.toNat_sub, BitVec.toNat_add, BitVec.toNat_mul, BitVec.toNat_ofNat]
  omega

theorem near_all : ∀ (i : Fin 128) (y : Fin 384), IntOp.cmpi .sle (IntOp.absi (BitVec.ofNat 32 (128 + i.val) - BitVec.ofNat 32 y.val)) 128#32
    = BitVec.ofBool (decide (i.val ≤ y.val ∧ y.val ≤ 256 + i.val)) := by
  decide +kernel

theorem inside_all : ∀ (n : Fin 32) (y : Fin 384),
    IntOp.andi (IntOp.cmpi .sge (IntOp.addi (IntOp.muli (IntOp.subi (BitVec.ofNat 32 n.val) 1#32) 128#32) (BitVec.ofNat 32 y.val)) 0#32)
      (IntOp.cmpi .slt (IntOp.addi (IntOp.muli (IntOp.subi (BitVec.ofNat 32 n.val) 1#32) 128#32) (BitVec.ofNat 32 y.val)) 4096#32)
    = BitVec.ofBool (decide ((128 ≤ y.val ∨ 0 < n.val) ∧ (y.val < 256 ∨ n.val < 31))) := by
  decide +kernel

theorem and_bool' (p q : Bool) : IntOp.andi (BitVec.ofBool p) (BitVec.ofBool q) = BitVec.ofBool (p && q) := by cases p <;> cases q <;> rfl

theorem andi_assoc (a b c : BitVec 1) : IntOp.andi (IntOp.andi a b) c = IntOp.andi a (IntOp.andi b c) := BitVec.and_assoc a b c

/-- The mask of a block: what the window sees. -/
theorem v53 (n : Fin 32) (i : Fin 128) (y : Fin 384) :
    val_main_v53 (F := Ideal) (ix3 n i y) = BitVec.ofBool (decide (Cert.KernelIdeal.Attn.sees n.val i.val ⟨y.val, by omega⟩)) := by
  generalize hR : BitVec.ofBool (decide (Cert.KernelIdeal.Attn.sees n.val i.val ⟨y.val, by omega⟩)) = R
  pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_c_1, val_main_c_2, val_main_c_3, val_main_c_4, val_main_c_5, val_main_c_6]
  refine (andi_assoc _ _ _).trans ?_
  refine (congrArg₂ IntOp.andi ((congrArg (fun w => IntOp.cmpi .sle (IntOp.absi w) 128#32) (dist_eq n i y)).trans (near_all i y)) (inside_all n y)).trans ?_
  rw [and_bool', ← hR, ← Bool.decide_and]
  congr 1
  apply decide_eq_decide.mpr
  have := n.isLt; have := i.isLt; have := y.isLt
  unfold Cert.KernelIdeal.Attn.sees
  dsimp only
  omega

end Cert.ReferenceIdeal.Attn

end
-- ==== Proof.AttnRefB.lean ====
/-
  The windowed attention's reference: the scores of a block's queries against its band, against the context, and the sink.
-/
module

public import proofs.«01_k».proof.Proof.AttnRefA
public import proofs.«01_k».proof.Proof.AttnHost

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe Idealize.SL.Sem
open Cert.KernelIdeal.Attn (sees sel_bool kp sc att soft)

variable (x0 : S16x4352x384.Idx → EReal) (x1 : S16x4352x128.Idx → EReal) (x3 : S6.Idx → EReal)

theorem v57 (b : Fin 16) (n : Fin 32) (g : Fin 2) (r : Fin 3) (i : Fin 128) (y : Fin 384) :
    val_main_v57 (F := Ideal) x0 x1 (ix6 b n g r i y)
      = (∑ x : Fin 64, val_main_v13 (F := Ideal) x1 (ix5 b n y g x) * val_main_v5 (F := Ideal) x0 (ix6 b n i g r x) : EReal) * Ideal.ofBits FTy.f32 0x3E000000#32 := by
  unfold val_main_v57 val_main_v56 val_main_v55 val_main_v54
  generalize val_main_v13 (F := Ideal) x1 = k
  generalize val_main_v5 (F := Ideal) x0 = q
  pointwise [val_main_cst]

theorem ninf : Ideal.ofBits FTy.f32 0xFF800000#32 = (⊥ : EReal) := by simp [Ideal.ofBits, Ideal.ieee]

/-- The scores against the band. -/
theorem v59 (b : Fin 16) (n : Fin 32) (g : Fin 2) (r : Fin 3) (i : Fin 128) (y : Fin 384) :
    val_main_v59 (F := Ideal) x0 x1 (ix6 b n g r i y) = sc x0 x1 b n i g r ⟨y.val, by omega⟩ := by
  have hm := v53 n i y
  have hw := v57 x0 x1 b n g r i y
  have e : val_main_v59 (F := Ideal) x0 x1 (ix6 b n g r i y)
      = Scalar.select (val_main_v53 (F := Ideal) (ix3 n i y)) (val_main_v57 (F := Ideal) x0 x1 (ix6 b n g r i y)) (⊥ : EReal) := by
    rw [← ninf]
    unfold val_main_v59
    generalize val_main_v57 (F := Ideal) x0 x1 = w
    unfold val_main_call2_v1 val_main_v58
    generalize val_main_v53 (F := Ideal) = k
    pointwise [val_main_call2_v0, val_main_call2_v2, val_main_cst_7]
    rfl
  rw [e, hm, hw, sel_bool]
  unfold sc
  by_cases h : sees n.val i.val ⟨y.val, by omega⟩
  · rw [if_pos h, if_pos h, Cert.KernelIdeal.Attn.eighth]
    have hy := y.isLt
    have hn := n.isLt
    have hr : 128 ≤ n.val * 128 + y.val ∧ n.val * 128 + y.val - 128 < 4096 := by
      unfold sees at h
      dsimp only at h
      omega
    have hk : kp n ⟨y.val, by omega⟩ = ⟨n.val * 128 + y.val - 128, by omega⟩ := by
      unfold sees at h
      dsimp only at h
      apply Fin.ext
      unfold kp
      dsimp only
      split_ifs <;> omega
    refine congrArg (· * _) (Finset.sum_congr rfl fun x _ => ?_)
    rw [v13 x1 b n y g x hr, v5, hk, mul_comm]
  · rw [if_neg h, if_neg h]

/-- The scores against the context. -/
theorem v63 (b : Fin 16) (n : Fin 32) (g : Fin 2) (r : Fin 3) (i : Fin 128) (y : Fin 256) :
    val_main_v63 (F := Ideal) x0 x1 (ix6 b n g r i y) = sc x0 x1 b n i g r ⟨384 + y.val, by omega⟩ := by
  have hq := fun x => v5 x0 b n i g r x
  have e : val_main_v63 (F := Ideal) x0 x1 (ix6 b n g r i y)
      = (∑ x : Fin 64, x1 (ix3 b ⟨4096 + y.val, by omega⟩ ⟨g.val * 64 + x.val, by omega⟩) * val_main_v5 (F := Ideal) x0 (ix6 b n i g r x) : EReal) * Ideal.ofBits FTy.f32 0x3E000000#32 := by
    unfold val_main_v63 val_main_v61 val_main_v60
    generalize val_main_v5 (F := Ideal) x0 = q
    pointwise [val_main_v62, val_main_v3, val_main_v1, val_main_cst_8]
  rw [e]
  unfold sc
  have hs : sees n.val i.val ⟨384 + y.val, by omega⟩ := by
    unfold sees
    dsimp only
    omega
  have hk : kp n ⟨384 + y.val, by omega⟩ = ⟨4096 + y.val, by omega⟩ := by
    apply Fin.ext
    unfold kp
    dsimp only
    split_ifs <;> omega
  rw [if_pos hs, Cert.KernelIdeal.Attn.eighth, hk]
  exact congrArg (· * _) (Finset.sum_congr rfl fun x _ => by rw [hq, mul_comm])

theorem v66 (b : Fin 16) (n : Fin 32) (g : Fin 2) (r : Fin 3) (i : Fin 128) (y : Fin 641) :
    val_main_v66 (F := Ideal) x0 x1 x3 (ix6 b n g r i y)
      = if h : y.val < 640 then sc x0 x1 b n i g r ⟨y.val, h⟩ else x3 (ix1 ⟨3 * g.val + r.val, by omega⟩) := by
  generalize hR : (if h : y.val < 640 then sc x0 x1 b n i g r ⟨y.val, h⟩ else x3 (ix1 ⟨3 * g.val + r.val, by omega⟩)) = R
  have h1 := fun y => v59 x0 x1 b n g r i y
  have h2 := fun y => v63 x0 x1 b n g r i y
  unfold val_main_v66
  generalize val_main_v59 (F := Ideal) x0 x1 = s at h1 ⊢
  generalize val_main_v63 (F := Ideal) x0 x1 = c at h2 ⊢
  pointwise [val_main_v65, val_main_v64]
  refine Eq.trans ?_ hR
  have hy := y.isLt
  rcases Nat.lt_or_ge y.val 384 with h3 | h3
  · refine (dif_pos h3).trans ((h1 ⟨y.val, h3⟩).trans (Eq.trans ?_ (dif_pos (show y.val < 640 by omega)).symm))
    exact congrArg (sc x0 x1 b n i g r) (Fin.ext (by dsimp only))
  refine (dif_neg (Nat.not_lt.mpr h3)).trans ?_
  rcases Nat.lt_or_ge y.val 640 with h4 | h4
  · refine (dif_pos (show y.val - 384 < 256 by omega)).trans ((h2 ⟨y.val - 384, by omega⟩).trans (Eq.trans ?_ (dif_pos h4).symm))
    exact congrArg (sc x0 x1 b n i g r) (Fin.ext (by dsimp only; omega))
  · refine (dif_neg (show ¬ y.val - 384 < 256 by omega)).trans (Eq.trans ?_ (dif_neg (Nat.not_lt.mpr h4)).symm)
    exact congrArg (fun w => x3 (ix1 w)) (Fin.ext (by dsimp only; omega))

theorem v66_score (b : Fin 16) (n : Fin 32) (g : Fin 2) (r : Fin 3) (i : Fin 128) (y : Fin 640) :
    val_main_v66 (F := Ideal) x0 x1 x3 (ix6 b n g r i y.castSucc) = sc x0 x1 b n i g r y :=
  (v66 x0 x1 x3 b n g r i y.castSucc).trans (dif_pos y.isLt)

theorem v66_sink (b : Fin 16) (n : Fin 32) (g : Fin 2) (r : Fin 3) (i : Fin 128) :
    val_main_v66 (F := Ideal) x0 x1 x3 (ix6 b n g r i (Fin.last 640)) = x3 (ix1 ⟨3 * g.val + r.val, by omega⟩) :=
  (v66 x0 x1 x3 b n g r i (Fin.last 640)).trans (dif_neg (by decide))

end Cert.ReferenceIdeal.Attn

end
-- ==== Proof.AttnRefC.lean ====
/-
  The windowed attention's reference from the scores on: the row's greatest score, the weights, their sum, the weighed values.
-/
module

public import proofs.«01_k».proof.Proof.AttnRefB

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe Idealize.SL.Sem
open Cert.KernelIdeal.Attn (sees sel_bool kp sc att soft)

variable (x0 : S16x4352x384.Idx → EReal) (x1 x2 : S16x4352x128.Idx → EReal) (x3 : S6.Idx → EReal)

/-- The greatest score of a row, the sink's among them. -/
def top (b : Fin 16) (n : Fin 32) (g : Fin 2) (r : Fin 3) (i : Fin 128) : EReal :=
  max (Finset.fold max (⊥ : EReal) (sc x0 x1 b n i g r) Finset.univ) (x3 (ix1 ⟨3 * g.val + r.val, by omega⟩))

/-- The greatest along one axis. -/
theorem host_max {s t u : Shape} {a : Fin s.rank} (h' : s.ReducesTo [a] t) (h : s.Reduces [a] t) (hu : 0 < u.numel)
    (w : s.Idx → Ideal .f32) (init : u.Idx → Ideal .f32) (j : t.Idx) (n : Nat) (hn : s.size a = n) (f : Fin n → EReal)
    (hf : ∀ k : Fin n, w (h.lift j (Fin.cast hn.symm k)) = f k) (hi : init (Shape.Idx.first hu) = (⊥ : EReal)) :
    Host.reduce (FloatOps.maximumf (F := Ideal) (φ := .f32)) w init h' hu j = Finset.fold max (⊥ : EReal) f Finset.univ := by
  subst hn
  rw [Host.reduce_eq_fold_single _ w init h' h hu j, hi]
  exact congrArg (fun g => Finset.fold max (⊥ : EReal) g Finset.univ) (funext hf)

theorem v67 (b : Fin 16) (n : Fin 32) (g : Fin 2) (r : Fin 3) (i : Fin 128) :
    val_main_v67 (F := Ideal) x0 x1 x3 (ix5 b n g r i) = top x0 x1 x3 b n g r i := by
  have h1 := fun y => v66_score x0 x1 x3 b n g r i y
  have h2 := v66_sink x0 x1 x3 b n g r i
  unfold val_main_v67
  generalize val_main_v66 (F := Ideal) x0 x1 x3 = w at h1 h2 ⊢
  have hred : S16x32x2x3x128x641.Reduces [5] S16x32x2x3x128 := by decide
  refine (host_max reducesTo_S16x32x2x3x128x641_S16x32x2x3x128_d5 hred h_S_ w (val_main_cst_9 (F := Ideal)) (ix5 b n g r i) 641 rfl
    (fun k => w (ix6 b n g r i k)) (fun k => congrArg w (funext fun a => Fin.ext (by
      match a with | ⟨0, _⟩ => rfl | ⟨1, _⟩ => rfl | ⟨2, _⟩ => rfl | ⟨3, _⟩ => rfl | ⟨4, _⟩ => rfl | ⟨5, _⟩ => rfl))) ninf).trans ?_
  refine (Cert.KernelIdeal.Attn.fold_last _).trans ?_
  unfold top
  exact congrArg₂ max (congrArg (fun f : Fin 640 → EReal => Finset.fold max (⊥ : EReal) f Finset.univ) (funext h1)) h2

theorem max_ninf (t : Ideal .f32) : FloatOps.maximumf (FloatOps.ofBits .f32 0xFF800000#32 : Ideal .f32) t = t := by
  have h : (FloatOps.ofBits .f32 0xFF800000#32 : Ideal .f32) = (⊥ : EReal) := ninf
  rw [h]
  exact max_eq_right (bot_le (a := (t : EReal)))

theorem v69 (b : Fin 16) (n : Fin 32) (g : Fin 2) (r : Fin 3) (i : Fin 128) :
    val_main_v69 (F := Ideal) x0 x1 x3 (ix5 b n g r i) = top x0 x1 x3 b n g r i := by
  have h := v67 x0 x1 x3 b n g r i
  rw [val_main_v69_apply, val_main_v68_apply, val_main_cst_10_apply, max_ninf]
  exact h

theorem v73 (b : Fin 16) (n : Fin 32) (g : Fin 2) (r : Fin 3) (i : Fin 128) (y : Fin 641) :
    val_main_v73 (F := Ideal) x0 x1 x3 (ix6 b n g r i y)
      = Ideal.exp (val_main_v66 (F := Ideal) x0 x1 x3 (ix6 b n g r i y) - top x0 x1 x3 b n g r i : EReal) := by
  rw [← v69]
  unfold val_main_v73 val_main_v72 val_main_v71 val_main_v70
  generalize val_main_v69 (F := Ideal) x0 x1 x3 = u
  generalize val_main_v66 (F := Ideal) x0 x1 x3 = w
  pointwise

/-- The sum of a row's weights, the sink's among them. -/
def total (b : Fin 16) (n : Fin 32) (g : Fin 2) (r : Fin 3) (i : Fin 128) : EReal :=
  ∑ y : Fin 640, Ideal.exp (sc x0 x1 b n i g r y - top x0 x1 x3 b n g r i)
    + Ideal.exp (x3 (ix1 ⟨3 * g.val + r.val, by omega⟩) - top x0 x1 x3 b n g r i)

theorem v74 (b : Fin 16) (n : Fin 32) (g : Fin 2) (r : Fin 3) (i : Fin 128) :
    val_main_v74 (F := Ideal) x0 x1 x3 (ix5 b n g r i) = total x0 x1 x3 b n g r i := by
  have h : val_main_v74 (F := Ideal) x0 x1 x3 (ix5 b n g r i)
      = (Ideal.ofBits FTy.f32 0#32 : EReal) + ∑ k : Fin 641, val_main_v73 (F := Ideal) x0 x1 x3 (ix6 b n g r i k) := by
    refine (val_main_v74_apply x0 x1 x3 (ix5 b n g r i)).trans (congrArg₂ (fun u v : EReal => u + v) rfl (Finset.sum_congr rfl fun k _ => ?_))
    exact congrArg _ (funext fun a => by match a with | ⟨0, _⟩ => rfl | ⟨1, _⟩ => rfl | ⟨2, _⟩ => rfl | ⟨3, _⟩ => rfl | ⟨4, _⟩ => rfl | ⟨5, _⟩ => rfl)
  have hz : (Ideal.ofBits FTy.f32 0#32 : EReal) = 0 := by simp [Ideal.ofBits, Ideal.ieee]
  rw [h, hz, zero_add, Fin.sum_univ_castSucc]
  unfold total
  refine congrArg₂ (fun u v : EReal => u + v) (Finset.sum_congr rfl fun y _ => ?_) ?_
  · rw [v73, v66_score]
  · rw [v73, v66_sink]

/-- The weight of a column of the window. -/
theorem v77 (b : Fin 16) (n : Fin 32) (g : Fin 2) (r : Fin 3) (i : Fin 128) (y : Fin 641) (h : y.val < 640) :
    val_main_v77 (F := Ideal) x0 x1 x3 (ix6 b n g r i y)
      = Ideal.div (Ideal.exp (sc x0 x1 b n i g r ⟨y.val, h⟩ - top x0 x1 x3 b n g r i)) (total x0 x1 x3 b n g r i) := by
  have e : val_main_v77 (F := Ideal) x0 x1 x3 (ix6 b n g r i y)
      = Ideal.div (val_main_v73 (F := Ideal) x0 x1 x3 (ix6 b n g r i y)) (val_main_v74 (F := Ideal) x0 x1 x3 (ix5 b n g r i)) := by
    unfold val_main_v77 val_main_v76 val_main_v75
    generalize val_main_v74 (F := Ideal) x0 x1 x3 = t
    generalize val_main_v73 (F := Ideal) x0 x1 x3 = u
    pointwise
  rw [e, v74, v73, ← v66_score x0 x1 x3 b n g r i ⟨y.val, h⟩]
  rfl

end Cert.ReferenceIdeal.Attn

end
-- ==== Proof.AttnRefD.lean ====
/-
  The windowed attention's reference to its result: the weighed values and the row they come to.
-/
module

public import proofs.«01_k».proof.Proof.AttnRefC

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe Idealize.SL.Sem
open Cert.KernelIdeal.Attn (sees sel_bool kp sc att soft)

variable (x0 : S16x4352x384.Idx → EReal) (x1 x2 : S16x4352x128.Idx → EReal) (x3 : S6.Idx → EReal)

theorem v80 (b : Fin 16) (n : Fin 32) (g : Fin 2) (r : Fin 3) (i : Fin 128) (d : Fin 64) :
    val_main_v80 (F := Ideal) x0 x1 x2 x3 (ix6 b n i r g d)
      = (∑ x : Fin 384, val_main_v21 (F := Ideal) x2 (ix5 b n x g d) * val_main_v78 (F := Ideal) x0 x1 x3 (ix6 b n g r i x) : EReal) := by
  unfold val_main_v80 val_main_v79
  generalize val_main_v78 (F := Ideal) x0 x1 x3 = u
  generalize val_main_v21 (F := Ideal) x2 = w
  pointwise

theorem v83 (b : Fin 16) (n : Fin 32) (g : Fin 2) (r : Fin 3) (i : Fin 128) (d : Fin 64) :
    val_main_v83 (F := Ideal) x0 x1 x2 x3 (ix6 b n i r g d)
      = (∑ x : Fin 256, x2 (ix3 b ⟨4096 + x.val, by omega⟩ ⟨g.val * 64 + d.val, by omega⟩) * val_main_v81 (F := Ideal) x0 x1 x3 (ix6 b n g r i x) : EReal) := by
  unfold val_main_v83 val_main_v82
  generalize val_main_v81 (F := Ideal) x0 x1 x3 = u
  pointwise [val_main_v4, val_main_v2]

theorem v78 (b : Fin 16) (n : Fin 32) (g : Fin 2) (r : Fin 3) (i : Fin 128) (y : Fin 384) :
    val_main_v78 (F := Ideal) x0 x1 x3 (ix6 b n g r i y) = val_main_v77 (F := Ideal) x0 x1 x3 (ix6 b n g r i ⟨y.val, by omega⟩) := by
  unfold val_main_v78
  generalize val_main_v77 (F := Ideal) x0 x1 x3 = u
  pointwise

theorem v81 (b : Fin 16) (n : Fin 32) (g : Fin 2) (r : Fin 3) (i : Fin 128) (y : Fin 256) :
    val_main_v81 (F := Ideal) x0 x1 x3 (ix6 b n g r i y) = val_main_v77 (F := Ideal) x0 x1 x3 (ix6 b n g r i ⟨384 + y.val, by omega⟩) := by
  unfold val_main_v81
  generalize val_main_v77 (F := Ideal) x0 x1 x3 = u
  pointwise

theorem v86 (b : Fin 16) (p : Fin 4096) (c : Fin 384) :
    val_main_v86 (F := Ideal) x0 x1 x2 x3 (ix3 b p c)
      = (val_main_v80 (F := Ideal) x0 x1 x2 x3 (ix6 b ⟨p.val / 128, by omega⟩ ⟨p.val % 128, by omega⟩ ⟨c.val / 128, by omega⟩ ⟨c.val / 64 % 2, by omega⟩ ⟨c.val % 64, by omega⟩)
        + val_main_v83 (F := Ideal) x0 x1 x2 x3 (ix6 b ⟨p.val / 128, by omega⟩ ⟨p.val % 128, by omega⟩ ⟨c.val / 128, by omega⟩ ⟨c.val / 64 % 2, by omega⟩ ⟨c.val % 64, by omega⟩) : EReal) := by
  unfold val_main_v86 val_main_v85 val_main_v84
  generalize val_main_v80 (F := Ideal) x0 x1 x2 x3 = u
  generalize val_main_v83 (F := Ideal) x0 x1 x2 x3 = w
  pointwise

theorem top_eq (b : Fin 16) (n : Fin 32) (g : Fin 2) (r : Fin 3) (i : Fin 128) : top x0 x1 x3 b n g r i
    = max (Finset.fold max (⊥ : EReal) (sc x0 x1 b n i g r) Finset.univ) (x3 (ix1 ⟨3 * g.val + r.val, by omega⟩)) := rfl

/-- Finite queries, keys and sink: the reference's entry. -/
theorem main (hs : ∀ b n i g r y, sc x0 x1 b n i g r y ≠ ⊤) (hz : ∀ j : Fin 6, ∃ z : ℝ, x3 (ix1 j) = (z : EReal)) (b : Fin 16) (p : Fin 4096) (c : Fin 384) :
    val_main_v86 (F := Ideal) x0 x1 x2 x3 (ix3 b p c)
      = att x0 x1 x2 x3 b ⟨p.val / 128, by omega⟩ ⟨p.val % 128, by omega⟩ ⟨c.val / 128, by omega⟩ ⟨c.val / 64 % 2, by omega⟩ ⟨c.val % 64, by omega⟩ := by
  rw [v86]
  generalize (⟨p.val / 128, by omega⟩ : Fin 32) = n
  generalize (⟨p.val % 128, by omega⟩ : Fin 128) = i
  generalize (⟨c.val / 128, by omega⟩ : Fin 3) = r
  generalize (⟨c.val / 64 % 2, by omega⟩ : Fin 2) = g
  generalize (⟨c.val % 64, by omega⟩ : Fin 64) = d
  obtain ⟨z, hz⟩ := hz ⟨3 * g.val + r.val, by omega⟩
  unfold att
  rw [hz]
  let w : Fin 640 → EReal := fun y => if h : y.val < 384 then val_main_v21 (F := Ideal) x2 (ix5 b n ⟨y.val, h⟩ g d)
    else x2 (ix3 b (kp n y) ⟨g.val * 64 + d.val, by omega⟩)
  have hw : ∀ y, sc x0 x1 b n i g r y ≠ ⊥ → w y = x2 (ix3 b (kp n y) ⟨g.val * 64 + d.val, by omega⟩) := by
    intro y hy
    by_cases h : y.val < 384
    · refine (dif_pos h).trans ?_
      have hv : sees n.val i.val y := by
        by_contra hn
        exact hy (if_neg hn)
      have hn := n.isLt
      have hr : 128 ≤ n.val * 128 + y.val ∧ n.val * 128 + y.val - 128 < 4096 := by
        unfold sees at hv
        omega
      have hk : kp n y = ⟨n.val * 128 + y.val - 128, by omega⟩ := by
        unfold sees at hv
        apply Fin.ext
        unfold kp
        dsimp only
        split_ifs <;> omega
      rw [hk]
      exact v21 x2 b n ⟨y.val, h⟩ g d hr
    · exact dif_neg h
  refine Eq.trans ?_ (Cert.KernelIdeal.Attn.soft_eq (sc x0 x1 b n i g r) (hs b n i g r) z
    (fun y => x2 (ix3 b (kp n y) ⟨g.val * 64 + d.val, by omega⟩)) w hw (top x0 x1 x3 b n g r i) (total x0 x1 x3 b n g r i)
    ((top_eq x0 x1 x3 b n g r i).trans (by rw [hz])) (by unfold total; rw [hz]))
  rw [v80, v83]
  refine Eq.trans ?_ (Fin.sum_univ_add (a := 384) (b := 256) _).symm
  refine congrArg₂ (fun u v : EReal => u + v) (Finset.sum_congr rfl fun x _ => ?_) (Finset.sum_congr rfl fun x _ => ?_)
  · rw [v78, v77 x0 x1 x3 b n g r i ⟨x.val, by omega⟩ (by dsimp only; omega)]
    refine congrArg₂ (fun u v : EReal => u * v) ?_ rfl
    show _ = dite _ _ _
    refine Eq.trans ?_ (dif_pos (show (Fin.castAdd 256 x).val < 384 from x.isLt)).symm
    rfl
  · rw [v81, v77 x0 x1 x3 b n g r i ⟨384 + x.val, by omega⟩ (by dsimp only; omega)]
    refine congrArg₂ (fun u v : EReal => u * v) ?_ rfl
    show _ = dite _ _ _
    refine Eq.trans ?_ (dif_neg (show ¬ (Fin.natAdd 384 x).val < 384 by simp)).symm
    refine congrArg (fun q => x2 (ix3 b q ⟨g.val * 64 + d.val, by omega⟩)) (Fin.ext ?_)
    unfold kp
    simp only [Fin.val_natAdd]
    split_ifs <;> omega

end Cert.ReferenceIdeal.Attn

end
-- ==== Proof.AttnClaim.lean ====
/-
  The windowed attention's value claim: from finite queries, keys and sink, kernel and reference leave one array.
-/
module

public import proofs.«01_k».proof.Defs
public import proofs.«01_k».proof.Proof.AttnFinal
public import proofs.«01_k».proof.Proof.AttnRefD
public import Idealize.ShloMosaic.Lib.ReduceAll

@[expose] public section

set_option maxRecDepth 16384

noncomputable section

namespace Cert.AttnClaim

open Idealize.ShloMosaic Idealize.ShloMosaic.TcCoe Idealize.SL.Sem
open Cert.KernelIdeal.Attn (sc sees kp whole att)

theorem pre_facts : Cert.Pre_finite_scores.Facts where
  bcast_S_S16x4352x384 := by decide
  reducesTo_S16x4352x384_S_d0_1_2 := by decide
  h_S_ := by decide
  bcast_S_S16x4352x128 := by decide
  reducesTo_S16x4352x128_S_d0_1_2 := by decide
  bcast_S_S6 := by decide
  reducesTo_S6_S_d0 := by decide

theorem inf_top : (FloatOps.ofBits .f32 0x7F800000#32 : Ideal .f32) = (⊤ : EReal) := by
  show Ideal.ofBits .f32 0x7F800000#32 = ⊤
  simp [Ideal.ofBits, Ideal.ieee]

/-- A number whose magnitude is below infinity is real. -/
theorem real_of (x : Ideal .f32) (h : FloatOps.cmpf .olt (FloatOps.hostAbsf x) (FloatOps.ofBits .f32 0x7F800000#32 : Ideal .f32) = 1#1) :
    ∃ r : ℝ, x = (r : EReal) := by
  rw [inf_top] at h
  have h' : BitVec.ofBool (decide (max (x : EReal) (-(x : EReal)) < ⊤)) = 1#1 := h
  have hm : max (x : EReal) (-(x : EReal)) < ⊤ := by
    by_contra hn
    rw [decide_eq_false hn] at h'
    exact absurd h' (by decide)
  have h1 : (x : EReal) ≠ ⊤ := fun e => absurd (lt_of_le_of_lt (le_max_left _ _) hm) (by rw [e]; exact lt_irrefl _)
  have h2 : (x : EReal) ≠ ⊥ := fun e => absurd (lt_of_le_of_lt (le_max_right _ _) hm) (by rw [e, EReal.neg_bot]; exact lt_irrefl _)
  exact ⟨EReal.toReal x, (EReal.coe_toReal h1 h2).symm⟩

theorem and_one {a b : BitVec 1} (h : IntOp.andi a b = 1#1) : a = 1#1 ∧ b = 1#1 := by
  revert h; revert a b; decide

instance : Subsingleton Cert.Pre_finite_scores.S_.Idx := ⟨fun a b => funext fun x => x.elim0⟩

/-- What the precondition gives: real queries, keys and sink. -/
theorem finite [Cert.Pre_finite_scores.Facts] (q : FVec Ideal Cert.Pre_finite_scores.S16x4352x384 .f32) (k v : FVec Ideal Cert.Pre_finite_scores.S16x4352x128 .f32)
    (z : FVec Ideal Cert.Pre_finite_scores.S6 .f32) (h : Cert.Pre_finite_scores.fn (F := Ideal) q k v z = fun _ => 1#1) :
    (∀ i, ∃ r : ℝ, q i = (r : EReal)) ∧ (∀ i, ∃ r : ℝ, k i = (r : EReal)) ∧ (∀ i, ∃ r : ℝ, z i = (r : EReal)) := by
  have h0 := congrFun h (fun x => x.elim0)
  dsimp only [Cert.Pre_finite_scores.fn] at h0
  obtain ⟨h1, h2⟩ := and_one h0
  obtain ⟨h3, h4⟩ := and_one h1
  exact ⟨fun i => real_of _ (Host.reduce_andi_all _ _ _ _ _ h3 i), fun i => real_of _ (Host.reduce_andi_all _ _ _ _ _ h4 i),
    fun i => real_of _ (Host.reduce_andi_all _ _ _ _ _ h2 i)⟩

/-- Real queries and keys have real scores. -/
theorem sc_ne_top (q : Cert.KernelIdeal.S16x4352x384.Idx → EReal) (k : Cert.KernelIdeal.S16x4352x128.Idx → EReal)
    (hq : ∀ i, ∃ r : ℝ, q i = (r : EReal)) (hk : ∀ i, ∃ r : ℝ, k i = (r : EReal)) (b : Fin 16) (n : Fin 32) (i : Fin 128) (g : Fin 2) (r : Fin 3)
    (y : Fin 640) : sc q k b n i g r y ≠ ⊤ := by
  choose q' hq using hq
  choose k' hk using hk
  unfold sc
  split_ifs
  · simp only [hq, hk, ← EReal.coe_mul, Cert.KernelIdeal.Attn.sum_coe]
    exact EReal.coe_ne_top _
  · exact bot_ne_top

/-- The reference's whole result is what the kernel leaves. -/
theorem ref_eq (q : Cert.KernelIdeal.S16x4352x384.Idx → EReal) (k v : Cert.KernelIdeal.S16x4352x128.Idx → EReal) (z : Cert.KernelIdeal.S6.Idx → EReal)
    (hq : ∀ i, ∃ r : ℝ, q i = (r : EReal)) (hk : ∀ i, ∃ r : ℝ, k i = (r : EReal)) (hz : ∀ i, ∃ r : ℝ, z i = (r : EReal)) :
    Cert.ReferenceIdeal.Read.val_main_v86 (F := Ideal) q k v z = fun i : Cert.KernelIdeal.S16x4096x384.Idx => whole q k v z (i 0) (i 1) (i 2) := by
  funext i
  have hi : i = ix3 (i 0 : Fin 16) (i 1 : Fin 4096) (i 2 : Fin 384) := by funext a; fin_cases a <;> rfl
  rw [hi]
  exact Cert.ReferenceIdeal.Attn.main q k v z (fun b n i g r y => sc_ne_top q k hq hk b n i g r y) (fun j => hz _) _ _ _

/-- From memories that agree on the arguments, kernel and reference end with one result. -/
theorem algebraic (hp : Cert.Pre_finite_scores.Facts) : Cert.algebraic_KernelIdeal_ReferenceIdeal_pre_finite_scores := by
  intro m g m' g' hpre hag
  refine ⟨fun c => fun i : Cert.KernelIdeal.S16x4096x384.Idx => whole
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)) (i 0) (i 1) (i 2), ?_, ?_⟩
  · refine (θ_run _ _ _).mono (fun r h c => ?_) (Cert.KernelIdeal.Gen.run_main m g)
    exact ⟨(Cert.KernelIdeal.Value.post10 m r h c).trans (Cert.KernelIdeal.Attn.final m c),
      Cert.KernelIdeal.Value.kept_main_arg0 m r h c, Cert.KernelIdeal.Value.kept_main_arg1 m r h c,
      Cert.KernelIdeal.Value.kept_main_arg2 m r h c, Cert.KernelIdeal.Value.kept_main_arg3 m r h c⟩
  · refine (θ_run _ _ _).mono (fun r h c => ⟨(h c).1.trans ?_, (h c).2⟩) (Cert.ReferenceIdeal.Value.run m' g')
    obtain ⟨a0, a1, a2, a3⟩ := hag c
    obtain ⟨hq, hk, hz⟩ := finite _ _ _ _ (hpre c)
    rw [Cert.ReferenceIdeal.Read.val_main_v86_eq, a0, a1, a2, a3]
    exact ref_eq _ _ _ _ hq hk hz

end Cert.AttnClaim

end
-- ==== Proof.FfnCtxBlock.lean ====
module

public import proofs.«01_k».proof.Proof.Gen.Kernel4Ideal.Value
public import proofs.«01_k».proof.Proof.Decode
public import Idealize.ShloMosaic.Lib.Tactic
public import Idealize.ShloMosaic.Lib.Pipeline.ValueKit
public import Idealize.ShloMosaic.Lib.Pipeline.ValueKit.Held
public import Idealize.ShloMosaic.Lib.Pipeline.ReadBack
public import Idealize.ShloMosaic.Lib.Pipeline.Covers
public import Idealize.ShloMosaic.Lib.Pointwise

@[expose] public section

set_option maxRecDepth 16384

noncomputable section

namespace Cert.Kernel4Ideal.Ffn

open Cert.Kernel4Ideal Cert.Kernel4Ideal.Gen Cert.Decode Idealize.ShloMosaic Idealize.ShloMosaic.TcCoe Idealize.SL.Sem
open Idealize.ShloMosaic.Pipeline (Dat)

/-- What one step adds to the output block: the shares of its 256 hidden units. -/
def part (x : Vec Ideal S512x1024 .bf16) (g u : Vec Ideal S1x1x1024x256 .f32) (d : Vec Ideal S1x1x256x1024 .f32)
    (r : Fin 512) (l : Fin 1024) : EReal :=
  ∑ f : Fin 256, unit (fun k => x (ix2 r k)) (fun k => g (ix4 0 0 k f)) (fun k => u (ix4 0 0 k f)) (d (ix4 0 0 f l))

theorem pay5 (x : Vec Ideal S512x1024 .bf16) (g u : Vec Ideal S1x1x1024x256 .f32) (a : Vec Ideal S1x512x1024 .f32)
    (d : Vec Ideal S1x1x256x1024 .f32) (j : S1x512x1024.Idx) :
    k0_pay5 x g u a d j = a j + part x g u d (j 1) (j 2) := by
  unfold part unit
  idx_vars j
  pointwise [k0_pay5]
  have : j0 = 0 := Subsingleton.elim _ _
  subst this
  rfl

theorem pay4 (j : S1x512x1024.Idx) : k0_pay4 (F := Ideal) j = (0 : EReal) := by
  idx_vars j
  pointwise [k0_pay4]

/-- The unpacked rows of a block of words. -/
def rows (x : Vec Ideal S1x512x512 .i32) (j : S512x1024.Idx) : EReal :=
  unpack (fun l => x (ix3 0 (j 0) l)) (j 1)

theorem pay2 (x : Vec Ideal S1x512x512 .i32) (j : S512x512.Idx) :
    k0_pay2 (F := Ideal) x j = Ideal.ofBits .bf16 ((x (ix3 0 (j 0) (j 1)) : BitVec 32).extractLsb' 0 16) := by
  rw [← decode_lo]
  idx_vars j
  pointwise [k0_pay2, k0_pay1]

theorem pay3 (x : Vec Ideal S1x512x512 .i32) (j : S512x512.Idx) :
    k0_pay3 (F := Ideal) x j = Ideal.ofBits .bf16 ((x (ix3 0 (j 0) (j 1)) : BitVec 32).extractLsb' 16 16) := by
  rw [← decode_hi]
  idx_vars j
  pointwise [k0_pay3, k0_pay1]

/-- The two stores of a run's first step leave the unpacked rows. -/
theorem stored (x : Vec Ideal S1x512x512 .i32) (j : S512x1024.Idx) :
    View.canon (Val := Elt Ideal) (s := S512x1024) (e := .bf16)
      [⟨Rect.unit ![0, 512] ![512, 512] inb_S512x1024_S512x512_0_512, k0_pay3 x⟩,
        ⟨Rect.unit ![0, 0] ![512, 512] inb_S512x1024_S512x512_0_0, k0_pay2 x⟩] j = rows x j := by
  have hj0 : (j 0).val < 512 := (j 0).isLt
  have hj1 : (j 1).val < 1024 := (j 1).isLt
  unfold rows unpack
  canon_tiles z h
  · rw [pay3, dif_neg (by omega)]
    have e0 : (z 0 : Fin 512) = j 0 := Fin.ext h0.symm
    have e1 : (z 1 : Fin 512) = ⟨(j 1).val - 512, by omega⟩ := Fin.ext (by show (z 1).val = (j 1).val - 512; omega)
    rw [e0, e1]
    rfl
  · rw [pay2, dif_pos (by omega)]
    have e0 : (z 0 : Fin 512) = j 0 := Fin.ext h0.symm
    have e1 : (z 1 : Fin 512) = ⟨(j 1).val, by omega⟩ := Fin.ext h1.symm
    rw [e0, e1]
    rfl

variable (m : (ℓ : Loc nD τ sig) → Buf (Elt Ideal) ℓ)

/-- The scratch after step `t` holds the unpacked rows of its run's block of words. -/
theorem scratch_eq (c : Dev nD) (t : Fin cfg0.N) (j : S512x1024.Idx) :
    (outsAt0 m c t.val t.isLt).2 j = rows (iblk m c 0 ⟨11 * (t.val / 11), Pipeline.run_start_lt t⟩) j := by
  refine Pipeline.eq_of_write_hold_apply (fun n h => (outsAt0 m c n h).2) 11 (fun t => rows (iblk m c 0 t)) (fun t h0 j => ?_)
    (fun t h0 j => ?_) t j
  · rw [outsAt0_A m c t h0]
    dsimp only
    frame_out
    exact stored _ j
  · rw [outsAt0_B m c t h0]
    rfl

/-- The blocks' places, decided over the grid: expert, row block and hidden block of each step. -/
theorem idx : ∀ t : Fin cfg0.N, win0_0.index t = ![t.val / 11, 0, 0] ∧ win0_1.index t = ![0, t.val / 11, 0, t.val % 11]
   ∧ win0_2.index t = ![0, t.val / 11, 0, t.val % 11] ∧ win0_3.index t = ![0, t.val / 11, t.val % 11, 0]
   ∧ win0_4.index t = ![t.val / 11, 0, 0] := by decide +kernel

/-- Two steps of one run read one block of words. -/
theorem words_held (c : Dev nD) (s t : Fin cfg0.N) (h : s.val / 11 = t.val / 11) : iblk m c 0 s = iblk m c 0 t := by
  funext y
  blk_ext [iblk, V, idx s, idx t]

/-- After a run's last step its block is the sum of its 11 steps' shares. -/
theorem block_eq (c : Dev nD) (t : Fin cfg0.N) (hf : (cfg0.win 4).flush t = true) (j : S1x512x1024.Idx) :
    (outsAt0 m c t.val t.isLt).1 j
      = ∑ s : Fin 11, part (rows (iblk m c 0 ⟨11 * (t.val / 11) + s.val, Pipeline.run_point_lt_of_flush t ((flush0_4 t).mp hf) s⟩))
          (iblk m c 1 ⟨11 * (t.val / 11) + s.val, Pipeline.run_point_lt_of_flush t ((flush0_4 t).mp hf) s⟩)
          (iblk m c 2 ⟨11 * (t.val / 11) + s.val, Pipeline.run_point_lt_of_flush t ((flush0_4 t).mp hf) s⟩)
          (iblk m c 3 ⟨11 * (t.val / 11) + s.val, Pipeline.run_point_lt_of_flush t ((flush0_4 t).mp hf) s⟩) (j 1) (j 2) := by
  have key := Pipeline.eq_sum_fin_of_reset_step_apply_of_flush (fun n h => (outsAt0 m c n h).1) 11 (fun _ => (0 : EReal))
    (fun t j => part (rows (iblk m c 0 t)) (iblk m c 1 t) (iblk m c 2 t) (iblk m c 3 t) (j 1) (j 2))
    (fun t h0 j => ?_) (fun t h0 j => ?_) t ((flush0_4 t).mp hf) j
  · rw [key, zero_add]
  · rw [outsAt0_A m c t h0]
    frame_out
    rw [pay5, pay4]
    congr 2
    rw [View.readCov_eq_canon']
    funext i
    have hi : (Rect.unit ![0, 0] ![512, 1024] inb_S512x1024_S512x1024_0_0).idx i = i := by
      funext a; fin_cases a <;> apply Fin.ext <;> simp [LoadRect.idx, Rect.unit]
    exact (congrArg _ hi).trans (stored _ i)
  · rw [outsAt0_B m c t h0]
    frame_out
    simp only [read_unread_whole]
    rw [pay5]
    congr 2
    funext i
    rw [scratch_eq m c ⟨t.val - 1, Nat.lt_of_le_of_lt (Nat.sub_le _ _) t.isLt⟩ i]
    refine congrArg (fun x => rows x i) (words_held m c _ t ?_)
    show 11 * ((t.val - 1) / 11) / 11 = t.val / 11
    omega

/-- The layer at an index of the result, from the arrays the kernel is given. -/
def layer (x0 : S16x512x512.Idx → BitVec 32) (x1 x2 : S2x16x1024x2816.Idx → EReal) (x3 : S2x16x2816x1024.Idx → EReal)
    (e : Fin 16) (r : Fin 512) (d : Fin 1024) : EReal :=
  ∑ f : Fin 2816, unit (unpack fun l => x0 (ix3 e r l)) (fun k => x1 (ix4 0 e k f)) (fun k => x2 (ix4 0 e k f)) (x3 (ix4 0 e f d))

set_option maxHeartbeats 1000000 in
/-- The result array after the kernel's last step, an index at a time. -/
theorem final (c : Dev nD) : (dats m 0 c).arrAt 4 cfg0.N = fun i : S16x512x1024.Idx =>
    layer (m ((c : Thread nD τ).loc main_arg0)) (m ((c : Thread nD τ).loc main_arg1)) (m ((c : Thread nD τ).loc main_arg2))
      (m ((c : Thread nD τ).loc main_arg3)) (i 0) (i 1) (i 2) := by
  refine (dats m 0 c).arrAt_eq_of_covers 4 _ (by decide +kernel) fun t hf y => ?_
  blk_simp
  rw [after0_4]
  refine (block_eq m c t hf y).trans ?_
  unfold layer part
  refine Fin.sum_mul_add_congr fun s f hl => ?_
  have hs := s.isLt
  have h10 := (flush0_4 t).mp hf
  have ht := t.isLt
  have e11 : (11 * (t.val / 11) + s.val) / 11 = t.val / 11 := by omega
  have em : (11 * (t.val / 11) + s.val) % 11 = s.val := by omega
  have idx' := idx ⟨11 * (t.val / 11) + s.val, Pipeline.run_point_lt_of_flush t ((flush0_4 t).mp hf) s⟩
  simp only [e11, em] at idx'
  refine unit_congr (fun k => ?_) (fun k => ?_) (fun k => ?_) ?_
  · refine unpack_congr (fun l => ?_) k
    blk_ext [iblk, V, idx', idx t]
  · blk_ext [iblk, V, idx', idx t]
  · blk_ext [iblk, V, idx', idx t]
  · blk_ext [iblk, V, idx', idx t]

end Cert.Kernel4Ideal.Ffn

end
-- ==== Proof.FfnCtxRef.lean ====
module

public import proofs.«01_k».proof.Proof.Gen.Reference4Ideal.Read
public import proofs.«01_k».proof.Proof.Decode
public import Idealize.ShloMosaic.Lib.Tactic
public import Idealize.ShloMosaic.Lib.BitcastConvert
public import Idealize.ShloMosaic.Lib.Pointwise

@[expose] public section

set_option maxRecDepth 16384

noncomputable section

namespace Cert.Reference4Ideal.Ffn

open Cert.Reference4Ideal Cert.Reference4Ideal.Gen Cert.Reference4Ideal.Read Cert.Decode
open Idealize.ShloMosaic Idealize.ShloMosaic.TcCoe Idealize.SL.Sem

/-- The reference's unpacked rows. -/
theorem unpacked (x0 : S16x512x512.Idx → BitVec 32) (e : Fin 16) (r : Fin 512) (k : Fin 1024) :
    val_main_v3 (F := Ideal) x0 (ix3 e r k) = unpack (fun l => x0 (ix3 e r l)) k := by
  unfold unpack
  pointwise [val_main_v3, val_main_v2, val_main_v1, val_main_v0]
  have hk := k.isLt
  have hd : ∀ (a : Fin 512) (b : Fin 2), splits_S16x512x512_w32_S16x512x512x2_w16.drop (ix4 e r a b) = ix3 e r a := by
    intro a b; funext i; fin_cases i <;> rfl
  rw [hd]
  split_ifs with h
  · have e1 : k.val / 512 = 0 := by omega
    have e2 : k.val % 512 = k.val := by omega
    simp only [e1, e2, Nat.zero_mul]
  · have e1 : k.val / 512 = 1 := by omega
    have e2 : k.val % 512 = k.val - 512 := by omega
    simp only [e1, e2, Nat.one_mul]

theorem gateW (x1 : S2x16x1024x2816.Idx → EReal) (e : Fin 16) (k : Fin 1024) (f : Fin 2816) :
    val_main_v5 (F := Ideal) x1 (ix3 e k f) = x1 (ix4 0 e k f) := by
  rw [val_main_v5_apply, val_main_v4_apply]
  congr 1
  have := e.isLt; have := k.isLt; have := f.isLt
  funext a
  fin_cases a <;> apply Fin.ext
  · rfl
  · show ((e.val * 1024 + k.val) * 2816 + f.val) / 2883584 % 16 = e.val; omega
  · show ((e.val * 1024 + k.val) * 2816 + f.val) / 2816 % 1024 = k.val; omega
  · show ((e.val * 1024 + k.val) * 2816 + f.val) % 2816 = f.val; omega

theorem upW (x2 : S2x16x1024x2816.Idx → EReal) (e : Fin 16) (k : Fin 1024) (f : Fin 2816) :
    val_main_v8 (F := Ideal) x2 (ix3 e k f) = x2 (ix4 0 e k f) := by
  rw [val_main_v8_apply, val_main_v7_apply]
  congr 1
  have := e.isLt; have := k.isLt; have := f.isLt
  funext a
  fin_cases a <;> apply Fin.ext
  · rfl
  · show ((e.val * 1024 + k.val) * 2816 + f.val) / 2883584 % 16 = e.val; omega
  · show ((e.val * 1024 + k.val) * 2816 + f.val) / 2816 % 1024 = k.val; omega
  · show ((e.val * 1024 + k.val) * 2816 + f.val) % 2816 = f.val; omega

theorem downW (x3 : S2x16x2816x1024.Idx → EReal) (e : Fin 16) (k : Fin 2816) (f : Fin 1024) :
    val_main_v13 (F := Ideal) x3 (ix3 e k f) = x3 (ix4 0 e k f) := by
  rw [val_main_v13_apply, val_main_v12_apply]
  congr 1
  have := e.isLt; have := k.isLt; have := f.isLt
  funext a
  fin_cases a <;> apply Fin.ext
  · rfl
  · show ((e.val * 2816 + k.val) * 1024 + f.val) / 2883584 % 16 = e.val; omega
  · show ((e.val * 2816 + k.val) * 1024 + f.val) / 1024 % 2816 = k.val; omega
  · show ((e.val * 2816 + k.val) * 1024 + f.val) % 1024 = f.val; omega

theorem gate (x0 : S16x512x512.Idx → BitVec 32) (x1 : S2x16x1024x2816.Idx → EReal) (e : Fin 16) (r : Fin 512) (f : Fin 2816) :
    val_main_v6 (F := Ideal) x0 x1 (ix3 e r f) = ∑ k : Fin 1024, unpack (fun l => x0 (ix3 e r l)) k * x1 (ix4 0 e k f) := by
  rw [val_main_v6_apply]
  refine Finset.sum_congr rfl fun k _ => ?_
  have h1 : lidx_main_v6 (ix3 e r f) k = ix3 e r k := by funext a; fin_cases a <;> rfl
  have h2 : ridx_main_v6 (ix3 e r f) k = ix3 e k f := by funext a; fin_cases a <;> rfl
  rw [h1, h2, unpacked, gateW]

theorem up (x0 : S16x512x512.Idx → BitVec 32) (x1 : S2x16x1024x2816.Idx → EReal) (e : Fin 16) (r : Fin 512) (f : Fin 2816) :
    val_main_v9 (F := Ideal) x0 x1 (ix3 e r f) = ∑ k : Fin 1024, unpack (fun l => x0 (ix3 e r l)) k * x1 (ix4 0 e k f) := by
  rw [val_main_v9_apply]
  refine Finset.sum_congr rfl fun k _ => ?_
  have h1 : lidx_main_v9 (ix3 e r f) k = ix3 e r k := by funext a; fin_cases a <;> rfl
  have h2 : ridx_main_v9 (ix3 e r f) k = ix3 e k f := by funext a; fin_cases a <;> rfl
  rw [h1, h2, unpacked, upW]

/-- The reference's result at an index: the sum of the hidden units' shares. -/
theorem ref_apply (x0 : S16x512x512.Idx → BitVec 32) (x1 x2 : S2x16x1024x2816.Idx → EReal) (x3 : S2x16x2816x1024.Idx → EReal)
    (e : Fin 16) (r : Fin 512) (d : Fin 1024) :
    val_main_v14 (F := Ideal) x0 x1 x2 x3 (ix3 e r d)
      = ∑ f : Fin 2816, unit (unpack fun l => x0 (ix3 e r l)) (fun k => x1 (ix4 0 e k f)) (fun k => x2 (ix4 0 e k f)) (x3 (ix4 0 e f d)) := by
  rw [val_main_v14_apply]
  refine Finset.sum_congr rfl fun f _ => ?_
  have h1 : lidx_main_v14 (ix3 e r d) f = ix3 e r f := by funext a; fin_cases a <;> rfl
  have h2 : ridx_main_v14 (ix3 e r d) f = ix3 e f d := by funext a; fin_cases a <;> rfl
  rw [h1, h2, downW, val_main_v11_apply, val_main_v10_apply, val_main_call0_v5_apply, val_main_call0_v3_apply,
    val_main_call0_v4_apply, val_main_call0_v2_apply, val_main_call0_v1_apply, val_main_call0_v0_apply,
    val_main_call0_cst_apply, val_main_call0_cst_0_apply, gate, up]
  unfold unit Ideal.logistic
  have one : (FloatOps.ofBits (F := Ideal) .f32 0x3F800000#32 : EReal) = 1 := Ideal.ofBits_one_f32
  rw [one]
  rfl

end Cert.Reference4Ideal.Ffn

end
-- ==== Proof.FfnCtxClaim.lean ====
/-
  The feed-forward kernel against its reference. `FfnCtxBlock.lean` gives the kernel's result array as a sum of the hidden
  units' shares, `FfnCtxRef.lean` gives the reference's result as the same sum.
-/
module

public import proofs.«01_k».proof.Defs
public import proofs.«01_k».proof.Proof.FfnCtxBlock
public import proofs.«01_k».proof.Proof.FfnCtxRef
public import proofs.«01_k».proof.Proof.Gen.Kernel4Ideal.Value
public import proofs.«01_k».proof.Proof.Gen.Reference4Ideal.Read

@[expose] public section

set_option maxRecDepth 16384

noncomputable section

namespace Cert.FfnCtxClaim

open Idealize.ShloMosaic Idealize.ShloMosaic.TcCoe Idealize.SL.Sem

/-- The reference's whole result is the layer the kernel leaves. -/
theorem ref_eq (x0 : Cert.Kernel4Ideal.S16x512x512.Idx → BitVec 32) (x1 x2 : Cert.Kernel4Ideal.S2x16x1024x2816.Idx → EReal)
    (x3 : Cert.Kernel4Ideal.S2x16x2816x1024.Idx → EReal) :
    Cert.Reference4Ideal.Read.val_main_v14 (F := Ideal) x0 x1 x2 x3
      = fun i : Cert.Kernel4Ideal.S16x512x1024.Idx => Cert.Kernel4Ideal.Ffn.layer x0 x1 x2 x3 (i 0) (i 1) (i 2) := by
  funext i
  have hi : i = ix3 (i 0 : Fin 16) (i 1 : Fin 512) (i 2 : Fin 1024) := by funext a; fin_cases a <;> rfl
  rw [hi]
  exact Cert.Reference4Ideal.Ffn.ref_apply x0 x1 x2 x3 _ _ _

/-- From memories that agree on the arguments, kernel and reference end with one result. -/
theorem algebraic : Cert.algebraic_Kernel4Ideal_Reference4Ideal := by
  intro m g m' g' _ hag
  refine ⟨fun c => fun i : Cert.Kernel4Ideal.S16x512x1024.Idx => Cert.Kernel4Ideal.Ffn.layer
      (m ((c : Thread Cert.Kernel4Ideal.nD Cert.Kernel4Ideal.τ).loc Cert.Kernel4Ideal.main_arg0))
      (m ((c : Thread Cert.Kernel4Ideal.nD Cert.Kernel4Ideal.τ).loc Cert.Kernel4Ideal.main_arg1))
      (m ((c : Thread Cert.Kernel4Ideal.nD Cert.Kernel4Ideal.τ).loc Cert.Kernel4Ideal.main_arg2))
      (m ((c : Thread Cert.Kernel4Ideal.nD Cert.Kernel4Ideal.τ).loc Cert.Kernel4Ideal.main_arg3)) (i 0) (i 1) (i 2), ?_, ?_⟩
  · refine (θ_run _ _ _).mono (fun r h c => ?_) (Cert.Kernel4Ideal.Gen.run_main m g)
    exact ⟨(Cert.Kernel4Ideal.Value.post4 m r h c).trans (Cert.Kernel4Ideal.Ffn.final m c),
      Cert.Kernel4Ideal.Value.kept_main_arg0 m r h c, Cert.Kernel4Ideal.Value.kept_main_arg1 m r h c,
      Cert.Kernel4Ideal.Value.kept_main_arg2 m r h c, Cert.Kernel4Ideal.Value.kept_main_arg3 m r h c⟩
  · refine (θ_run _ _ _).mono (fun r h c => ⟨(h c).1.trans ?_, (h c).2⟩) (Cert.Reference4Ideal.Value.run m' g')
    obtain ⟨a0, a1, a2, a3⟩ := hag c
    rw [Cert.Reference4Ideal.Read.val_main_v14_eq, a0, a1, a2, a3]
    exact ref_eq _ _ _ _

end Cert.FfnCtxClaim

end
-- ==== Proof.ModBlock.lean ====
/-
  The modulation kernel's result: every sample's condition (and the context's, and padding rows of zeros) is gated by its own
  logistic and multiplied by a layer's table, a block of the columns at a time; the bias is added.
-/
module

public import proofs.«01_k».proof.Proof.Gen.Kernel5Ideal.Value
public import Idealize.ShloMosaic.Lib.Tactic
public import Idealize.ShloMosaic.Lib.Pipeline.ValueKit
public import Idealize.ShloMosaic.Lib.Pipeline.Covers
public import Idealize.ShloMosaic.Lib.Pointwise

@[expose] public section

set_option maxRecDepth 16384

noncomputable section

namespace Cert.Kernel5Ideal.Mod

open Cert.Kernel5Ideal Cert.Kernel5Ideal.Gen Idealize.ShloMosaic Idealize.ShloMosaic.TcCoe Idealize.SL.Sem Idealize.ShloMosaic.StableHlo

/-- A row of conditions: a sample's, the context's, or padding. -/
def cond (c : S16x1024.Idx → EReal) (d : S1024.Idx → EReal) (r : Fin 24) (k : Fin 1024) : EReal :=
  if h : r.val < 16 then c (ix2 ⟨r.val, h⟩ k) else if r.val = 16 then d (ix1 k) else 0

/-- One entry of the modulation: a condition's gated row against a column of weights, and the bias. -/
def entry (x w : Fin 1024 → EReal) (b : EReal) : EReal := (∑ k : Fin 1024, (x k * Ideal.logistic (x k)) * w k) + b

theorem pay (x : Vec Ideal S24x1024 .f32) (w : Vec Ideal S1x1024x1024 .f32) (b : Vec Ideal S1x1x1024 .f32) (j : S1x24x1024.Idx) :
    k0_pay1 x w b j = entry (fun k => x (ix2 (j 1) k)) (fun k => w (ix3 0 k (j 2))) (b (ix3 0 0 (j 2))) := by
  unfold entry
  idx_vars j
  pointwise [k0_pay1]

/-- The biases with an axis of size one put in. -/
theorem bias (x : S2x6144.Idx → EReal) (l : Fin 2) (j : Fin 6144) : shapeCast S2x1x6144 x shapeCasts_S2x6144_S2x1x6144 (ix3 l 0 j) = x (ix2 l j) := by
  refine (shapeCast_apply x _ (ix3 l 0 j) (ix2 l j) ?_)
  rewrite [Shape.rowMajor_val_two, Shape.rowMajor_val_three]
  show l.val * 6144 + j.val = (l.val * 1 + 0) * 6144 + j.val
  omega

variable (m : (ℓ : Loc nD τ sig) → Buf (Elt Ideal) ℓ)

theorem V_b (c : Dev nD) (l : Fin 2) (j : Fin 6144) : V m c main_v3 (ix3 l 0 j) = (m ((c : Thread nD τ).loc main_arg3) : S2x6144.Idx → EReal) (ix2 l j) := by
  have h : V m c main_v3 = shapeCast S2x1x6144 (m ((c : Thread nD τ).loc main_arg3) : S2x6144.Idx → EReal) shapeCasts_S2x6144_S2x1x6144 := by
    unfold V
    simp only [hostOps0]
    after_results
    rfl
  rw [h]
  exact bias _ l j

theorem V_c (c : Dev nD) (r : Fin 24) (k : Fin 1024) : V m c main_v2 (ix2 r k)
    = cond (m ((c : Thread nD τ).loc main_arg0)) (m ((c : Thread nD τ).loc main_arg1)) r k := by
  have h : V m c main_v2 = concatenate S24x1024 0 [⟨S16x1024, (m ((c : Thread nD τ).loc main_arg0) : S16x1024.Idx → EReal)⟩,
      ⟨S1x1024, broadcastInDim S1x1024 ![1] bcast_S1024_S1x1024_1 (m ((c : Thread nD τ).loc main_arg1) : S1024.Idx → EReal)⟩,
      ⟨S7x1024, broadcastInDim S7x1024 ![] bcast_S_S7x1024 (constant (F := Ideal) S_ .f32 0x00000000#32)⟩]
      concatenates_S16x1024_S1x1024_S7x1024_S24x1024_d0 := by
    unfold V
    simp only [hostOps0]
    after_results
    rfl
  rw [h]
  generalize (m ((c : Thread nD τ).loc main_arg0) : S16x1024.Idx → EReal) = x
  generalize (m ((c : Thread nD τ).loc main_arg1) : S1024.Idx → EReal) = y
  unfold cond
  pointwise
  refine dite_congr rfl (fun _ => rfl) fun h => ?_
  have hr := r.isLt
  by_cases h' : r.val = 16
  · rw [if_pos h']; exact dif_pos (by omega)
  · rw [if_neg h']; exact dif_neg (by omega)

theorem idx : ∀ t : Fin cfg0.N, win0_0.index t = ![0, 0] ∧ win0_1.index t = ![t.val / 6, 0, t.val % 6]
   ∧ win0_2.index t = ![t.val / 6, 0, t.val % 6] ∧ win0_3.index t = ![t.val / 6, 0, t.val % 6] := by decide +kernel

/-- The modulation at an index of the result, from the arguments. -/
def whole (c : S16x1024.Idx → EReal) (d : S1024.Idx → EReal) (w : S2x1024x6144.Idx → EReal) (b : S2x6144.Idx → EReal)
    (l : Fin 2) (r : Fin 24) (j : Fin 6144) : EReal :=
  entry (cond c d r) (fun k => w (ix3 l k j)) (b (ix2 l j))

theorem entry_congr {x x' w w' : Fin 1024 → EReal} {b b' : EReal} (h : ∀ k, x k = x' k) (hw : ∀ k, w k = w' k) (hb : b = b') :
    entry x w b = entry x' w' b' := by
  rw [funext h, funext hw, hb]

/-- The result array after the kernel's last step. -/
theorem final (c : Dev nD) : (dats m 0 c).arrAt 3 cfg0.N = fun i : S2x24x6144.Idx =>
    whole (m ((c : Thread nD τ).loc main_arg0)) (m ((c : Thread nD τ).loc main_arg1)) (m ((c : Thread nD τ).loc main_arg2))
      (m ((c : Thread nD τ).loc main_arg3)) (i 0) (i 1) (i 2) := by
  refine (dats m 0 c).arrAt_eq_of_covers 3 _ (by decide +kernel) fun t hf y => ?_
  blk_simp
  rw [after0_3]
  unfold out0_3
  frame_out
  rw [pay]
  unfold whole
  have ht : t.val < 12 := t.isLt
  refine entry_congr (fun k => ?_) (fun k => ?_) ?_
  · refine Eq.trans ?_ (V_c m c _ _)
    blk_ext [iblk, idx t]
  · blk_ext [iblk, idx t]
  · refine Eq.trans ?_ (V_b m c _ _)
    blk_ext [iblk, idx t]

end Cert.Kernel5Ideal.Mod

end
-- ==== Proof.ModRef.lean ====
/-
  The modulation's reference, read at an index: the gated conditions against a layer's table, and the bias.
-/
module

public import proofs.«01_k».proof.Proof.Gen.Reference5Ideal.Read
public import proofs.«01_k».proof.Proof.ModBlock
public import Idealize.ShloMosaic.Lib.Tactic
public import Idealize.ShloMosaic.Lib.Pointwise

@[expose] public section

set_option maxRecDepth 16384

noncomputable section

namespace Cert.Reference5Ideal.Mod

open Cert.Reference5Ideal Cert.Reference5Ideal.Gen Cert.Reference5Ideal.Read Cert.Kernel5Ideal.Mod
open Idealize.ShloMosaic Idealize.ShloMosaic.TcCoe Idealize.SL.Sem

theorem gated0 (x0 : S16x1024.Idx → EReal) (i : S16x1024.Idx) : val_main_v0 (F := Ideal) x0 i = x0 i * Ideal.logistic (x0 i) := by
  rw [val_main_v0_apply, val_main_call0_v5_apply, val_main_call0_v4_apply, val_main_call0_v3_apply,
    val_main_call0_v2_apply, val_main_call0_v1_apply, val_main_call0_v0_apply, val_main_call0_cst_apply, val_main_call0_cst_0_apply]
  unfold Ideal.logistic
  have one : (FloatOps.ofBits (F := Ideal) .f32 0x3F800000#32 : EReal) = 1 := Ideal.ofBits_one_f32
  rw [one]
  rfl

theorem gated1 (x1 : S1024.Idx → EReal) (i : S1024.Idx) : val_main_v1 (F := Ideal) x1 i = x1 i * Ideal.logistic (x1 i) := by
  rw [val_main_v1_apply, val_main_call1_v5_apply, val_main_call1_v4_apply, val_main_call1_v3_apply,
    val_main_call1_v2_apply, val_main_call1_v1_apply, val_main_call1_v0_apply, val_main_call1_cst_apply, val_main_call1_cst_0_apply]
  unfold Ideal.logistic
  have one : (FloatOps.ofBits (F := Ideal) .f32 0x3F800000#32 : EReal) = 1 := Ideal.ofBits_one_f32
  rw [one]
  rfl

/-- The reference's rows are the conditions, gated. -/
theorem rows (x0 : S16x1024.Idx → EReal) (x1 : S1024.Idx → EReal) (r : Fin 24) (k : Fin 1024) :
    val_main_v4 (F := Ideal) x0 x1 (ix2 r k) = Cert.Kernel5Ideal.Mod.cond x0 x1 r k * Ideal.logistic (Cert.Kernel5Ideal.Mod.cond x0 x1 r k) := by
  have g0 : val_main_v0 (F := Ideal) x0 = fun i => x0 i * Ideal.logistic (x0 i) := funext (gated0 x0)
  have g2 : val_main_v2 (F := Ideal) x1 = fun i => x1 (ix1 (i 1)) * Ideal.logistic (x1 (ix1 (i 1))) := by
    funext i
    rw [val_main_v2_apply, gated1]
    have e : idx_main_v2 i = ix1 (i 1) := by funext a; fin_cases a; rfl
    exact congrArg (fun q => x1 q * Ideal.logistic (x1 q)) e
  have g3 : val_main_v3 (F := Ideal) = fun _ => (0 : EReal) := by
    funext i
    rw [val_main_v3_apply, val_main_cst_apply]
    exact Ideal.ofBits_zero_f32
  unfold val_main_v4
  rw [g0, g2, g3]
  pointwise
  have hr := r.isLt
  unfold Cert.Kernel5Ideal.Mod.cond
  by_cases h : r.val < 16
  · rw [dif_pos h, dif_pos h]
  · rw [dif_neg h, dif_neg h]
    by_cases h' : r.val = 16
    · rw [if_pos h']; exact dif_pos (by omega)
    · rw [if_neg h', zero_mul]; exact dif_neg (by omega)

theorem table0 (x2 : S2x1024x6144.Idx → EReal) (k : Fin 1024) (j : Fin 6144) : val_main_v6 (F := Ideal) x2 (ix2 k j) = x2 (ix3 0 k j) := by
  rw [val_main_v6_apply, val_main_v5_apply]
  congr 1
  have := k.isLt; have := j.isLt
  funext a
  fin_cases a <;> apply Fin.ext
  · rfl
  · show (k.val * 6144 + j.val) / 6144 % 1024 = k.val; omega
  · show (k.val * 6144 + j.val) % 6144 = j.val; omega

theorem table1 (x2 : S2x1024x6144.Idx → EReal) (k : Fin 1024) (j : Fin 6144) : val_main_v14 (F := Ideal) x2 (ix2 k j) = x2 (ix3 1 k j) := by
  rw [val_main_v14_apply, val_main_v13_apply]
  congr 1
  have := k.isLt; have := j.isLt
  funext a
  fin_cases a <;> apply Fin.ext
  · rfl
  · show (k.val * 6144 + j.val) / 6144 % 1024 = k.val; omega
  · show (k.val * 6144 + j.val) % 6144 = j.val; omega

theorem bias0 (x3 : S2x6144.Idx → EReal) (r : Fin 24) (j : Fin 6144) : val_main_v11 (F := Ideal) x3 (ix2 r j) = x3 (ix2 0 j) := by
  rw [val_main_v11_apply, val_main_v10_apply, val_main_v9_apply, val_main_v8_apply]
  congr 1
  have := j.isLt
  funext a
  fin_cases a <;> apply Fin.ext
  · rfl
  · show j.val % 6144 = j.val; omega

theorem bias1 (x3 : S2x6144.Idx → EReal) (r : Fin 24) (j : Fin 6144) : val_main_v19 (F := Ideal) x3 (ix2 r j) = x3 (ix2 1 j) := by
  rw [val_main_v19_apply, val_main_v18_apply, val_main_v17_apply, val_main_v16_apply]
  congr 1
  have := j.isLt
  funext a
  fin_cases a <;> apply Fin.ext
  · rfl
  · show j.val % 6144 = j.val; omega

/-- The reference's result for layer zero. -/
theorem layer0 (x0 : S16x1024.Idx → EReal) (x1 : S1024.Idx → EReal) (x2 : S2x1024x6144.Idx → EReal) (x3 : S2x6144.Idx → EReal)
    (r : Fin 24) (j : Fin 6144) : val_main_v12 (F := Ideal) x0 x1 x2 x3 (ix2 r j) = whole x0 x1 x2 x3 0 r j := by
  unfold whole entry
  rw [val_main_v12_apply, val_main_v7_apply, bias0]
  refine congrArg (· + _) (Finset.sum_congr rfl fun k _ => ?_)
  have h1 : lidx_main_v7 (ix2 r j) k = ix2 r k := by funext a; fin_cases a <;> rfl
  have h2 : ridx_main_v7 (ix2 r j) k = ix2 k j := by funext a; fin_cases a <;> rfl
  rw [h1, h2, rows, table0]

/-- The reference's result for layer one. -/
theorem layer1 (x0 : S16x1024.Idx → EReal) (x1 : S1024.Idx → EReal) (x2 : S2x1024x6144.Idx → EReal) (x3 : S2x6144.Idx → EReal)
    (r : Fin 24) (j : Fin 6144) : val_main_v20 (F := Ideal) x0 x1 x2 x3 (ix2 r j) = whole x0 x1 x2 x3 1 r j := by
  unfold whole entry
  rw [val_main_v20_apply, val_main_v15_apply, bias1]
  refine congrArg (· + _) (Finset.sum_congr rfl fun k _ => ?_)
  have h1 : lidx_main_v15 (ix2 r j) k = ix2 r k := by funext a; fin_cases a <;> rfl
  have h2 : ridx_main_v15 (ix2 r j) k = ix2 k j := by funext a; fin_cases a <;> rfl
  rw [h1, h2, rows, table1]

/-- The reference's whole result. -/
theorem ref_apply (x0 : S16x1024.Idx → EReal) (x1 : S1024.Idx → EReal) (x2 : S2x1024x6144.Idx → EReal) (x3 : S2x6144.Idx → EReal)
    (l : Fin 2) (r : Fin 24) (j : Fin 6144) : val_main_v23 (F := Ideal) x0 x1 x2 x3 (ix3 l r j) = whole x0 x1 x2 x3 l r j := by
  have g1 : val_main_v21 (F := Ideal) x0 x1 x2 x3 = fun i => whole x0 x1 x2 x3 0 (i 1) (i 2) := by
    funext i
    rw [val_main_v21_apply]
    exact layer0 x0 x1 x2 x3 (i 1) (i 2) ▸ congrArg _ (by funext a; fin_cases a <;> rfl)
  have g2 : val_main_v22 (F := Ideal) x0 x1 x2 x3 = fun i => whole x0 x1 x2 x3 1 (i 1) (i 2) := by
    funext i
    rw [val_main_v22_apply]
    exact layer1 x0 x1 x2 x3 (i 1) (i 2) ▸ congrArg _ (by funext a; fin_cases a <;> rfl)
  unfold val_main_v23
  rw [g1, g2]
  generalize hw : whole x0 x1 x2 x3 = w
  have hl : l = 0 ∨ l = 1 := by omega
  rcases hl with rfl | rfl
  · pointwise
  · pointwise

end Cert.Reference5Ideal.Mod

end
-- ==== Proof.ModClaim.lean ====
/-
  The modulation kernel against its reference. `ModBlock.lean` gives the kernel's result array and `ModRef.lean` the
  reference's as one function of the arguments.
-/
module

public import proofs.«01_k».proof.Defs
public import proofs.«01_k».proof.Proof.ModBlock
public import proofs.«01_k».proof.Proof.ModRef
public import proofs.«01_k».proof.Proof.Gen.Kernel5Ideal.Value
public import proofs.«01_k».proof.Proof.Gen.Reference5Ideal.Read

@[expose] public section

set_option maxRecDepth 16384

noncomputable section

namespace Cert.ModClaim

open Idealize.ShloMosaic Idealize.ShloMosaic.TcCoe Idealize.SL.Sem

/-- The reference's whole result is the layer the kernel leaves. -/
theorem ref_eq (x0 : Cert.Kernel5Ideal.S16x1024.Idx → EReal) (x1 : Cert.Kernel5Ideal.S1024.Idx → EReal)
    (x2 : Cert.Kernel5Ideal.S2x1024x6144.Idx → EReal) (x3 : Cert.Kernel5Ideal.S2x6144.Idx → EReal) :
    Cert.Reference5Ideal.Read.val_main_v23 (F := Ideal) x0 x1 x2 x3
      = fun i : Cert.Kernel5Ideal.S2x24x6144.Idx => Cert.Kernel5Ideal.Mod.whole x0 x1 x2 x3 (i 0) (i 1) (i 2) := by
  funext i
  have hi : i = ix3 (i 0 : Fin 2) (i 1 : Fin 24) (i 2 : Fin 6144) := by funext a; fin_cases a <;> rfl
  rw [hi]
  exact Cert.Reference5Ideal.Mod.ref_apply x0 x1 x2 x3 _ _ _

/-- From memories that agree on the arguments, kernel and reference end with one result. -/
theorem algebraic : Cert.algebraic_Kernel5Ideal_Reference5Ideal := by
  intro m g m' g' _ hag
  refine ⟨fun c => fun i : Cert.Kernel5Ideal.S2x24x6144.Idx => Cert.Kernel5Ideal.Mod.whole
      (m ((c : Thread Cert.Kernel5Ideal.nD Cert.Kernel5Ideal.τ).loc Cert.Kernel5Ideal.main_arg0))
      (m ((c : Thread Cert.Kernel5Ideal.nD Cert.Kernel5Ideal.τ).loc Cert.Kernel5Ideal.main_arg1))
      (m ((c : Thread Cert.Kernel5Ideal.nD Cert.Kernel5Ideal.τ).loc Cert.Kernel5Ideal.main_arg2))
      (m ((c : Thread Cert.Kernel5Ideal.nD Cert.Kernel5Ideal.τ).loc Cert.Kernel5Ideal.main_arg3)) (i 0) (i 1) (i 2), ?_, ?_⟩
  · refine (θ_run _ _ _).mono (fun r h c => ?_) (Cert.Kernel5Ideal.Gen.run_main m g)
    exact ⟨(Cert.Kernel5Ideal.Value.post3 m r h c).trans (Cert.Kernel5Ideal.Mod.final m c),
      Cert.Kernel5Ideal.Value.kept_main_arg0 m r h c, Cert.Kernel5Ideal.Value.kept_main_arg1 m r h c,
      Cert.Kernel5Ideal.Value.kept_main_arg2 m r h c, Cert.Kernel5Ideal.Value.kept_main_arg3 m r h c⟩
  · refine (θ_run _ _ _).mono (fun r h c => ⟨(h c).1.trans ?_, (h c).2⟩) (Cert.Reference5Ideal.Value.run m' g')
    obtain ⟨a0, a1, a2, a3⟩ := hag c
    rw [Cert.Reference5Ideal.Read.val_main_v23_eq, a0, a1, a2, a3]
    exact ref_eq _ _ _ _

end Cert.ModClaim

end
-- ==== Proof.ResBlock.lean ====
/-
  The kernel of the layer's last residual: a block of rows plus the gate times the rows of the expert layer, each divided by
  its root mean square and scaled.
-/
module

public import proofs.«01_k».proof.Proof.Gen.Kernel6Ideal.Value
public import Idealize.ShloMosaic.Lib.Tactic
public import Idealize.ShloMosaic.Lib.Pipeline.ValueKit
public import Idealize.ShloMosaic.Lib.Pipeline.Covers
public import Idealize.ShloMosaic.Lib.Pointwise

@[expose] public section

set_option maxRecDepth 16384

noncomputable section

namespace Cert.Kernel6Ideal.Res

open Cert.Kernel6Ideal Cert.Kernel6Ideal.Gen Idealize.ShloMosaic Idealize.ShloMosaic.TcCoe Idealize.SL.Sem Idealize.ShloMosaic.StableHlo

/-- One entry of the residual: `h` and the gate `g` times the entry `x` of the row `f` over the row's root mean square, scaled. -/
def entry (h g x : EReal) (f : Fin 1024 → EReal) (p : EReal) : EReal :=
  h + g * (x * Ideal.rsqrt (Ideal.div (∑ k : Fin 1024, f k * f k) (Ideal.ofBits FTy.f32 0x44800000#32)
    + Ideal.ofBits FTy.f32 0x358637BD#32) * p)

theorem pay (h : Vec Ideal S1x512x1024 .f32) (g : Vec Ideal S1x1x6x1024 .f32) (f : Vec Ideal S1x512x1024 .f32) (p : Vec Ideal S1x1024 .f32) (j : S1x512x1024.Idx) :
    k0_pay1 h g f p j = entry (h (ix3 0 (j 1) (j 2))) (g (ix4 0 0 5 (j 2))) (f (ix3 0 (j 1) (j 2))) (fun k => f (ix3 0 (j 1) k)) (p (ix2 0 (j 2))) := by
  unfold entry
  idx_vars j
  pointwise [k0_pay1]

/-- The tables of gates with an axis of size one put in. -/
theorem gates (x : S24x6x1024.Idx → EReal) (b : Fin 24) (q : Fin 6) (d : Fin 1024) :
    shapeCast S24x1x6x1024 x shapeCasts_S24x6x1024_S24x1x6x1024 (ix4 b 0 q d) = x (ix3 b q d) := by
  pointwise

/-- The scales as one row. -/
theorem scales (x : S1024.Idx → EReal) (d : Fin 1024) : shapeCast S1x1024 x shapeCasts_S1024_S1x1024 (ix2 0 d) = x (ix1 d) := by
  pointwise

variable (m : (ℓ : Loc nD τ sig) → Buf (Elt Ideal) ℓ)

theorem V_g (c : Dev nD) (b : Fin 24) (q : Fin 6) (d : Fin 1024) :
    V m c main_v0 (ix4 b 0 q d) = (m ((c : Thread nD τ).loc main_arg2) : S24x6x1024.Idx → EReal) (ix3 b q d) := by
  have h : V m c main_v0 = shapeCast S24x1x6x1024 (m ((c : Thread nD τ).loc main_arg2) : S24x6x1024.Idx → EReal) shapeCasts_S24x6x1024_S24x1x6x1024 := by
    unfold V
    simp only [hostOps0]
    after_results
    rfl
  rw [h]
  exact gates _ b q d

theorem V_p (c : Dev nD) (d : Fin 1024) : V m c main_v1 (ix2 0 d) = (m ((c : Thread nD τ).loc main_arg3) : S1024.Idx → EReal) (ix1 d) := by
  have h : V m c main_v1 = shapeCast S1x1024 (m ((c : Thread nD τ).loc main_arg3) : S1024.Idx → EReal) shapeCasts_S1024_S1x1024 := by
    unfold V
    simp only [hostOps0]
    after_results
    rfl
  rw [h]
  exact scales _ d

theorem idx : ∀ t : Fin cfg0.N, win0_0.index t = ![t.val / 8, t.val % 8, 0] ∧ win0_1.index t = ![t.val / 8, t.val % 8, 0]
   ∧ win0_2.index t = ![t.val / 8, 0, 0, 0] ∧ win0_3.index t = ![0, 0] ∧ win0_4.index t = ![t.val / 8, t.val % 8, 0] := by decide +kernel

/-- The residual at an index of the result, from the arguments. -/
def whole (h f : S16x4096x1024.Idx → EReal) (g : S24x6x1024.Idx → EReal) (p : S1024.Idx → EReal)
    (b : Fin 16) (r : Fin 4096) (d : Fin 1024) : EReal :=
  entry (h (ix3 b r d)) (g (ix3 ⟨b.val, by omega⟩ 5 d)) (f (ix3 b r d)) (fun k => f (ix3 b r k)) (p (ix1 d))

theorem entry_congr {h h' g g' x x' p p' : EReal} {f f' : Fin 1024 → EReal} (e1 : h = h') (e2 : g = g')
    (e3 : ∀ k, f k = f' k) (e4 : p = p') (e5 : x = x') : entry h g x f p = entry h' g' x' f' p' := by
  rw [e1, e2, funext e3, e4, e5]

/-- The result array after the kernel's last step. -/
theorem final (c : Dev nD) : (dats m 0 c).arrAt 4 cfg0.N = fun i : S16x4096x1024.Idx =>
    whole (m ((c : Thread nD τ).loc main_arg0)) (m ((c : Thread nD τ).loc main_arg1)) (m ((c : Thread nD τ).loc main_arg2))
      (m ((c : Thread nD τ).loc main_arg3)) (i 0) (i 1) (i 2) := by
  refine (dats m 0 c).arrAt_eq_of_covers 4 _ (by decide +kernel) fun t hf y => ?_
  blk_simp
  rw [after0_4]
  unfold out0_4
  frame_out
  rw [pay]
  unfold whole
  have ht : t.val < 128 := t.isLt
  refine entry_congr ?_ ?_ (fun k => ?_) ?_ ?_
  · blk_ext [iblk, idx t]
  · refine Eq.trans ?_ (V_g m c _ _ _)
    blk_ext [iblk, idx t]
  · blk_ext [iblk, idx t]
  · refine Eq.trans ?_ (V_p m c _)
    blk_ext [iblk, idx t]
  · blk_ext [iblk, idx t]

end Cert.Kernel6Ideal.Res

end
-- ==== Proof.ResRef.lean ====
/-
  The reference of the layer's last residual, read at an index.
-/
module

public import proofs.«01_k».proof.Proof.Gen.Reference6Ideal.Read
public import proofs.«01_k».proof.Proof.ResBlock
public import Idealize.ShloMosaic.Lib.Tactic
public import Idealize.ShloMosaic.Lib.Pointwise

@[expose] public section

set_option maxRecDepth 16384

noncomputable section

namespace Cert.Reference6Ideal.Res

open Cert.Reference6Ideal Cert.Reference6Ideal.Gen Cert.Reference6Ideal.Read Cert.Kernel6Ideal.Res
open Idealize.ShloMosaic Idealize.ShloMosaic.TcCoe Idealize.SL.Sem

/-- The gate of a sample, at every row. -/
theorem gate (x2 : S24x6x1024.Idx → EReal) (b : Fin 16) (r : Fin 4096) (d : Fin 1024) :
    val_main_v16 (F := Ideal) x2 (ix3 b r d) = x2 (ix3 ⟨b.val, by omega⟩ 5 d) := by
  rw [val_main_v16_apply, val_main_v2_apply, val_main_v1_apply, val_main_v0_apply]
  congr 1
  have := b.isLt; have := d.isLt
  funext a
  fin_cases a <;> apply Fin.ext
  · show (b.val * 1024 + d.val) / 1024 = b.val; omega
  · rfl
  · show (b.val * 1024 + d.val) % 1024 = d.val; omega

/-- The scale, at every row. -/
theorem scale (x3 : S1024.Idx → EReal) (b : Fin 16) (r : Fin 4096) (d : Fin 1024) :
    val_main_v14 (F := Ideal) x3 (ix3 b r d) = x3 (ix1 d) := by
  rw [val_main_v14_apply, val_main_v13_apply]
  congr 1
  funext a
  fin_cases a; rfl

/-- The inverse root mean square of a row. -/
theorem rms (x1 : S16x4096x1024.Idx → EReal) (b : Fin 16) (r : Fin 4096) (d : Fin 1024) :
    val_main_v11 (F := Ideal) x1 (ix3 b r d)
      = Ideal.rsqrt (Ideal.div (∑ k : Fin 1024, x1 (ix3 b r k) * x1 (ix3 b r k)) (Ideal.ofBits FTy.f32 0x44800000#32)
        + Ideal.ofBits FTy.f32 0x358637BD#32) := by
  have z : val_main_cst (F := Ideal) (Shape.Idx.first h_S_) = (0 : EReal) := Ideal.ofBits_zero_f32
  have q : ∀ k : Fin 1024, idx_main_v4 (idx_main_v5 (idx_main_v11 (ix3 b r d))) k = ix3 b r k := by
    intro k; funext a; fin_cases a <;> rfl
  rw [val_main_v11_apply, val_main_v10_apply, val_main_v9_apply, val_main_v8_apply, val_main_cst_1_apply,
    val_main_v7_apply, val_main_v6_apply, val_main_cst_0_apply, val_main_v5_apply, val_main_v4_apply, z, zero_add]
  simp only [q, val_main_v3_apply]
  rfl

/-- The reference's result is the residual of the arguments. -/
theorem ref_apply (x0 x1 : S16x4096x1024.Idx → EReal) (x2 : S24x6x1024.Idx → EReal) (x3 : S1024.Idx → EReal)
    (b : Fin 16) (r : Fin 4096) (d : Fin 1024) : val_main_v18 (F := Ideal) x0 x1 x2 x3 (ix3 b r d) = whole x0 x1 x2 x3 b r d := by
  unfold whole entry
  rw [val_main_v18_apply, val_main_v17_apply, val_main_v15_apply, val_main_v12_apply, gate, scale, rms]
  rfl

end Cert.Reference6Ideal.Res

end
-- ==== Proof.ResClaim.lean ====
/-
  The residual kernel against its reference. `ResBlock.lean` gives the kernel's result array and `ResRef.lean` the
  reference's as one function of the arguments.
-/
module

public import proofs.«01_k».proof.Defs
public import proofs.«01_k».proof.Proof.ResBlock
public import proofs.«01_k».proof.Proof.ResRef
public import proofs.«01_k».proof.Proof.Gen.Kernel6Ideal.Value
public import proofs.«01_k».proof.Proof.Gen.Reference6Ideal.Read

@[expose] public section

set_option maxRecDepth 16384

noncomputable section

namespace Cert.ResClaim

open Idealize.ShloMosaic Idealize.ShloMosaic.TcCoe Idealize.SL.Sem

/-- The reference's whole result is the layer the kernel leaves. -/
theorem ref_eq (x0 x1 : Cert.Kernel6Ideal.S16x4096x1024.Idx → EReal) (x2 : Cert.Kernel6Ideal.S24x6x1024.Idx → EReal)
    (x3 : Cert.Kernel6Ideal.S1024.Idx → EReal) :
    Cert.Reference6Ideal.Read.val_main_v18 (F := Ideal) x0 x1 x2 x3
      = fun i : Cert.Kernel6Ideal.S16x4096x1024.Idx => Cert.Kernel6Ideal.Res.whole x0 x1 x2 x3 (i 0) (i 1) (i 2) := by
  funext i
  have hi : i = ix3 (i 0 : Fin 16) (i 1 : Fin 4096) (i 2 : Fin 1024) := by funext a; fin_cases a <;> rfl
  rw [hi]
  exact Cert.Reference6Ideal.Res.ref_apply x0 x1 x2 x3 _ _ _

/-- From memories that agree on the arguments, kernel and reference end with one result. -/
theorem algebraic : Cert.algebraic_Kernel6Ideal_Reference6Ideal := by
  intro m g m' g' _ hag
  refine ⟨fun c => fun i : Cert.Kernel6Ideal.S16x4096x1024.Idx => Cert.Kernel6Ideal.Res.whole
      (m ((c : Thread Cert.Kernel6Ideal.nD Cert.Kernel6Ideal.τ).loc Cert.Kernel6Ideal.main_arg0))
      (m ((c : Thread Cert.Kernel6Ideal.nD Cert.Kernel6Ideal.τ).loc Cert.Kernel6Ideal.main_arg1))
      (m ((c : Thread Cert.Kernel6Ideal.nD Cert.Kernel6Ideal.τ).loc Cert.Kernel6Ideal.main_arg2))
      (m ((c : Thread Cert.Kernel6Ideal.nD Cert.Kernel6Ideal.τ).loc Cert.Kernel6Ideal.main_arg3)) (i 0) (i 1) (i 2), ?_, ?_⟩
  · refine (θ_run _ _ _).mono (fun r h c => ?_) (Cert.Kernel6Ideal.Gen.run_main m g)
    exact ⟨(Cert.Kernel6Ideal.Value.post4 m r h c).trans (Cert.Kernel6Ideal.Res.final m c),
      Cert.Kernel6Ideal.Value.kept_main_arg0 m r h c, Cert.Kernel6Ideal.Value.kept_main_arg1 m r h c,
      Cert.Kernel6Ideal.Value.kept_main_arg2 m r h c, Cert.Kernel6Ideal.Value.kept_main_arg3 m r h c⟩
  · refine (θ_run _ _ _).mono (fun r h c => ⟨(h c).1.trans ?_, (h c).2⟩) (Cert.Reference6Ideal.Value.run m' g')
    obtain ⟨a0, a1, a2, a3⟩ := hag c
    rw [Cert.Reference6Ideal.Read.val_main_v18_eq, a0, a1, a2, a3]
    exact ref_eq _ _ _ _

end Cert.ResClaim

end
-- ==== Proof.FourBlock.lean ====
/-
  The Fourier transform over the context tokens' positions: a sample's channels are multiplied by the table of cosines and by
  the table of sines, and the difference is written over the last rows of the array the kernel is given.
-/
module

public import proofs.«01_k».proof.Proof.Gen.Kernel7Ideal.Value
public import proofs.«01_k».proof.Proof.Gen.Reference7Ideal.Read
public import Idealize.ShloMosaic.Lib.Pipeline.ValueKit.Partial
public import Idealize.ShloMosaic.Lib.Tactic
public import Idealize.ShloMosaic.Lib.Pipeline.ValueKit
public import Idealize.ShloMosaic.Lib.Pipeline.Covers
public import Idealize.ShloMosaic.Lib.Pointwise

@[expose] public section

set_option maxRecDepth 16384

noncomputable section

namespace Cert.Kernel7Ideal.Four

open Cert.Kernel7Ideal Cert.Kernel7Ideal.Gen Idealize.ShloMosaic Idealize.ShloMosaic.TcCoe Idealize.SL.Sem Idealize.ShloMosaic.StableHlo

/-- The tables of cosines and sines of the transform of length 256, each entry over sixteen. -/
def cosT : S256x256.Idx → EReal := Cert.Reference7Ideal.Read.val_main_v16 (F := Ideal)
def sinT : S256x256.Idx → EReal := Cert.Reference7Ideal.Read.val_main_v21 (F := Ideal)

/-- One entry of the transform's real part: a row of each table against a column of each operand. -/
def entry (p a q b : Fin 256 → EReal) : EReal := (∑ k : Fin 256, p k * a k) - ∑ k : Fin 256, q k * b k

theorem pay (p a q b : Vec Ideal S256x256 .bf16) (j : S1x256x256.Idx) :
    k0_pay1 p a q b j = entry (fun k => p (ix2 (j 1) k)) (fun k => a (ix2 k (j 2))) (fun k => q (ix2 (j 1) k)) (fun k => b (ix2 k (j 2))) := by
  unfold entry
  idx_vars j
  pointwise [k0_pay1]

variable (m : (ℓ : Loc nD τ sig) → Buf (Elt Ideal) ℓ)

theorem V_cos (c : Dev nD) : V m c main_v14 = cosT := by
  unfold V
  simp only [hostOps0, hostOps0_1, hostOps0_2, List.flatten_cons, List.flatten_nil, List.append_nil, List.cons_append, List.nil_append]
  after_results
  rfl

theorem V_sin (c : Dev nD) : V m c main_v17 = sinT := by
  unfold V
  simp only [hostOps0, hostOps0_1, hostOps0_2, List.flatten_cons, List.flatten_nil, List.append_nil, List.cons_append, List.nil_append]
  after_results
  rfl

theorem V_prev (c : Dev nD) : V m c main_v18 = m ((c : Thread nD τ).loc main_arg2) := by
  unfold V
  simp only [hostOps0, hostOps0_1, hostOps0_2, List.flatten_cons, List.flatten_nil, List.append_nil, List.cons_append, List.nil_append]
  after_results
  rfl

theorem idx : ∀ t : Fin cfg0.N, win0_0.index t = ![0, 0] ∧ win0_1.index t = ![0, 0] ∧ win0_2.index t = ![0, t.val]
   ∧ win0_3.index t = ![0, t.val] ∧ win0_4.index t = ![t.val, 16, 0] := by decide +kernel

/-- The transform at a position and channel of a sample. -/
def whole (a b : S256x4096.Idx → EReal) (s : Fin 16) (r d : Fin 256) : EReal :=
  entry (fun k => cosT (ix2 r k)) (fun k => a (ix2 k ⟨s.val * 256 + d.val, by omega⟩)) (fun k => sinT (ix2 r k))
    (fun k => b (ix2 k ⟨s.val * 256 + d.val, by omega⟩))

/-- The array the kernel leaves: the last rows are the transform, the others are as they were. -/
def result (a b : S256x4096.Idx → EReal) (prev : S16x4352x256.Idx → EReal) (i : S16x4352x256.Idx) : EReal :=
  if 16 ≤ (i 1).val / 256 then whole a b (i 0) ⟨(i 1).val % 256, Nat.mod_lt _ (by decide)⟩ (i 2) else prev i

theorem entry_congr {p p' a a' q q' b b' : Fin 256 → EReal} (e1 : ∀ k, p k = p' k) (e2 : ∀ k, a k = a' k)
    (e3 : ∀ k, q k = q' k) (e4 : ∀ k, b k = b' k) : entry p a q b = entry p' a' q' b' := by
  rw [funext e1, funext e2, funext e3, funext e4]

set_option maxHeartbeats 1000000 in
/-- The result array after the kernel's last step. -/
theorem final (c : Dev nD) : (dats m 0 c).arrAt 4 cfg0.N
    = result (m ((c : Thread nD τ).loc main_arg0)) (m ((c : Thread nD τ).loc main_arg1)) (m ((c : Thread nD τ).loc main_arg2)) := by
  refine ((dats m 0 c).arrAt_eq_of_coversWhere 4 (fun i : S16x4352x256.Idx => whole (m ((c : Thread nD τ).loc main_arg0)) (m ((c : Thread nD τ).loc main_arg1))
    (i 0) ⟨(i 1).val % 256, Nat.mod_lt _ (by decide)⟩ (i 2)) (P := fun i : S16x4352x256.Idx => 16 ≤ (i 1).val / 256)
    (fun β => 16 ≤ β (1 : Fin 3)) (by decide +kernel) (fun t hf y => ?_) (fun j => Iff.rfl)).trans ?_
  · blk_simp
    rw [after0_4]
    unfold outsAt0 out0_A_4
    frame_out
    rw [pay]
    unfold whole
    have ht : t.val < 16 := t.isLt
    refine entry_congr (fun k => ?_) (fun k => ?_) (fun k => ?_) (fun k => ?_)
    · refine Eq.trans ?_ (congrFun (V_cos m c) _)
      blk_ext [iblk, idx t]
    · blk_ext [iblk, idx t]
    · refine Eq.trans ?_ (congrFun (V_sin m c) _)
      blk_ext [iblk, idx t]
    · blk_ext [iblk, idx t]
  · funext i
    unfold result
    refine if_congr Iff.rfl rfl ?_
    exact congrFun ((A_eq m c 4).trans (V_prev m c)) i

end Cert.Kernel7Ideal.Four

end
-- ==== Proof.FourRef.lean ====
/-
  The reference of the Fourier transform over the context tokens' positions, read at an index.
-/
module

public import proofs.«01_k».proof.Proof.Gen.Reference7Ideal.Read
public import proofs.«01_k».proof.Proof.FourBlock
public import Idealize.ShloMosaic.Lib.Tactic
public import Idealize.ShloMosaic.Lib.Pointwise

@[expose] public section

set_option maxRecDepth 16384

noncomputable section

namespace Cert.Reference7Ideal.Four

open Cert.Reference7Ideal Cert.Reference7Ideal.Gen Cert.Reference7Ideal.Read Cert.Kernel7Ideal.Four
open Idealize.ShloMosaic Idealize.ShloMosaic.TcCoe Idealize.SL.Sem

theorem cols0 (x0 : S256x4096.Idx → EReal) (k : Fin 256) (s : Fin 16) (d : Fin 256) :
    val_main_v11 (F := Ideal) x0 (ix3 k s d) = x0 (ix2 k ⟨s.val * 256 + d.val, by omega⟩) := by
  rw [val_main_v11_apply, val_main_v10_apply]
  refine congrArg x0 ?_
  have := k.isLt; have := s.isLt; have := d.isLt
  funext a
  fin_cases a <;> apply Fin.ext
  · show ((k.val * 16 + s.val) * 256 + d.val) / 4096 = k.val; omega
  · show ((k.val * 16 + s.val) * 256 + d.val) % 4096 = s.val * 256 + d.val; omega

theorem cols1 (x1 : S256x4096.Idx → EReal) (k : Fin 256) (s : Fin 16) (d : Fin 256) :
    val_main_v13 (F := Ideal) x1 (ix3 k s d) = x1 (ix2 k ⟨s.val * 256 + d.val, by omega⟩) := by
  rw [val_main_v13_apply, val_main_v12_apply]
  refine congrArg x1 ?_
  have := k.isLt; have := s.isLt; have := d.isLt
  funext a
  fin_cases a <;> apply Fin.ext
  · show ((k.val * 16 + s.val) * 256 + d.val) / 4096 = k.val; omega
  · show ((k.val * 16 + s.val) * 256 + d.val) % 4096 = s.val * 256 + d.val; omega

/-- The reference's transform is the kernel's. -/
theorem real (x0 x1 : S256x4096.Idx → EReal) (s : Fin 16) (r d : Fin 256) :
    val_main_v26 (F := Ideal) x0 x1 (ix3 s r d) = whole x0 x1 s r d := by
  unfold whole entry
  rw [val_main_v26_apply, val_main_v24_apply, val_main_v18_apply, val_main_v23_apply, val_main_v17_apply, val_main_v22_apply]
  refine congrArg₂ (· - ·) (Finset.sum_congr rfl fun k _ => ?_) (Finset.sum_congr rfl fun k _ => ?_)
  · have h1 : lidx_main_v17 (idx_main_v18 (ix3 s r d)) k = ix3 k s d := by funext a; fin_cases a <;> rfl
    have h2 : ridx_main_v17 (idx_main_v18 (ix3 s r d)) k = ix2 r k := by funext a; fin_cases a <;> rfl
    rw [h1, h2, cols0, mul_comm]
    rfl
  · have h1 : lidx_main_v22 (idx_main_v23 (ix3 s r d)) k = ix3 k s d := by funext a; fin_cases a <;> rfl
    have h2 : ridx_main_v22 (idx_main_v23 (ix3 s r d)) k = ix2 r k := by funext a; fin_cases a <;> rfl
    rw [h1, h2, cols1, mul_comm]
    rfl

/-- The reference's whole result. -/
theorem ref_apply (x0 x1 : S256x4096.Idx → EReal) (x2 : S16x4352x256.Idx → EReal) (s : Fin 16) (r : Fin 4352) (d : Fin 256) :
    val_main_v27 (F := Ideal) x0 x1 x2 (ix3 s r d) = result x0 x1 x2 (ix3 s r d) := by
  have g1 : val_main_v25 (F := Ideal) x2 = fun i => x2 (ix3 (i 0) ⟨(i 1).val, Nat.lt_trans (i 1).isLt (by decide)⟩ (i 2)) := by
    funext i
    rw [val_main_v25_apply]
    refine congrArg x2 ?_
    funext a
    fin_cases a <;> rfl
  have g2 : val_main_v26 (F := Ideal) x0 x1 = fun i => whole x0 x1 (i 0) (i 1) (i 2) := by
    funext i
    have e : i = ix3 (i 0 : Fin 16) (i 1 : Fin 256) (i 2 : Fin 256) := by funext a; fin_cases a <;> rfl
    rw [e]
    exact real x0 x1 _ _ _
  unfold val_main_v27 result
  rw [g1, g2]
  generalize whole x0 x1 = w
  pointwise
  have hr := r.isLt
  by_cases h : r.val < 4096
  · exact (dif_pos h).trans (if_neg (by omega)).symm
  · refine (dif_neg h).trans (Eq.trans ?_ (if_pos (by omega)).symm)
    exact congrArg (fun q => w s q d) (Fin.ext (by show r.val - 4096 = r.val % 256; omega))

end Cert.Reference7Ideal.Four

end
-- ==== Proof.FourClaim.lean ====
/-
  The Fourier transform against its reference. `FourBlock.lean` gives the kernel's result array and `FourRef.lean` the
  reference's as one function of the arguments.
-/
module

public import proofs.«01_k».proof.Defs
public import proofs.«01_k».proof.Proof.FourBlock
public import proofs.«01_k».proof.Proof.FourRef
public import proofs.«01_k».proof.Proof.Gen.Kernel7Ideal.Value
public import proofs.«01_k».proof.Proof.Gen.Reference7Ideal.Read

@[expose] public section

set_option maxRecDepth 16384

noncomputable section

namespace Cert.FourClaim

open Idealize.ShloMosaic Idealize.ShloMosaic.TcCoe Idealize.SL.Sem

/-- The reference's whole result is the array the kernel leaves. -/
theorem ref_eq (x0 x1 : Cert.Kernel7Ideal.S256x4096.Idx → EReal) (x2 : Cert.Kernel7Ideal.S16x4352x256.Idx → EReal) :
    Cert.Reference7Ideal.Read.val_main_v27 (F := Ideal) x0 x1 x2 = Cert.Kernel7Ideal.Four.result x0 x1 x2 := by
  funext i
  have hi : i = ix3 (i 0 : Fin 16) (i 1 : Fin 4352) (i 2 : Fin 256) := by funext a; fin_cases a <;> rfl
  rw [hi]
  exact Cert.Reference7Ideal.Four.ref_apply x0 x1 x2 _ _ _

/-- From memories that agree on the arguments, kernel and reference end with one result. -/
theorem algebraic : Cert.algebraic_Kernel7Ideal_Reference7Ideal := by
  intro m g m' g' _ hag
  refine ⟨fun c => Cert.Kernel7Ideal.Four.result
      (m ((c : Thread Cert.Kernel7Ideal.nD Cert.Kernel7Ideal.τ).loc Cert.Kernel7Ideal.main_arg0))
      (m ((c : Thread Cert.Kernel7Ideal.nD Cert.Kernel7Ideal.τ).loc Cert.Kernel7Ideal.main_arg1))
      (m ((c : Thread Cert.Kernel7Ideal.nD Cert.Kernel7Ideal.τ).loc Cert.Kernel7Ideal.main_arg2)), ?_, ?_⟩
  · refine (θ_run _ _ _).mono (fun r h c => ?_) (Cert.Kernel7Ideal.Gen.run_main m g)
    exact ⟨(Cert.Kernel7Ideal.Value.post4 m r h c).trans (Cert.Kernel7Ideal.Four.final m c),
      Cert.Kernel7Ideal.Value.kept_main_arg0 m r h c, Cert.Kernel7Ideal.Value.kept_main_arg1 m r h c,
      Cert.Kernel7Ideal.Value.kept_main_arg2 m r h c⟩
  · refine (θ_run _ _ _).mono (fun r h c => ⟨(h c).1.trans ?_, (h c).2⟩) (Cert.Reference7Ideal.Value.run m' g')
    obtain ⟨a0, a1, a2⟩ := hag c
    rw [Cert.Reference7Ideal.Read.val_main_v27_eq, a0, a1, a2]
    exact ref_eq _ _ _

end Cert.FourClaim

end
-- ==== Proof.OutRow.lean ====
/-
  The output projection's row arithmetic, shared by the kernel and its reference: the gated scan row, the norm of a row, the
  mixed row, the residual and the row handed to the experts.
-/
module

public import Idealize.ShloMosaic.Lib.Tactic
public import Idealize.ShloMosaic.Lib.Pointwise

@[expose] public section

set_option maxRecDepth 16384

noncomputable section

namespace Cert.OutRow

open Idealize.ShloMosaic

/-- The inverse root mean square of a row, `n` being its length as a number. -/
def invRms {N : Nat} (n : EReal) (f : Fin N → EReal) : EReal :=
  Ideal.rsqrt (Ideal.div (∑ k, f k * f k) n + Ideal.ofBits FTy.f32 0x358637BD#32)

/-- The norm of a row at a column. -/
def rms {N : Nat} (n : EReal) (f g : Fin N → EReal) (k : Fin N) : EReal := f k * invRms n f * g k

/-- The sum of the two scans under its gate. -/
def gated (a b z : EReal) : EReal := (a + b) * (z * Ideal.logistic z)

/-- The normed row of the scans. -/
def ssd (a b z g : Fin 384 → EReal) (k : Fin 384) : EReal :=
  rms (Ideal.ofBits FTy.f32 0x43C00000#32) (fun k => gated (a k) (b k) (z k)) g k

/-- The mixed row: the three groups of heads, each times its rows of the weights. -/
def mix (fo : Fin 256 → EReal) (a s : Fin 384 → EReal) (w0 : Fin 256 → Fin 1024 → EReal) (w1 w2 : Fin 384 → Fin 1024 → EReal)
    (d : Fin 1024) : EReal :=
  ((∑ k, fo k * w0 k d) + ∑ k, a k * w1 k d) + ∑ k, s k * w2 k d

/-- The row after the residual. -/
def res (h g m p : Fin 1024 → EReal) (d : Fin 1024) : EReal :=
  h d + g d * rms (Ideal.ofBits FTy.f32 0x44800000#32) m p d

/-- The row handed to the experts. -/
def toExperts (h p sc sh : Fin 1024 → EReal) (d : Fin 1024) : EReal :=
  rms (Ideal.ofBits FTy.f32 0x44800000#32) h p d * (Ideal.ofBits FTy.f32 0x3F800000#32 + sc d) + sh d

/-- The kernel's router product: both factors split into a part and the rest. -/
def split (u wh wl : Fin 1024 → EReal) : EReal :=
  ((∑ k, wh k * u k) + ∑ k, wh k * (u k - u k)) + ∑ k, wl k * u k

end Cert.OutRow

end
-- ==== Proof.OutBlock.lean ====
/-
  The output projection's kernel on one block of rows.
-/
module

public import proofs.«01_k».proof.Proof.Gen.Kernel9Ideal.Value
public import proofs.«01_k».proof.Proof.OutRow
public import Idealize.ShloMosaic.Lib.Tactic
public import Idealize.ShloMosaic.Lib.Pipeline.ValueKit
public import Idealize.ShloMosaic.Lib.Pipeline.Covers
public import Idealize.ShloMosaic.Lib.Pointwise

@[expose] public section

set_option maxRecDepth 16384

noncomputable section

namespace Cert.Kernel9Ideal.Out

open Cert.Kernel9Ideal Cert.Kernel9Ideal.Gen Cert.OutRow Idealize.ShloMosaic Idealize.ShloMosaic.TcCoe Idealize.SL.Sem Idealize.ShloMosaic.StableHlo

theorem pay1 (a b z : Vec Ideal S1x512x384 .bf16) (g : Vec Ideal S1x384 .f32) (r : Fin 512) (k : Fin 384) :
    k0_pay1 a b z g (ix2 r k) = ssd (fun k => a (ix3 0 r k)) (fun k => b (ix3 0 r k)) (fun k => z (ix3 0 r k)) (fun k => g (ix2 0 k)) k := by
  unfold ssd rms invRms gated
  pointwise [k0_pay1]

theorem pay2 (fo : Vec Ideal S1x512x256 .bf16) (w : Vec Ideal S256x1024 .bf16) (r : Fin 512) (d : Fin 1024) :
    k0_pay2 fo w (ix2 r d) = ∑ k : Fin 256, fo (ix3 0 r k) * w (ix2 k d) := by
  pointwise [k0_pay2]

theorem pay3 (a : Vec Ideal S1x512x384 .bf16) (r : Fin 512) (k : Fin 384) : k0_pay3 a (ix2 r k) = a (ix3 0 r k) := by
  pointwise [k0_pay3]

/-- The mixed row as the kernel holds it. -/
def mrow (s : FVec Ideal S512x384 .bf16) (f : FVec Ideal S512x1024 .f32) (a : FVec Ideal S512x384 .bf16) (w1 w2 : Vec Ideal S384x1024 .bf16)
    (r : Fin 512) (d : Fin 1024) : EReal :=
  (f (ix2 r d) + ∑ k : Fin 384, a (ix2 r k) * w1 (ix2 k d)) + ∑ k : Fin 384, s (ix2 r k) * w2 (ix2 k d)

theorem pay5 (s : FVec Ideal S512x384 .bf16) (f : FVec Ideal S512x1024 .f32) (a : FVec Ideal S512x384 .bf16) (w1 w2 : Vec Ideal S384x1024 .bf16)
    (q : Vec Ideal S1x1x6x1024 .f32) (h : Vec Ideal S1x512x1024 .f32) (p : Vec Ideal S1x1024 .f32) (r : Fin 512) (d : Fin 1024) :
    k0_pay5 s f a w1 w2 q h p (ix2 r d)
      = res (fun d => h (ix3 0 r d)) (fun d => q (ix4 0 0 2 d)) (mrow s f a w1 w2 r) (fun d => p (ix2 0 d)) d := by
  unfold res rms invRms mrow
  pointwise [k0_pay5, k0_pay4]

theorem pay9 (q : Vec Ideal S1x1x6x1024 .f32) (x y : FVec Ideal S512x1024 .f32) (hy : ∀ i, y i = x i * x i) (p : Vec Ideal S1x1024 .f32) (r : Fin 512) (d : Fin 1024) :
    k0_pay9 (k0_pay4 q) x (k0_pay7 p) y (ix2 r d)
      = toExperts (fun d => x (ix2 r d)) (fun d => p (ix2 0 d)) (fun d => q (ix4 0 0 4 d)) (fun d => q (ix4 0 0 3 d)) d := by
  unfold toExperts rms invRms
  simp only [← hy]
  pointwise [k0_pay9, k0_pay4, k0_pay7]

theorem pay11 (q : FVec Ideal S6x1024 .f32) (x y : FVec Ideal S512x1024 .f32) (p : FVec Ideal S1x1024 .f32) (wh wl : Vec Ideal S1x16x1024 .bf16) (e : Fin 16) (r : Fin 512) :
    k0_pay11 q x p y wh wl (ix3 0 e r)
      = split (fun d => k0_pay9 q x p y (ix2 r d)) (fun d => wh (ix3 0 e d)) (fun d => wl (ix3 0 e d)) := by
  unfold split
  unfold k0_pay11
  generalize k0_pay9 q x p y = u
  pointwise

theorem pay6 (s : FVec Ideal S512x384 .bf16) (f : FVec Ideal S512x1024 .f32) (a : FVec Ideal S512x384 .bf16) (w1 w2 : Vec Ideal S384x1024 .bf16)
    (q : Vec Ideal S1x1x6x1024 .f32) (h : Vec Ideal S1x512x1024 .f32) (p : Vec Ideal S1x1024 .f32) (r : Fin 512) (d : Fin 1024) :
    k0_pay6 s f a w1 w2 q h p (ix3 0 r d) = k0_pay5 s f a w1 w2 q h p (ix2 r d) := by
  unfold k0_pay6
  generalize k0_pay5 s f a w1 w2 q h p = u
  pointwise

theorem pay10 (q : FVec Ideal S6x1024 .f32) (x y : FVec Ideal S512x1024 .f32) (p : FVec Ideal S1x1024 .f32) (r : Fin 512) (d : Fin 1024) :
    k0_pay10 q x p y (ix3 0 r d) = k0_pay9 q x p y (ix2 r d) := by
  unfold k0_pay10
  generalize k0_pay9 q x p y = u
  pointwise

theorem ld_top (w : Vec Ideal S1024x1024 .bf16) (k : Fin 256) (d : Fin 1024) :
    View.ld w (Rect.unit ![0, 0] ![256, 1024] inb_S1024x1024_S256x1024_0_0) (ix2 k d) = w (ix2 ⟨k.val, by omega⟩ d) :=
  congrArg w (by funext a; fin_cases a <;> apply Fin.ext <;> simp [LoadRect.idx, Rect.unit])

theorem ld_mid (w : Vec Ideal S1024x1024 .bf16) (k : Fin 384) (d : Fin 1024) :
    View.ld w (Rect.unit ![256, 0] ![384, 1024] inb_S1024x1024_S384x1024_256_0) (ix2 k d) = w (ix2 ⟨256 + k.val, by omega⟩ d) :=
  congrArg w (by funext a; fin_cases a <;> apply Fin.ext <;> simp [LoadRect.idx, Rect.unit])

theorem ld_low (w : Vec Ideal S1024x1024 .bf16) (k : Fin 384) (d : Fin 1024) :
    View.ld w (Rect.unit ![640, 0] ![384, 1024] inb_S1024x1024_S384x1024_640_0) (ix2 k d) = w (ix2 ⟨640 + k.val, by omega⟩ d) :=
  congrArg w (by funext a; fin_cases a <;> apply Fin.ext <;> simp [LoadRect.idx, Rect.unit])

theorem ld_0 (w : Vec Ideal S2x16x1024 .bf16) (e : Fin 16) (d : Fin 1024) :
    View.ld w (Rect.unit ![0, 0, 0] ![1, 16, 1024] inb_S2x16x1024_S1x16x1024_0_0_0) (ix3 0 e d) = w (ix3 0 e d) :=
  congrArg w (by funext a; fin_cases a <;> apply Fin.ext <;> simp [LoadRect.idx, Rect.unit])

theorem ld_1 (w : Vec Ideal S2x16x1024 .bf16) (e : Fin 16) (d : Fin 1024) :
    View.ld w (Rect.unit ![1, 0, 0] ![1, 16, 1024] inb_S2x16x1024_S1x16x1024_1_0_0) (ix3 0 e d) = w (ix3 1 e d) :=
  congrArg w (by funext a; fin_cases a <;> apply Fin.ext <;> simp [LoadRect.idx, Rect.unit])

end Cert.Kernel9Ideal.Out

end
-- ==== Proof.OutWhole.lean ====
/-
  The output projection's results as functions of its arguments.
-/
module

public import proofs.«01_k».proof.Kernel9Ideal
public import proofs.«01_k».proof.Proof.OutRow
public import Idealize.ShloMosaic.Lib.Pointwise

@[expose] public section

set_option maxRecDepth 16384

noncomputable section

namespace Cert.OutWhole

open Cert.Kernel9Ideal Cert.OutRow Idealize.ShloMosaic

/-- Where the kernel's column `k` of the attention's heads stands in the layer's order. -/
def place (k : Fin 384) : Fin 384 := ⟨k.val / 64 % 2 * 192 + k.val / 128 * 64 + k.val % 64, by omega⟩

variable (x0 : S16x4096x256.Idx → EReal) (x1 : S16x4096x384.Idx → EReal) (x2 x3 x4 : S16x4352x384.Idx → EReal)
  (x5 : S16x4352x1024.Idx → EReal) (x6 : S24x6x1024.Idx → EReal) (x7 : S384.Idx → EReal) (x8 x9 : S1024.Idx → EReal)
  (x10 : S1024x1024.Idx → EReal) (x11 : S1024x16.Idx → EReal) (b : Fin 16) (r : Fin 4096)

/-- A row of the scans, gated and normed. -/
def scans (k : Fin 384) : EReal :=
  ssd (fun k => x2 (ix3 b ⟨r.val, by omega⟩ k)) (fun k => x3 (ix3 b ⟨r.val, by omega⟩ k)) (fun k => x4 (ix3 b ⟨r.val, by omega⟩ k)) (fun k => x7 (ix1 k)) k

/-- A mixed row. -/
def mixed (d : Fin 1024) : EReal :=
  mix (fun k => x0 (ix3 b r k)) (fun k => x1 (ix3 b r k)) (scans x2 x3 x4 x7 b r) (fun k d => x10 (ix2 ⟨k.val, by omega⟩ d))
    (fun k d => x10 (ix2 ⟨256 + (place k).val, by omega⟩ d)) (fun k d => x10 (ix2 ⟨640 + k.val, by omega⟩ d)) d

/-- A row after the residual. -/
def hiddenRow (d : Fin 1024) : EReal :=
  res (fun d => x5 (ix3 b ⟨r.val, by omega⟩ d)) (fun d => x6 (ix3 ⟨b.val, by omega⟩ 2 d)) (mixed x0 x1 x2 x3 x4 x7 x10 b r) (fun d => x8 (ix1 d)) d

/-- A row handed to the experts. -/
def handed (d : Fin 1024) : EReal :=
  toExperts (hiddenRow x0 x1 x2 x3 x4 x5 x6 x7 x8 x10 b r) (fun d => x9 (ix1 d)) (fun d => x6 (ix3 ⟨b.val, by omega⟩ 4 d)) (fun d => x6 (ix3 ⟨b.val, by omega⟩ 3 d)) d

/-- The router's product of a row as the kernel forms it. -/
def routed (e : Fin 16) : EReal :=
  split (handed x0 x1 x2 x3 x4 x5 x6 x7 x8 x9 x10 b r) (fun d => x11 (ix2 d e)) (fun d => x11 (ix2 d e) - x11 (ix2 d e))

end Cert.OutWhole

end
-- ==== Proof.OutHost.lean ====
/-
  The arguments the output projection's host code prepares: the weights with the attention's heads reordered, the router's
  weights as a part and the rest, the tables and the scales.
-/
module

public import proofs.«01_k».proof.Proof.OutBlock
public import proofs.«01_k».proof.Proof.OutWhole

@[expose] public section

set_option maxRecDepth 16384

noncomputable section

namespace Cert.Kernel9Ideal.Out

open Cert.Kernel9Ideal Cert.Kernel9Ideal.Gen Cert.OutRow Cert.OutWhole Idealize.ShloMosaic Idealize.ShloMosaic.TcCoe Idealize.SL.Sem Idealize.ShloMosaic.StableHlo

theorem gates (x : S24x6x1024.Idx → EReal) (b : Fin 24) (q : Fin 6) (d : Fin 1024) :
    shapeCast S24x1x6x1024 x shapeCasts_S24x6x1024_S24x1x6x1024 (ix4 b 0 q d) = x (ix3 b q d) := by
  pointwise

theorem scales (x : S1024.Idx → EReal) (d : Fin 1024) : shapeCast S1x1024 x shapeCasts_S1024_S1x1024 (ix2 0 d) = x (ix1 d) := by
  pointwise

theorem scales' (x : S384.Idx → EReal) (d : Fin 384) : shapeCast S1x384 x shapeCasts_S384_S1x384 (ix2 0 d) = x (ix1 d) := by
  pointwise

/-- The reordered middle rows of the weights. -/
def middle (x : S1024x1024.Idx → EReal) : S384x1024.Idx → EReal :=
  shapeCast S384x1024 (transpose S3x2x64x1024 [1, 0, 2, 3] (shapeCast S2x3x64x1024
    (extractStridedSlice S384x1024 ![256, 0] x slices_S1024x1024_S384x1024_256_0) shapeCasts_S384x1024_S2x3x64x1024)
      transposes_S2x3x64x1024_S3x2x64x1024_1_0_2_3) shapeCasts_S3x2x64x1024_S384x1024

theorem middle_apply (x : S1024x1024.Idx → EReal) (k : Fin 384) (d : Fin 1024) :
    middle x (ix2 k d) = x (ix2 ⟨256 + (place k).val, by omega⟩ d) := by
  unfold middle place
  pointwise

/-- The weights the kernel is given. -/
def weights (x : S1024x1024.Idx → EReal) : S1024x1024.Idx → EReal :=
  concatenate S1024x1024 0 [⟨S256x1024, extractStridedSlice S256x1024 ![0, 0] x slices_S1024x1024_S256x1024_0_0⟩, ⟨S384x1024, middle x⟩,
    ⟨S384x1024, extractStridedSlice S384x1024 ![640, 0] x slices_S1024x1024_S384x1024_640_0⟩] concatenates_S256x1024_S384x1024_S384x1024_S1024x1024_d0

theorem weights_0 (x : S1024x1024.Idx → EReal) (k : Fin 256) (d : Fin 1024) :
    weights x (ix2 ⟨k.val, by omega⟩ d) = x (ix2 ⟨k.val, by omega⟩ d) := by
  unfold weights
  generalize middle x = y
  pointwise

theorem weights_1 (x : S1024x1024.Idx → EReal) (k : Fin 384) (d : Fin 1024) :
    weights x (ix2 ⟨256 + k.val, by omega⟩ d) = middle x (ix2 k d) := by
  unfold weights
  generalize middle x = y
  pointwise

theorem weights_2 (x : S1024x1024.Idx → EReal) (k : Fin 384) (d : Fin 1024) :
    weights x (ix2 ⟨640 + k.val, by omega⟩ d) = x (ix2 ⟨640 + k.val, by omega⟩ d) := by
  unfold weights
  generalize middle x = y
  pointwise
  rw [dif_neg (show ¬ 640 + k.val < 256 by omega), dif_neg (show ¬ 640 + k.val - 256 < 384 by omega)]
  refine congrArg x (congrArg (fun q => ix2 q d) (Fin.ext ?_))
  show 640 + (640 + k.val - 256 - 384) = 640 + k.val
  omega

/-- The router's weights the kernel is given. -/
def router (x : S1024x16.Idx → EReal) : S2x16x1024.Idx → EReal :=
  concatenate S2x16x1024 0 [⟨S1x16x1024, broadcastInDim S1x16x1024 ![1, 2] bcast_S16x1024_S1x16x1024_1_2 (transpose S16x1024 [1, 0] x transposes_S1024x16_S16x1024_1_0)⟩,
    ⟨S1x16x1024, broadcastInDim S1x16x1024 ![1, 2] bcast_S16x1024_S1x16x1024_1_2 (fun i => transpose S16x1024 [1, 0] x transposes_S1024x16_S16x1024_1_0 i - transpose S16x1024 [1, 0] x transposes_S1024x16_S16x1024_1_0 i)⟩]
      concatenates_S1x16x1024_S1x16x1024_S2x16x1024_d0

theorem router_0 (x : S1024x16.Idx → EReal) (e : Fin 16) (d : Fin 1024) : router x (ix3 0 e d) = x (ix2 d e) := by
  unfold router
  pointwise

theorem router_1 (x : S1024x16.Idx → EReal) (e : Fin 16) (d : Fin 1024) : router x (ix3 1 e d) = x (ix2 d e) - x (ix2 d e) := by
  unfold router
  pointwise

variable (m : (ℓ : Loc nD τ sig) → Buf (Elt Ideal) ℓ)

theorem V_w (c : Dev nD) : V m c main_v7 = weights (m ((c : Thread nD τ).loc main_arg10) : S1024x1024.Idx → EReal) := by
  unfold V
  simp only [hostOps0]
  after_results
  rfl

theorem V_r (c : Dev nD) : V m c main_v17 = router (m ((c : Thread nD τ).loc main_arg11) : S1024x16.Idx → EReal) := by
  unfold V
  simp only [hostOps0]
  after_results
  rfl

theorem V_g (c : Dev nD) (b : Fin 24) (q : Fin 6) (d : Fin 1024) :
    V m c main_v18 (ix4 b 0 q d) = (m ((c : Thread nD τ).loc main_arg6) : S24x6x1024.Idx → EReal) (ix3 b q d) := by
  have h : V m c main_v18 = shapeCast S24x1x6x1024 (m ((c : Thread nD τ).loc main_arg6) : S24x6x1024.Idx → EReal) shapeCasts_S24x6x1024_S24x1x6x1024 := by
    unfold V
    simp only [hostOps0]
    after_results
    rfl
  rw [h]
  exact gates _ b q d

theorem V_s (c : Dev nD) (d : Fin 384) : V m c main_v19 (ix2 0 d) = (m ((c : Thread nD τ).loc main_arg7) : S384.Idx → EReal) (ix1 d) := by
  have h : V m c main_v19 = shapeCast S1x384 (m ((c : Thread nD τ).loc main_arg7) : S384.Idx → EReal) shapeCasts_S384_S1x384 := by
    unfold V
    simp only [hostOps0]
    after_results
    rfl
  rw [h]
  exact scales' _ d

theorem V_p (c : Dev nD) (d : Fin 1024) : V m c main_v20 (ix2 0 d) = (m ((c : Thread nD τ).loc main_arg8) : S1024.Idx → EReal) (ix1 d) := by
  have h : V m c main_v20 = shapeCast S1x1024 (m ((c : Thread nD τ).loc main_arg8) : S1024.Idx → EReal) shapeCasts_S1024_S1x1024 := by
    unfold V
    simp only [hostOps0]
    after_results
    rfl
  rw [h]
  exact scales _ d

theorem V_q (c : Dev nD) (d : Fin 1024) : V m c main_v21 (ix2 0 d) = (m ((c : Thread nD τ).loc main_arg9) : S1024.Idx → EReal) (ix1 d) := by
  have h : V m c main_v21 = shapeCast S1x1024 (m ((c : Thread nD τ).loc main_arg9) : S1024.Idx → EReal) shapeCasts_S1024_S1x1024 := by
    unfold V
    simp only [hostOps0]
    after_results
    rfl
  rw [h]
  exact scales _ d

end Cert.Kernel9Ideal.Out

end
-- ==== Proof.OutFinal.lean ====
/-
  The output projection's results at a grid point, from the arguments.
-/
module

public import proofs.«01_k».proof.Proof.OutHost

@[expose] public section

set_option maxRecDepth 16384

noncomputable section

namespace Cert.Kernel9Ideal.Out

open Cert.Kernel9Ideal Cert.Kernel9Ideal.Gen Cert.OutRow Cert.OutWhole Idealize.ShloMosaic Idealize.ShloMosaic.TcCoe Idealize.SL.Sem Idealize.ShloMosaic.StableHlo

variable (m : (ℓ : Loc nD τ sig) → Buf (Elt Ideal) ℓ) (c : Dev nD)

theorem idx : ∀ t : Fin cfg0.N, win0_0.index t = ![t.val / 8, t.val % 8, 0] ∧ win0_1.index t = ![t.val / 8, t.val % 8, 0]
   ∧ win0_2.index t = ![t.val / 8, t.val % 8, 0] ∧ win0_3.index t = ![t.val / 8, t.val % 8, 0]
   ∧ win0_4.index t = ![t.val / 8, t.val % 8, 0] ∧ win0_5.index t = ![t.val / 8, t.val % 8, 0]
   ∧ win0_6.index t = ![t.val / 8, 0, 0, 0] ∧ win0_7.index t = ![0, 0] ∧ win0_8.index t = ![0, 0] ∧ win0_9.index t = ![0, 0]
   ∧ win0_10.index t = ![0, 0] ∧ win0_11.index t = ![0, 0, 0]
   ∧ win0_12.index t = ![t.val / 8, t.val % 8, 0] ∧ win0_13.index t = ![t.val / 8, t.val % 8, 0] ∧ win0_14.index t = ![t.val / 8, 0, t.val % 8] := by decide +kernel

/-- The sample of a grid point. -/
def sample (t : Fin cfg0.N) : Fin 16 := ⟨t.val / 8, by have : t.val < 128 := t.isLt; omega⟩

/-- The row of the sample that stands at row `r` of a grid point's block. -/
def row (t : Fin cfg0.N) (r : Fin 512) : Fin 4096 := ⟨t.val % 8 * 512 + r.val, by omega⟩

theorem read0 (t : Fin cfg0.N) (r : Fin 512) (k : Fin 256) : iblk m c 0 t (ix3 0 r k) = (m ((c : Thread nD τ).loc main_arg0) : S16x4096x256.Idx → EReal) (ix3 (sample t) (row t r) k) := by
  have ht : t.val < 128 := t.isLt
  unfold sample row
  blk_ext [iblk, idx t]

theorem read1 (t : Fin cfg0.N) (r : Fin 512) (k : Fin 384) : iblk m c 1 t (ix3 0 r k) = (m ((c : Thread nD τ).loc main_arg1) : S16x4096x384.Idx → EReal) (ix3 (sample t) (row t r) k) := by
  have ht : t.val < 128 := t.isLt
  unfold sample row
  blk_ext [iblk, idx t]

theorem read2 (t : Fin cfg0.N) (r : Fin 512) (k : Fin 384) : X0_2 m c t (ix3 0 r k) = (m ((c : Thread nD τ).loc main_arg2) : S16x4352x384.Idx → EReal) (ix3 (sample t) ⟨(row t r).val, by omega⟩ k) := by
  have ht : t.val < 128 := t.isLt
  unfold sample row X0_2 Pipeline.Window.fill
  rw [dif_pos (moved0_2 t _)]
  blk_ext [iblk, idx t]

theorem read3 (t : Fin cfg0.N) (r : Fin 512) (k : Fin 384) : X0_3 m c t (ix3 0 r k) = (m ((c : Thread nD τ).loc main_arg3) : S16x4352x384.Idx → EReal) (ix3 (sample t) ⟨(row t r).val, by omega⟩ k) := by
  have ht : t.val < 128 := t.isLt
  unfold sample row X0_3 Pipeline.Window.fill
  rw [dif_pos (moved0_3 t _)]
  blk_ext [iblk, idx t]

theorem read4 (t : Fin cfg0.N) (r : Fin 512) (k : Fin 384) : X0_4 m c t (ix3 0 r k) = (m ((c : Thread nD τ).loc main_arg4) : S16x4352x384.Idx → EReal) (ix3 (sample t) ⟨(row t r).val, by omega⟩ k) := by
  have ht : t.val < 128 := t.isLt
  unfold sample row X0_4 Pipeline.Window.fill
  rw [dif_pos (moved0_4 t _)]
  blk_ext [iblk, idx t]

theorem read5 (t : Fin cfg0.N) (r : Fin 512) (d : Fin 1024) : X0_5 m c t (ix3 0 r d) = (m ((c : Thread nD τ).loc main_arg5) : S16x4352x1024.Idx → EReal) (ix3 (sample t) ⟨(row t r).val, by omega⟩ d) := by
  have ht : t.val < 128 := t.isLt
  unfold sample row X0_5 Pipeline.Window.fill
  rw [dif_pos (moved0_5 t _)]
  blk_ext [iblk, idx t]

theorem read6 (t : Fin cfg0.N) (q : Fin 6) (d : Fin 1024) : iblk m c 6 t (ix4 0 0 q d) = (m ((c : Thread nD τ).loc main_arg6) : S24x6x1024.Idx → EReal) (ix3 ⟨(sample t).val, by omega⟩ q d) := by
  have ht : t.val < 128 := t.isLt
  refine Eq.trans ?_ (V_g m c _ _ _)
  unfold sample
  blk_ext [iblk, idx t]

theorem read7 (t : Fin cfg0.N) (d : Fin 384) : iblk m c 7 t (ix2 0 d) = (m ((c : Thread nD τ).loc main_arg7) : S384.Idx → EReal) (ix1 d) := by
  refine Eq.trans ?_ (V_s m c _)
  blk_ext [iblk, idx t]

theorem read8 (t : Fin cfg0.N) (d : Fin 1024) : iblk m c 8 t (ix2 0 d) = (m ((c : Thread nD τ).loc main_arg8) : S1024.Idx → EReal) (ix1 d) := by
  refine Eq.trans ?_ (V_p m c _)
  blk_ext [iblk, idx t]

theorem read9 (t : Fin cfg0.N) (d : Fin 1024) : iblk m c 9 t (ix2 0 d) = (m ((c : Thread nD τ).loc main_arg9) : S1024.Idx → EReal) (ix1 d) := by
  refine Eq.trans ?_ (V_q m c _)
  blk_ext [iblk, idx t]

theorem read10 (t : Fin cfg0.N) (k d : Fin 1024) : iblk m c 10 t (ix2 k d) = weights (m ((c : Thread nD τ).loc main_arg10) : S1024x1024.Idx → EReal) (ix2 k d) := by
  refine Eq.trans ?_ (congrFun (V_w m c) _)
  blk_ext [iblk, idx t]

theorem read11 (t : Fin cfg0.N) (a : Fin 2) (e : Fin 16) (d : Fin 1024) : iblk m c 11 t (ix3 a e d) = router (m ((c : Thread nD τ).loc main_arg11) : S1024x16.Idx → EReal) (ix3 a e d) := by
  refine Eq.trans ?_ (congrFun (V_r m c) _)
  blk_ext [iblk, idx t]

end Cert.Kernel9Ideal.Out

end
-- ==== Proof.OutRows.lean ====
/-
  The output projection's result arrays after its last step.
-/
module

public import proofs.«01_k».proof.Proof.OutFinal

@[expose] public section

set_option maxRecDepth 16384

noncomputable section

namespace Cert.Kernel9Ideal.Out

open Cert.Kernel9Ideal Cert.Kernel9Ideal.Gen Cert.OutRow Cert.OutWhole Idealize.ShloMosaic Idealize.ShloMosaic.TcCoe Idealize.SL.Sem Idealize.ShloMosaic.StableHlo

variable (m : (ℓ : Loc nD τ sig) → Buf (Elt Ideal) ℓ) (c : Dev nD)

abbrev arg0 : S16x4096x256.Idx → EReal := m ((c : Thread nD τ).loc main_arg0)
abbrev arg1 : S16x4096x384.Idx → EReal := m ((c : Thread nD τ).loc main_arg1)
abbrev arg2 : S16x4352x384.Idx → EReal := m ((c : Thread nD τ).loc main_arg2)
abbrev arg3 : S16x4352x384.Idx → EReal := m ((c : Thread nD τ).loc main_arg3)
abbrev arg4 : S16x4352x384.Idx → EReal := m ((c : Thread nD τ).loc main_arg4)
abbrev arg5 : S16x4352x1024.Idx → EReal := m ((c : Thread nD τ).loc main_arg5)
abbrev arg6 : S24x6x1024.Idx → EReal := m ((c : Thread nD τ).loc main_arg6)
abbrev arg7 : S384.Idx → EReal := m ((c : Thread nD τ).loc main_arg7)
abbrev arg8 : S1024.Idx → EReal := m ((c : Thread nD τ).loc main_arg8)
abbrev arg9 : S1024.Idx → EReal := m ((c : Thread nD τ).loc main_arg9)
abbrev arg10 : S1024x1024.Idx → EReal := m ((c : Thread nD τ).loc main_arg10)
abbrev arg11 : S1024x16.Idx → EReal := m ((c : Thread nD τ).loc main_arg11)

theorem scan (t : Fin cfg0.N) (r : Fin 512) (k : Fin 384) :
    k0_pay1 (X0_2 m c t) (X0_3 m c t) (X0_4 m c t) (iblk m c 7 t) (ix2 r k) = scans (arg2 m c) (arg3 m c) (arg4 m c) (arg7 m c) (sample t) (row t r) k := by
  rw [pay1]
  unfold scans
  simp only [read2, read3, read4, read7]

theorem top (t : Fin cfg0.N) (k : Fin 256) (d : Fin 1024) :
    View.ld (iblk m c 10 t) (Rect.unit ![0, 0] ![256, 1024] inb_S1024x1024_S256x1024_0_0) (ix2 k d) = arg10 m c (ix2 ⟨k.val, by omega⟩ d) := by
  refine Eq.trans ?_ (weights_0 (arg10 m c) k d)
  exact (ld_top _ k d).trans (read10 m c t ⟨k.val, by omega⟩ d)

theorem mid (t : Fin cfg0.N) (k : Fin 384) (d : Fin 1024) :
    View.ld (iblk m c 10 t) (Rect.unit ![256, 0] ![384, 1024] inb_S1024x1024_S384x1024_256_0) (ix2 k d) = arg10 m c (ix2 ⟨256 + (place k).val, by omega⟩ d) := by
  refine Eq.trans ?_ (middle_apply (arg10 m c) k d)
  refine Eq.trans ?_ (weights_1 (arg10 m c) k d)
  exact (ld_mid _ k d).trans (read10 m c t ⟨256 + k.val, by omega⟩ d)

theorem low (t : Fin cfg0.N) (k : Fin 384) (d : Fin 1024) :
    View.ld (iblk m c 10 t) (Rect.unit ![640, 0] ![384, 1024] inb_S1024x1024_S384x1024_640_0) (ix2 k d) = arg10 m c (ix2 ⟨640 + k.val, by omega⟩ d) := by
  refine Eq.trans ?_ (weights_2 (arg10 m c) k d)
  exact (ld_low _ k d).trans (read10 m c t ⟨640 + k.val, by omega⟩ d)

/-- The row after the residual, as the kernel holds it at a grid point. -/
def held (t : Fin cfg0.N) : FVec Ideal S512x1024 .f32 :=
  k0_pay5 (k0_pay1 (X0_2 m c t) (X0_3 m c t) (X0_4 m c t) (iblk m c 7 t))
    (k0_pay2 (iblk m c 0 t) (View.ld (iblk m c 10 t) (Rect.unit ![0, 0] ![256, 1024] inb_S1024x1024_S256x1024_0_0)))
    (k0_pay3 (iblk m c 1 t))
    (View.ld (iblk m c 10 t) (Rect.unit ![256, 0] ![384, 1024] inb_S1024x1024_S384x1024_256_0))
    (View.ld (iblk m c 10 t) (Rect.unit ![640, 0] ![384, 1024] inb_S1024x1024_S384x1024_640_0)) (iblk m c 6 t)
    (X0_5 m c t) (iblk m c 8 t)

theorem held_apply (t : Fin cfg0.N) (r : Fin 512) (d : Fin 1024) : held m c t (ix2 r d) = hiddenRow (arg0 m c) (arg1 m c) (arg2 m c) (arg3 m c) (arg4 m c) (arg5 m c) (arg6 m c) (arg7 m c) (arg8 m c) (arg10 m c) (sample t) (row t r) d := by
  unfold held
  rw [pay5]
  unfold hiddenRow
  have e : mrow (k0_pay1 (X0_2 m c t) (X0_3 m c t) (X0_4 m c t) (iblk m c 7 t))
    (k0_pay2 (iblk m c 0 t) (View.ld (iblk m c 10 t) (Rect.unit ![0, 0] ![256, 1024] inb_S1024x1024_S256x1024_0_0)))
    (k0_pay3 (iblk m c 1 t))
    (View.ld (iblk m c 10 t) (Rect.unit ![256, 0] ![384, 1024] inb_S1024x1024_S384x1024_256_0))
    (View.ld (iblk m c 10 t) (Rect.unit ![640, 0] ![384, 1024] inb_S1024x1024_S384x1024_640_0)) r
      = mixed (arg0 m c) (arg1 m c) (arg2 m c) (arg3 m c) (arg4 m c) (arg7 m c) (arg10 m c) (sample t) (row t r) := by
    funext d
    unfold mrow mixed mix
    rw [pay2]
    simp only [pay3, scan, top, mid, low, read0, read1]
  rw [e]
  simp only [read5, read6, read8]

theorem square (t : Fin cfg0.N) (i : S512x1024.Idx) : k0_pay8 (k0_pay1 (X0_2 m c t) (X0_3 m c t) (X0_4 m c t) (iblk m c 7 t))
    (k0_pay2 (iblk m c 0 t) (View.ld (iblk m c 10 t) (Rect.unit ![0, 0] ![256, 1024] inb_S1024x1024_S256x1024_0_0)))
    (k0_pay3 (iblk m c 1 t))
    (View.ld (iblk m c 10 t) (Rect.unit ![256, 0] ![384, 1024] inb_S1024x1024_S384x1024_256_0))
    (View.ld (iblk m c 10 t) (Rect.unit ![640, 0] ![384, 1024] inb_S1024x1024_S384x1024_640_0)) (iblk m c 6 t)
    (X0_5 m c t) (iblk m c 8 t) i = held m c t i * held m c t i := rfl

theorem pay9_apply (t : Fin cfg0.N) (y : FVec Ideal S512x1024 .f32) (hy : ∀ i, y i = held m c t i * held m c t i) (r : Fin 512) (d : Fin 1024) :
    k0_pay9 (k0_pay4 (iblk m c 6 t)) (held m c t) (k0_pay7 (iblk m c 9 t)) y (ix2 r d) = handed (arg0 m c) (arg1 m c) (arg2 m c) (arg3 m c) (arg4 m c) (arg5 m c) (arg6 m c) (arg7 m c) (arg8 m c) (arg9 m c) (arg10 m c) (sample t) (row t r) d := by
  rw [pay9 _ _ _ hy]
  unfold handed
  simp only [held_apply, read6, read9]

theorem out12 (t : Fin cfg0.N) (r : Fin 512) (d : Fin 1024) : (outsAt0 m c t).1 (ix3 0 r d) = hiddenRow (arg0 m c) (arg1 m c) (arg2 m c) (arg3 m c) (arg4 m c) (arg5 m c) (arg6 m c) (arg7 m c) (arg8 m c) (arg10 m c) (sample t) (row t r) d := by
  unfold outsAt0 out0_A_12
  dsimp only
  frame_out
  rw [pay6]
  exact held_apply m c t r d

theorem out13 (t : Fin cfg0.N) (r : Fin 512) (d : Fin 1024) : (outsAt0 m c t).2.1 (ix3 0 r d) = handed (arg0 m c) (arg1 m c) (arg2 m c) (arg3 m c) (arg4 m c) (arg5 m c) (arg6 m c) (arg7 m c) (arg8 m c) (arg9 m c) (arg10 m c) (sample t) (row t r) d := by
  unfold outsAt0 out0_A_13
  dsimp only
  frame_out
  rw [pay10]
  exact pay9_apply m c t _ (square m c t) r d

theorem out14 (t : Fin cfg0.N) (e : Fin 16) (r : Fin 512) : (outsAt0 m c t).2.2 (ix3 0 e r) = routed (arg0 m c) (arg1 m c) (arg2 m c) (arg3 m c) (arg4 m c) (arg5 m c) (arg6 m c) (arg7 m c) (arg8 m c) (arg9 m c) (arg10 m c) (arg11 m c) (sample t) (row t r) e := by
  unfold outsAt0 out0_A_14
  dsimp only
  frame_out
  rw [pay11]
  unfold routed
  have a : (fun d => View.ld (iblk m c 11 t) (Rect.unit ![0, 0, 0] ![1, 16, 1024] inb_S2x16x1024_S1x16x1024_0_0_0) (ix3 0 e d)) = fun d => arg11 m c (ix2 d e) :=
    funext fun d => (ld_0 _ e d).trans ((read11 m c t 0 e d).trans (router_0 _ e d))
  have b : (fun d => View.ld (iblk m c 11 t) (Rect.unit ![1, 0, 0] ![1, 16, 1024] inb_S2x16x1024_S1x16x1024_1_0_0) (ix3 0 e d)) = fun d => arg11 m c (ix2 d e) - arg11 m c (ix2 d e) :=
    funext fun d => (ld_1 _ e d).trans ((read11 m c t 1 e d).trans (router_1 _ e d))
  rw [a, b]
  exact congrArg (fun u => split u _ _) (funext fun d => pay9_apply m c t _ (square m c t) r d)

theorem final12 : (dats m 0 c).arrAt 12 cfg0.N = fun i : S16x4096x1024.Idx => hiddenRow (arg0 m c) (arg1 m c) (arg2 m c) (arg3 m c) (arg4 m c) (arg5 m c) (arg6 m c) (arg7 m c) (arg8 m c) (arg10 m c) (i 0) (i 1) (i 2) := by
  refine (dats m 0 c).arrAt_eq_of_covers 12 _ (by decide +kernel) fun t hf y => ?_
  blk_simp
  rw [after0_12]
  have hy : (y : S1x512x1024.Idx) = ix3 0 (y 1 : Fin 512) (y 2 : Fin 1024) := by
    funext a; fin_cases a
    · exact Subsingleton.elim (α := Fin 1) _ _
    · rfl
    · rfl
  refine (congrArg (outsAt0 m c t).1 hy).trans ((out12 m c t _ _).trans ?_)
  have ht : t.val < 128 := t.isLt
  generalize hF : (fun i : S16x4096x1024.Idx => hiddenRow (arg0 m c) (arg1 m c) (arg2 m c) (arg3 m c) (arg4 m c) (arg5 m c) (arg6 m c) (arg7 m c) (arg8 m c) (arg10 m c) (i 0) (i 1) (i 2)) = F
  have e : F (ix3 (sample t) (row t (y 1)) (y 2)) = F ((win0_12.blk t).view.emb y) := by
    clear hF
    unfold sample row
    blk_ext [idx t]
  rw [← hF] at e
  exact e

theorem final13 : (dats m 0 c).arrAt 13 cfg0.N = fun i : S16x4096x1024.Idx => handed (arg0 m c) (arg1 m c) (arg2 m c) (arg3 m c) (arg4 m c) (arg5 m c) (arg6 m c) (arg7 m c) (arg8 m c) (arg9 m c) (arg10 m c) (i 0) (i 1) (i 2) := by
  refine (dats m 0 c).arrAt_eq_of_covers 13 _ (by decide +kernel) fun t hf y => ?_
  blk_simp
  rw [after0_13]
  have hy : (y : S1x512x1024.Idx) = ix3 0 (y 1 : Fin 512) (y 2 : Fin 1024) := by
    funext a; fin_cases a
    · exact Subsingleton.elim (α := Fin 1) _ _
    · rfl
    · rfl
  refine (congrArg (outsAt0 m c t).2.1 hy).trans ((out13 m c t _ _).trans ?_)
  have ht : t.val < 128 := t.isLt
  generalize hF : (fun i : S16x4096x1024.Idx => handed (arg0 m c) (arg1 m c) (arg2 m c) (arg3 m c) (arg4 m c) (arg5 m c) (arg6 m c) (arg7 m c) (arg8 m c) (arg9 m c) (arg10 m c) (i 0) (i 1) (i 2)) = F
  have e : F (ix3 (sample t) (row t (y 1)) (y 2)) = F ((win0_13.blk t).view.emb y) := by
    clear hF
    unfold sample row
    blk_ext [idx t]
  rw [← hF] at e
  exact e

theorem final14 : (dats m 0 c).arrAt 14 cfg0.N = fun i : S16x16x4096.Idx => routed (arg0 m c) (arg1 m c) (arg2 m c) (arg3 m c) (arg4 m c) (arg5 m c) (arg6 m c) (arg7 m c) (arg8 m c) (arg9 m c) (arg10 m c) (arg11 m c) (i 0) (i 2) (i 1) := by
  refine (dats m 0 c).arrAt_eq_of_covers 14 _ (by decide +kernel) fun t hf y => ?_
  blk_simp
  rw [after0_14]
  have hy : (y : S1x16x512.Idx) = ix3 0 (y 1 : Fin 16) (y 2 : Fin 512) := by
    funext a; fin_cases a
    · exact Subsingleton.elim (α := Fin 1) _ _
    · rfl
    · rfl
  refine (congrArg (outsAt0 m c t).2.2 hy).trans ((out14 m c t _ _).trans ?_)
  have ht : t.val < 128 := t.isLt
  generalize hF : (fun i : S16x16x4096.Idx => routed (arg0 m c) (arg1 m c) (arg2 m c) (arg3 m c) (arg4 m c) (arg5 m c) (arg6 m c) (arg7 m c) (arg8 m c) (arg9 m c) (arg10 m c) (arg11 m c) (i 0) (i 2) (i 1)) = F
  have e : F (ix3 (sample t) (y 1) (row t (y 2))) = F ((win0_14.blk t).view.emb y) := by
    clear hF
    unfold sample row
    blk_ext [idx t]
  rw [← hF] at e
  exact e

end Cert.Kernel9Ideal.Out

end
-- ==== Proof.OutRef.lean ====
/-
  The output projection's reference, read at an index.
-/
module

public import proofs.«01_k».proof.Proof.Gen.Reference9Ideal.Read
public import proofs.«01_k».proof.Proof.OutWhole
public import Idealize.ShloMosaic.Lib.Tactic
public import Idealize.ShloMosaic.Lib.Pointwise

@[expose] public section

set_option maxRecDepth 16384

noncomputable section

namespace Cert.Reference9Ideal.Out

open Cert.Reference9Ideal Cert.Reference9Ideal.Gen Cert.Reference9Ideal.Read Cert.OutRow Cert.OutWhole
open Idealize.ShloMosaic Idealize.ShloMosaic.TcCoe Idealize.SL.Sem

theorem table2 (x6 : S24x6x1024.Idx → EReal) (b : Fin 16) (r : Fin 4096) (d : Fin 1024) :
    val_main_v52 (F := Ideal) x6 (ix3 b r d) = x6 (ix3 ⟨b.val, by omega⟩ 2 d) := by
  pointwise [val_main_v52, val_main_v2, val_main_v1, val_main_v0]

theorem table3 (x6 : S24x6x1024.Idx → EReal) (b : Fin 16) (r : Fin 4096) (d : Fin 1024) :
    val_main_v72 (F := Ideal) x6 (ix3 b r d) = x6 (ix3 ⟨b.val, by omega⟩ 3 d) := by
  pointwise [val_main_v72, val_main_v5, val_main_v4, val_main_v3]

theorem table4 (x6 : S24x6x1024.Idx → EReal) (b : Fin 16) (r : Fin 4096) (d : Fin 1024) :
    val_main_v70 (F := Ideal) x6 (ix3 b r d) = Ideal.ofBits FTy.f32 0x3F800000#32 + x6 (ix3 ⟨b.val, by omega⟩ 4 d) := by
  pointwise [val_main_v70, val_main_v69, val_main_v68, val_main_cst_8, val_main_v8, val_main_v7, val_main_v6]

theorem scale7 (x7 : S384.Idx → EReal) (b : Fin 16) (r : Fin 4096) (d : Fin 384) :
    val_main_v29 (F := Ideal) x7 (ix3 b r d) = x7 (ix1 d) := by
  pointwise [val_main_v29, val_main_v28]

theorem scale8 (x8 : S1024.Idx → EReal) (b : Fin 16) (r : Fin 4096) (d : Fin 1024) :
    val_main_v50 (F := Ideal) x8 (ix3 b r d) = x8 (ix1 d) := by
  pointwise [val_main_v50, val_main_v49]

theorem scale9 (x9 : S1024.Idx → EReal) (b : Fin 16) (r : Fin 4096) (d : Fin 1024) :
    val_main_v66 (F := Ideal) x9 (ix3 b r d) = x9 (ix1 d) := by
  pointwise [val_main_v66, val_main_v65]

theorem gate (x2 x3 x4 : S16x4352x384.Idx → EReal) (b : Fin 16) (r : Fin 4096) (k : Fin 384) :
    val_main_v17 (F := Ideal) x2 x3 x4 (ix3 b r k)
      = gated (x2 (ix3 b ⟨r.val, by omega⟩ k)) (x3 (ix3 b ⟨r.val, by omega⟩ k)) (x4 (ix3 b ⟨r.val, by omega⟩ k)) := by
  unfold gated Ideal.logistic
  rw [← Ideal.ofBits_one_f32]
  pointwise [val_main_v17, val_main_v13, val_main_v10, val_main_v9, val_main_v12, val_main_v11, val_main_v16, val_main_v15, val_main_v14,
    val_main_call0_v5, val_main_call0_v4, val_main_call0_v3, val_main_call0_v2, val_main_call0_v1, val_main_call0_v0, val_main_call0_cst, val_main_call0_cst_0]

theorem scan (x2 x3 x4 : S16x4352x384.Idx → EReal) (x7 : S384.Idx → EReal) (b : Fin 16) (r : Fin 4096) (k : Fin 384) :
    val_main_v30 (F := Ideal) x2 x3 x4 x7 (ix3 b r k) = scans x2 x3 x4 x7 b r k := by
  have z : val_main_cst (F := Ideal) (Shape.Idx.first h_S_) = (0 : EReal) := Ideal.ofBits_zero_f32
  have q : ∀ k' : Fin 384, idx_main_v19 (idx_main_v20 (idx_main_v26 (ix3 b r k))) k' = ix3 b r k' := by
    intro k'; funext a; fin_cases a <;> rfl
  rw [val_main_v30_apply, scale7, val_main_v27_apply, val_main_v26_apply, val_main_v25_apply, val_main_v24_apply, val_main_v23_apply, val_main_cst_1_apply,
    val_main_v22_apply, val_main_v21_apply, val_main_cst_0_apply, val_main_v20_apply, val_main_v19_apply, z, zero_add]
  simp only [q, val_main_v18_apply, gate]
  rfl

/-- Where the layer's column `k` of the attention's heads stands among the columns the kernel is given. -/
def back (k : Fin 384) : Fin 384 := ⟨k.val / 64 % 3 * 128 + k.val / 192 * 64 + k.val % 64, by omega⟩

/-- The two orders of the heads against each other. -/
def heads : Fin 384 ≃ Fin 384 where
  toFun := back
  invFun := place
  left_inv := by decide +kernel
  right_inv := by decide +kernel

theorem attn (x1 : S16x4096x384.Idx → EReal) (b : Fin 16) (r : Fin 4096) (k : Fin 384) :
    val_main_v34 (F := Ideal) x1 (ix3 b r k) = x1 (ix3 b r (back k)) := by
  unfold back
  pointwise [val_main_v34, val_main_v33, val_main_v32, val_main_v31]

variable (x0 : S16x4096x256.Idx → EReal) (x1 : S16x4096x384.Idx → EReal) (x2 x3 x4 : S16x4352x384.Idx → EReal)
  (x5 : S16x4352x1024.Idx → EReal) (x6 : S24x6x1024.Idx → EReal) (x7 : S384.Idx → EReal) (x8 x9 : S1024.Idx → EReal)
  (x10 : S1024x1024.Idx → EReal) (x11 : S1024x16.Idx → EReal) (b : Fin 16) (r : Fin 4096)

theorem row_0 (k : Fin 256) : val_main_v36 (F := Ideal) x0 x1 x2 x3 x4 x7 (ix3 b r ⟨k.val, by omega⟩) = x0 (ix3 b r k) := by
  unfold val_main_v36
  generalize val_main_v34 (F := Ideal) x1 = y
  generalize val_main_v30 (F := Ideal) x2 x3 x4 x7 = z
  pointwise [val_main_v35]

theorem row_1 (k : Fin 384) : val_main_v36 (F := Ideal) x0 x1 x2 x3 x4 x7 (ix3 b r ⟨256 + k.val, by omega⟩) = x1 (ix3 b r (back k)) := by
  refine Eq.trans ?_ (attn x1 b r k)
  unfold val_main_v36
  generalize val_main_v34 (F := Ideal) x1 = y
  generalize val_main_v30 (F := Ideal) x2 x3 x4 x7 = z
  generalize val_main_v35 (F := Ideal) x0 = w
  pointwise

theorem row_2 (k : Fin 384) : val_main_v36 (F := Ideal) x0 x1 x2 x3 x4 x7 (ix3 b r ⟨640 + k.val, by omega⟩) = scans x2 x3 x4 x7 b r k := by
  refine Eq.trans ?_ (scan x2 x3 x4 x7 b r k)
  unfold val_main_v36
  generalize val_main_v34 (F := Ideal) x1 = y
  generalize val_main_v30 (F := Ideal) x2 x3 x4 x7 = z
  generalize val_main_v35 (F := Ideal) x0 = w
  pointwise
  rw [dif_neg (show ¬ 640 + k.val < 256 by omega), dif_neg (show ¬ 640 + k.val - 256 < 384 by omega)]
  refine congrArg z (congrArg (fun q => ix3 b r q) (Fin.ext ?_))
  show 640 + k.val - 256 - 384 = k.val
  omega

/-- A sum over the columns by the three groups of heads. -/
theorem sum_groups (f : Fin 1024 → EReal) :
    ∑ k, f k = ((∑ k : Fin 256, f ⟨k.val, by omega⟩) + ∑ k : Fin 384, f ⟨256 + k.val, by omega⟩) + ∑ k : Fin 384, f ⟨640 + k.val, by omega⟩ := by
  show ∑ k : Fin (256 + 384 + 384), f k = _
  rw [Fin.sum_univ_add, Fin.sum_univ_add]
  rfl

theorem product (d : Fin 1024) : val_main_v37 (F := Ideal) x0 x1 x2 x3 x4 x7 x10 (ix3 b r d) = mixed x0 x1 x2 x3 x4 x7 x10 b r d := by
  have l : ∀ k : Fin 1024, lidx_main_v37 (ix3 b r d) k = ix3 b r k := by intro k; funext a; fin_cases a <;> rfl
  have p : ∀ k : Fin 1024, ridx_main_v37 (ix3 b r d) k = ix2 k d := by intro k; funext a; fin_cases a <;> rfl
  rw [val_main_v37_apply]
  simp only [l, p]
  rw [sum_groups]
  simp only [row_0, row_1, row_2]
  unfold mixed mix
  refine congrArg₂ (· + ·) (congrArg₂ (· + ·) rfl ?_) rfl
  refine Fintype.sum_equiv heads _ _ fun k => ?_
  have e : place (heads k) = k := heads.left_inv k
  show _ = x1 (ix3 b r (back k)) * x10 (ix2 ⟨256 + (place (heads k)).val, by omega⟩ d)
  simp only [e]

theorem hid (d : Fin 1024) : val_main_v54 (F := Ideal) x0 x1 x2 x3 x4 x5 x6 x7 x8 x10 (ix3 b r d) = hiddenRow x0 x1 x2 x3 x4 x5 x6 x7 x8 x10 b r d := by
  have z : val_main_cst_2 (F := Ideal) (Shape.Idx.first h_S_) = (0 : EReal) := Ideal.ofBits_zero_f32
  have q : ∀ k' : Fin 1024, idx_main_v40 (idx_main_v41 (idx_main_v47 (ix3 b r d))) k' = ix3 b r k' := by
    intro k'; funext a; fin_cases a <;> rfl
  have o : val_main_v38 (F := Ideal) x5 (ix3 b r d) = x5 (ix3 b ⟨r.val, by omega⟩ d) := by
    pointwise [val_main_v38]
  rw [val_main_v54_apply, o, val_main_v53_apply, table2, val_main_v51_apply, scale8, val_main_v48_apply, val_main_v47_apply, val_main_v46_apply,
    val_main_v45_apply, val_main_v44_apply, val_main_cst_4_apply,
    val_main_v43_apply, val_main_v42_apply, val_main_cst_3_apply, val_main_v41_apply, val_main_v40_apply, z, zero_add]
  simp only [q, val_main_v39_apply, product]
  rfl

theorem hand (d : Fin 1024) : val_main_v73 (F := Ideal) x0 x1 x2 x3 x4 x5 x6 x7 x8 x9 x10 (ix3 b r d) = handed x0 x1 x2 x3 x4 x5 x6 x7 x8 x9 x10 b r d := by
  have z : val_main_cst_5 (F := Ideal) (Shape.Idx.first h_S_) = (0 : EReal) := Ideal.ofBits_zero_f32
  have q : ∀ k' : Fin 1024, idx_main_v56 (idx_main_v57 (idx_main_v63 (ix3 b r d))) k' = ix3 b r k' := by
    intro k'; funext a; fin_cases a <;> rfl
  rw [val_main_v73_apply, table3, val_main_v71_apply, table4, val_main_v67_apply, scale9, val_main_v64_apply, val_main_v63_apply, val_main_v62_apply,
    val_main_v61_apply, val_main_v60_apply, val_main_cst_7_apply,
    val_main_v59_apply, val_main_v58_apply, val_main_cst_6_apply, val_main_v57_apply, val_main_v56_apply, z, zero_add]
  simp only [q, val_main_v55_apply, hid]
  rfl

theorem route (e : Fin 16) : val_main_v76 (F := Ideal) x0 x1 x2 x3 x4 x5 x6 x7 x8 x9 x10 x11 (ix3 b e r)
    = ∑ d, handed x0 x1 x2 x3 x4 x5 x6 x7 x8 x9 x10 b r d * x11 (ix2 d e) := by
  have l : ∀ k : Fin 1024, lidx_main_v75 (idx_main_v76 (ix3 b e r)) k = ix3 b r k := by intro k; funext a; fin_cases a <;> rfl
  have p : ∀ k : Fin 1024, ridx_main_v75 (idx_main_v76 (ix3 b e r)) k = ix2 k e := by intro k; funext a; fin_cases a <;> rfl
  rw [val_main_v76_apply, val_main_v75_apply]
  simp only [l, p, hand]

end Cert.Reference9Ideal.Out

end
-- ==== Proof.OutReal.lean ====
/-
  The output projection of real arguments is real: so the router's split loses nothing.
-/
module

public import proofs.«01_k».proof.Proof.OutWhole

@[expose] public section

set_option maxRecDepth 16384

noncomputable section

namespace Cert.OutReal

open Cert.Kernel9Ideal Cert.OutRow Cert.OutWhole Idealize.ShloMosaic

/-- An extended real that is a real number. -/
def Is (x : EReal) : Prop := ∃ r : ℝ, x = (r : EReal)

theorem Is.add {x y : EReal} (hx : Is x) (hy : Is y) : Is (x + y) := by
  obtain ⟨a, rfl⟩ := hx; obtain ⟨b, rfl⟩ := hy
  exact ⟨a + b, (EReal.coe_add a b).symm⟩

theorem Is.mul {x y : EReal} (hx : Is x) (hy : Is y) : Is (x * y) := by
  obtain ⟨a, rfl⟩ := hx; obtain ⟨b, rfl⟩ := hy
  exact ⟨a * b, (EReal.coe_mul a b).symm⟩

theorem coe_sum {N : Nat} (f : Fin N → ℝ) : (∑ k, ((f k : ℝ) : EReal)) = ((∑ k, f k : ℝ) : EReal) := by
  induction N with
  | zero => simp
  | succ n ih => rw [Fin.sum_univ_succ, Fin.sum_univ_succ, ih, EReal.coe_add]

theorem Is.sum {N : Nat} {f : Fin N → EReal} (h : ∀ k, Is (f k)) : Is (∑ k, f k) := by
  choose g hg using h
  exact ⟨∑ k, g k, by rw [← coe_sum]; exact Finset.sum_congr rfl fun k _ => hg k⟩

theorem Is.logistic {x : EReal} (h : Is x) : Is (Ideal.logistic x) := by
  obtain ⟨a, rfl⟩ := h
  exact ⟨_, Ideal.logistic_coe a⟩

theorem sub_self {x : EReal} (h : Is x) : x - x = 0 := by
  obtain ⟨a, rfl⟩ := h
  rw [← EReal.coe_sub, _root_.sub_self, EReal.coe_zero]

theorem one : Is (Ideal.ofBits FTy.f32 0x3F800000#32) := ⟨1, by rw [Ideal.ofBits_one_f32]; rfl⟩

theorem eps : ∃ e : ℝ, 0 < e ∧ Ideal.ofBits FTy.f32 0x358637BD#32 = (e : EReal) := by
  refine ⟨_, ?_, by simp [Ideal.ofBits, Ideal.ieee, -EReal.coe_mul]; rfl⟩
  positivity

theorem n384 : ∃ e : ℝ, 0 < e ∧ Ideal.ofBits FTy.f32 0x43C00000#32 = (e : EReal) := by
  refine ⟨_, ?_, by simp [Ideal.ofBits, Ideal.ieee, -EReal.coe_mul]; rfl⟩
  positivity

theorem n1024 : ∃ e : ℝ, 0 < e ∧ Ideal.ofBits FTy.f32 0x44800000#32 = (e : EReal) := by
  refine ⟨_, ?_, by simp [Ideal.ofBits, Ideal.ieee, -EReal.coe_mul]; rfl⟩
  positivity

/-- The inverse root mean square of a real row is real: the mean of squares is not below zero, and a positive number is added. -/
theorem invRms {N : Nat} {n : EReal} (hn : ∃ e : ℝ, 0 < e ∧ n = (e : EReal)) {f : Fin N → EReal} (h : ∀ k, Is (f k)) : Is (OutRow.invRms n f) := by
  obtain ⟨q, hq, rfl⟩ := hn
  obtain ⟨e, he, hE⟩ := eps
  choose g hg using h
  unfold OutRow.invRms
  have s : (∑ k, f k * f k) = ((∑ k, g k * g k : ℝ) : EReal) := by
    rw [← coe_sum]
    exact Finset.sum_congr rfl fun k _ => by rw [hg k, EReal.coe_mul]
  have p : 0 ≤ ∑ k, g k * g k := Finset.sum_nonneg fun k _ => mul_self_nonneg _
  have o : 0 < (∑ k, g k * g k) * (1 / q) + e := by positivity
  rw [s, hE, Ideal.div_coe hq.ne', ← EReal.coe_mul, ← EReal.coe_add, Ideal.rsqrt_coe, if_neg o.not_gt, if_neg o.ne']
  exact ⟨_, rfl⟩

theorem rms {N : Nat} {n : EReal} (hn : ∃ e : ℝ, 0 < e ∧ n = (e : EReal)) {f g : Fin N → EReal} (h : ∀ k, Is (f k)) (hg : ∀ k, Is (g k)) (k : Fin N) :
    Is (OutRow.rms n f g k) := ((h k).mul (invRms hn h)).mul (hg k)

theorem scans {x2 x3 x4 : S16x4352x384.Idx → EReal} {x7 : S384.Idx → EReal} (h2 : ∀ i, Is (x2 i)) (h3 : ∀ i, Is (x3 i)) (h4 : ∀ i, Is (x4 i)) (h7 : ∀ i, Is (x7 i))
    (b : Fin 16) (r : Fin 4096) (k : Fin 384) : Is (OutWhole.scans x2 x3 x4 x7 b r k) :=
  rms n384 (fun k => ((h2 _).add (h3 _)).mul ((h4 _).mul (h4 _).logistic)) (fun k => h7 _) k

variable {x0 : S16x4096x256.Idx → EReal} {x1 : S16x4096x384.Idx → EReal} {x2 x3 x4 : S16x4352x384.Idx → EReal}
  {x5 : S16x4352x1024.Idx → EReal} {x6 : S24x6x1024.Idx → EReal} {x7 : S384.Idx → EReal} {x8 x9 : S1024.Idx → EReal}
  {x10 : S1024x1024.Idx → EReal} {x11 : S1024x16.Idx → EReal}

theorem handed (h0 : ∀ i, Is (x0 i)) (h1 : ∀ i, Is (x1 i)) (h2 : ∀ i, Is (x2 i)) (h3 : ∀ i, Is (x3 i)) (h4 : ∀ i, Is (x4 i)) (h5 : ∀ i, Is (x5 i))
    (h6 : ∀ i, Is (x6 i)) (h7 : ∀ i, Is (x7 i)) (h8 : ∀ i, Is (x8 i)) (h9 : ∀ i, Is (x9 i)) (h10 : ∀ i, Is (x10 i))
    (b : Fin 16) (r : Fin 4096) (d : Fin 1024) : Is (OutWhole.handed x0 x1 x2 x3 x4 x5 x6 x7 x8 x9 x10 b r d) := by
  have hm : ∀ d, Is (mixed x0 x1 x2 x3 x4 x7 x10 b r d) := fun d =>
    ((Is.sum fun k => (h0 _).mul (h10 _)).add (Is.sum fun k => (h1 _).mul (h10 _))).add (Is.sum fun k => (scans h2 h3 h4 h7 b r k).mul (h10 _))
  have hh : ∀ d, Is (hiddenRow x0 x1 x2 x3 x4 x5 x6 x7 x8 x10 b r d) := fun d =>
    (h5 _).add ((h6 _).mul (rms n1024 hm (fun k => h8 _) d))
  exact ((rms n1024 hh (fun k => h9 _) d).mul (one.add (h6 _))).add (h6 _)

/-- Of a real row and real weights the split product is the product. -/
theorem split_eq {u w : Fin 1024 → EReal} (hu : ∀ d, Is (u d)) (hw : ∀ d, Is (w d)) :
    split u w (fun d => w d - w d) = ∑ d, u d * w d := by
  unfold split
  have a : ∑ k, w k * (u k - u k) = 0 := Finset.sum_eq_zero fun k _ => by rw [OutReal.sub_self (hu k), mul_zero]
  have b : ∑ k, (w k - w k) * u k = 0 := Finset.sum_eq_zero fun k _ => by rw [OutReal.sub_self (hw k), zero_mul]
  rw [a, b, add_zero, add_zero]
  exact Finset.sum_congr rfl fun k _ => mul_comm _ _

end Cert.OutReal

end
-- ==== Proof.OutClaim.lean ====
/-
  The output projection's value claim: from finite arguments, kernel and reference leave the same three arrays.
-/
module

public import proofs.«01_k».proof.Defs
public import proofs.«01_k».proof.Proof.OutRows
public import proofs.«01_k».proof.Proof.OutRef
public import proofs.«01_k».proof.Proof.OutReal
public import Idealize.ShloMosaic.Lib.ReduceAll

@[expose] public section

set_option maxRecDepth 16384

noncomputable section

namespace Cert.OutClaim

open Idealize.ShloMosaic Idealize.ShloMosaic.TcCoe Idealize.SL.Sem
open Cert.OutWhole
open Cert.OutReal (Is)

theorem pre_facts : Cert.Pre_finite.Facts where
  bcast_S_S16x4096x256 := by decide
  reducesTo_S16x4096x256_S_d0_1_2 := by decide
  h_S_ := by decide
  bcast_S_S16x4096x384 := by decide
  reducesTo_S16x4096x384_S_d0_1_2 := by decide
  bcast_S_S16x4352x384 := by decide
  reducesTo_S16x4352x384_S_d0_1_2 := by decide
  bcast_S_S16x4352x1024 := by decide
  reducesTo_S16x4352x1024_S_d0_1_2 := by decide
  bcast_S_S24x6x1024 := by decide
  reducesTo_S24x6x1024_S_d0_1_2 := by decide
  bcast_S_S384 := by decide
  reducesTo_S384_S_d0 := by decide
  bcast_S_S1024 := by decide
  reducesTo_S1024_S_d0 := by decide
  bcast_S_S1024x1024 := by decide
  reducesTo_S1024x1024_S_d0_1 := by decide
  bcast_S_S1024x16 := by decide
  reducesTo_S1024x16_S_d0_1 := by decide

theorem below {x : EReal} (h : BitVec.ofBool (decide (max x (-x) < ⊤)) = 1#1) : Is x := by
  have hm : max x (-x) < ⊤ := by
    by_contra hn
    rw [decide_eq_false hn] at h
    exact absurd h (by decide)
  have h1 : x ≠ ⊤ := fun e => absurd (lt_of_le_of_lt (le_max_left _ _) hm) (by rw [e]; exact lt_irrefl _)
  have h2 : x ≠ ⊥ := fun e => absurd (lt_of_le_of_lt (le_max_right _ _) hm) (by rw [e, EReal.neg_bot]; exact lt_irrefl _)
  exact ⟨EReal.toReal x, (EReal.coe_toReal h1 h2).symm⟩

theorem inf_top : (FloatOps.ofBits .f32 0x7F800000#32 : Ideal .f32) = (⊤ : EReal) := by
  show Ideal.ofBits .f32 0x7F800000#32 = ⊤
  simp [Ideal.ofBits, Ideal.ieee]

theorem inf_top' : (FloatOps.ofBits .bf16 0x7F80#16 : Ideal .bf16) = (⊤ : EReal) := by
  show Ideal.ofBits .bf16 0x7F80#16 = ⊤
  simp [Ideal.ofBits, Ideal.ieee]

theorem real_of (x : Ideal .f32) (h : FloatOps.cmpf .olt (FloatOps.hostAbsf x) (FloatOps.ofBits .f32 0x7F800000#32 : Ideal .f32) = 1#1) : Is x := by
  rw [inf_top] at h
  exact below h

theorem real_of' (x : Ideal .bf16) (h : FloatOps.cmpf .olt (FloatOps.hostAbsf x) (FloatOps.ofBits .bf16 0x7F80#16 : Ideal .bf16) = 1#1) : Is x := by
  rw [inf_top'] at h
  exact below h

theorem and_one {a b : BitVec 1} (h : IntOp.andi a b = 1#1) : a = 1#1 ∧ b = 1#1 := by
  revert h; revert a b; decide

instance : Subsingleton Cert.Pre_finite.S_.Idx := ⟨fun a b => funext fun x => x.elim0⟩

/-- What the precondition gives: every argument is real. -/
theorem finite [Cert.Pre_finite.Facts] (x0 : FVec Ideal Cert.Pre_finite.S16x4096x256 .bf16) (x1 : FVec Ideal Cert.Pre_finite.S16x4096x384 .bf16) (x2 : FVec Ideal Cert.Pre_finite.S16x4352x384 .bf16) (x3 : FVec Ideal Cert.Pre_finite.S16x4352x384 .bf16) (x4 : FVec Ideal Cert.Pre_finite.S16x4352x384 .bf16) (x5 : FVec Ideal Cert.Pre_finite.S16x4352x1024 .f32) (x6 : FVec Ideal Cert.Pre_finite.S24x6x1024 .f32) (x7 : FVec Ideal Cert.Pre_finite.S384 .f32) (x8 : FVec Ideal Cert.Pre_finite.S1024 .f32) (x9 : FVec Ideal Cert.Pre_finite.S1024 .f32) (x10 : FVec Ideal Cert.Pre_finite.S1024x1024 .f32) (x11 : FVec Ideal Cert.Pre_finite.S1024x16 .f32)
    (h : Cert.Pre_finite.fn (F := Ideal) x0 x1 x2 x3 x4 x5 x6 x7 x8 x9 x10 x11 = fun _ => 1#1) :
    (∀ i, Is (x0 i)) ∧ (∀ i, Is (x1 i)) ∧ (∀ i, Is (x2 i)) ∧ (∀ i, Is (x3 i)) ∧ (∀ i, Is (x4 i)) ∧ (∀ i, Is (x5 i)) ∧ (∀ i, Is (x6 i)) ∧ (∀ i, Is (x7 i)) ∧ (∀ i, Is (x8 i)) ∧ (∀ i, Is (x9 i)) ∧ (∀ i, Is (x10 i)) ∧ (∀ i, Is (x11 i)) := by
  have g12 := congrFun h (fun x => x.elim0)
  unfold Cert.Pre_finite.fn Cert.Pre_finite.fn_part1 Cert.Pre_finite.fn_part2 Cert.Pre_finite.fn_part3 at g12
  dsimp only at g12
  obtain ⟨g11, a11⟩ := and_one g12
  obtain ⟨g10, a10⟩ := and_one g11
  obtain ⟨g9, a9⟩ := and_one g10
  obtain ⟨g8, a8⟩ := and_one g9
  obtain ⟨g7, a7⟩ := and_one g8
  obtain ⟨g6, a6⟩ := and_one g7
  obtain ⟨g5, a5⟩ := and_one g6
  obtain ⟨g4, a4⟩ := and_one g5
  obtain ⟨g3, a3⟩ := and_one g4
  obtain ⟨g2, a2⟩ := and_one g3
  obtain ⟨g1, a1⟩ := and_one g2
  exact ⟨fun i => real_of' _ (Host.reduce_andi_all _ _ _ _ _ g1 i),
    fun i => real_of' _ (Host.reduce_andi_all _ _ _ _ _ a1 i),
    fun i => real_of' _ (Host.reduce_andi_all _ _ _ _ _ a2 i),
    fun i => real_of' _ (Host.reduce_andi_all _ _ _ _ _ a3 i),
    fun i => real_of' _ (Host.reduce_andi_all _ _ _ _ _ a4 i),
    fun i => real_of _ (Host.reduce_andi_all _ _ _ _ _ a5 i),
    fun i => real_of _ (Host.reduce_andi_all _ _ _ _ _ a6 i),
    fun i => real_of _ (Host.reduce_andi_all _ _ _ _ _ a7 i),
    fun i => real_of _ (Host.reduce_andi_all _ _ _ _ _ a8 i),
    fun i => real_of _ (Host.reduce_andi_all _ _ _ _ _ a9 i),
    fun i => real_of _ (Host.reduce_andi_all _ _ _ _ _ a10 i),
    fun i => real_of _ (Host.reduce_andi_all _ _ _ _ _ a11 i)⟩

section

variable (x0 : Cert.Kernel9Ideal.S16x4096x256.Idx → EReal) (x1 : Cert.Kernel9Ideal.S16x4096x384.Idx → EReal) (x2 : Cert.Kernel9Ideal.S16x4352x384.Idx → EReal) (x3 : Cert.Kernel9Ideal.S16x4352x384.Idx → EReal) (x4 : Cert.Kernel9Ideal.S16x4352x384.Idx → EReal) (x5 : Cert.Kernel9Ideal.S16x4352x1024.Idx → EReal) (x6 : Cert.Kernel9Ideal.S24x6x1024.Idx → EReal) (x7 : Cert.Kernel9Ideal.S384.Idx → EReal) (x8 : Cert.Kernel9Ideal.S1024.Idx → EReal) (x9 : Cert.Kernel9Ideal.S1024.Idx → EReal) (x10 : Cert.Kernel9Ideal.S1024x1024.Idx → EReal) (x11 : Cert.Kernel9Ideal.S1024x16.Idx → EReal)

theorem ref12 : Cert.Reference9Ideal.Read.val_main_v54 (F := Ideal) x0 x1 x2 x3 x4 x5 x6 x7 x8 x10
    = fun i : Cert.Kernel9Ideal.S16x4096x1024.Idx => hiddenRow x0 x1 x2 x3 x4 x5 x6 x7 x8 x10 (i 0) (i 1) (i 2) := by
  funext i
  have hi : i = ix3 (i 0 : Fin 16) (i 1 : Fin 4096) (i 2 : Fin 1024) := by funext a; fin_cases a <;> rfl
  rw [hi]
  exact Cert.Reference9Ideal.Out.hid x0 x1 x2 x3 x4 x5 x6 x7 x8 x10 _ _ _

theorem ref13 : Cert.Reference9Ideal.Read.val_main_v74 (F := Ideal) x0 x1 x2 x3 x4 x5 x6 x7 x8 x9 x10
    = fun i : Cert.Kernel9Ideal.S16x4096x1024.Idx => handed x0 x1 x2 x3 x4 x5 x6 x7 x8 x9 x10 (i 0) (i 1) (i 2) := by
  funext i
  have hi : i = ix3 (i 0 : Fin 16) (i 1 : Fin 4096) (i 2 : Fin 1024) := by funext a; fin_cases a <;> rfl
  rw [hi]
  exact Cert.Reference9Ideal.Out.hand x0 x1 x2 x3 x4 x5 x6 x7 x8 x9 x10 _ _ _

theorem ref14 (h0 : ∀ i, Is (x0 i)) (h1 : ∀ i, Is (x1 i)) (h2 : ∀ i, Is (x2 i)) (h3 : ∀ i, Is (x3 i)) (h4 : ∀ i, Is (x4 i)) (h5 : ∀ i, Is (x5 i)) (h6 : ∀ i, Is (x6 i)) (h7 : ∀ i, Is (x7 i)) (h8 : ∀ i, Is (x8 i)) (h9 : ∀ i, Is (x9 i)) (h10 : ∀ i, Is (x10 i)) (h11 : ∀ i, Is (x11 i)) : Cert.Reference9Ideal.Read.val_main_v76 (F := Ideal) x0 x1 x2 x3 x4 x5 x6 x7 x8 x9 x10 x11
    = fun i : Cert.Kernel9Ideal.S16x16x4096.Idx => routed x0 x1 x2 x3 x4 x5 x6 x7 x8 x9 x10 x11 (i 0) (i 2) (i 1) := by
  funext i
  have hi : i = ix3 (i 0 : Fin 16) (i 1 : Fin 16) (i 2 : Fin 4096) := by funext a; fin_cases a <;> rfl
  rw [hi]
  refine (Cert.Reference9Ideal.Out.route x0 x1 x2 x3 x4 x5 x6 x7 x8 x9 x10 x11 _ _ _).trans ?_
  exact (Cert.OutReal.split_eq (fun d => Cert.OutReal.handed h0 h1 h2 h3 h4 h5 h6 h7 h8 h9 h10 _ _ d) (fun d => h11 _)).symm

end

/-- From memories that agree on the arguments, kernel and reference end with the same results. -/
theorem algebraic (hp : Cert.Pre_finite.Facts) : Cert.algebraic_Kernel9Ideal_Reference9Ideal_pre_finite := by
  intro m g m' g' hpre hag
  refine ⟨fun c => fun i : Cert.Kernel9Ideal.S16x4096x1024.Idx => hiddenRow (Cert.Kernel9Ideal.Out.arg0 m c) (Cert.Kernel9Ideal.Out.arg1 m c) (Cert.Kernel9Ideal.Out.arg2 m c) (Cert.Kernel9Ideal.Out.arg3 m c) (Cert.Kernel9Ideal.Out.arg4 m c) (Cert.Kernel9Ideal.Out.arg5 m c) (Cert.Kernel9Ideal.Out.arg6 m c) (Cert.Kernel9Ideal.Out.arg7 m c) (Cert.Kernel9Ideal.Out.arg8 m c) (Cert.Kernel9Ideal.Out.arg10 m c) (i 0) (i 1) (i 2),
    fun c => fun i : Cert.Kernel9Ideal.S16x4096x1024.Idx => handed (Cert.Kernel9Ideal.Out.arg0 m c) (Cert.Kernel9Ideal.Out.arg1 m c) (Cert.Kernel9Ideal.Out.arg2 m c) (Cert.Kernel9Ideal.Out.arg3 m c) (Cert.Kernel9Ideal.Out.arg4 m c) (Cert.Kernel9Ideal.Out.arg5 m c) (Cert.Kernel9Ideal.Out.arg6 m c) (Cert.Kernel9Ideal.Out.arg7 m c) (Cert.Kernel9Ideal.Out.arg8 m c) (Cert.Kernel9Ideal.Out.arg9 m c) (Cert.Kernel9Ideal.Out.arg10 m c) (i 0) (i 1) (i 2),
    fun c => fun i : Cert.Kernel9Ideal.S16x16x4096.Idx => routed (Cert.Kernel9Ideal.Out.arg0 m c) (Cert.Kernel9Ideal.Out.arg1 m c) (Cert.Kernel9Ideal.Out.arg2 m c) (Cert.Kernel9Ideal.Out.arg3 m c) (Cert.Kernel9Ideal.Out.arg4 m c) (Cert.Kernel9Ideal.Out.arg5 m c) (Cert.Kernel9Ideal.Out.arg6 m c) (Cert.Kernel9Ideal.Out.arg7 m c) (Cert.Kernel9Ideal.Out.arg8 m c) (Cert.Kernel9Ideal.Out.arg9 m c) (Cert.Kernel9Ideal.Out.arg10 m c) (Cert.Kernel9Ideal.Out.arg11 m c) (i 0) (i 2) (i 1), ?_, ?_⟩
  · refine (θ_run _ _ _).mono (fun r h c => ?_) (Cert.Kernel9Ideal.Gen.run_main m g)
    exact ⟨(Cert.Kernel9Ideal.Value.post12 m r h c).trans (Cert.Kernel9Ideal.Out.final12 m c),
      (Cert.Kernel9Ideal.Value.post13 m r h c).trans (Cert.Kernel9Ideal.Out.final13 m c),
      (Cert.Kernel9Ideal.Value.post14 m r h c).trans (Cert.Kernel9Ideal.Out.final14 m c),
      Cert.Kernel9Ideal.Value.kept_main_arg0 m r h c, Cert.Kernel9Ideal.Value.kept_main_arg1 m r h c, Cert.Kernel9Ideal.Value.kept_main_arg2 m r h c, Cert.Kernel9Ideal.Value.kept_main_arg3 m r h c, Cert.Kernel9Ideal.Value.kept_main_arg4 m r h c, Cert.Kernel9Ideal.Value.kept_main_arg5 m r h c, Cert.Kernel9Ideal.Value.kept_main_arg6 m r h c, Cert.Kernel9Ideal.Value.kept_main_arg7 m r h c, Cert.Kernel9Ideal.Value.kept_main_arg8 m r h c, Cert.Kernel9Ideal.Value.kept_main_arg9 m r h c, Cert.Kernel9Ideal.Value.kept_main_arg10 m r h c, Cert.Kernel9Ideal.Value.kept_main_arg11 m r h c⟩
  · refine (θ_run _ _ _).mono (fun r h c => ⟨(h c).1.trans ?_, (h c).2.1.trans ?_, (h c).2.2.1.trans ?_, (h c).2.2.2⟩) (Cert.Reference9Ideal.Value.run m' g')
    all_goals obtain ⟨a0, a1, a2, a3, a4, a5, a6, a7, a8, a9, a10, a11⟩ := hag c
    · rw [Cert.Reference9Ideal.Read.val_main_v54_eq, a0, a1, a2, a3, a4, a5, a6, a7, a8, a10]
      exact ref12 _ _ _ _ _ _ _ _ _ _
    · rw [Cert.Reference9Ideal.Read.val_main_v74_eq, a0, a1, a2, a3, a4, a5, a6, a7, a8, a9, a10]
      exact ref13 _ _ _ _ _ _ _ _ _ _ _
    · obtain ⟨h0, h1, h2, h3, h4, h5, h6, h7, h8, h9, h10, h11⟩ := finite _ _ _ _ _ _ _ _ _ _ _ _ (hpre c)
      rw [Cert.Reference9Ideal.Read.val_main_v76_eq, a0, a1, a2, a3, a4, a5, a6, a7, a8, a9, a10, a11]
      exact ref14 _ _ _ _ _ _ _ _ _ _ _ _ h0 h1 h2 h3 h4 h5 h6 h7 h8 h9 h10 h11

end Cert.OutClaim

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Read
public import proofs.«01_k».proof.Proof.Gen.Kernel9.Frame
public import proofs.«01_k».proof.Proof.Gen.Kernel9Ideal.Value
public import proofs.«01_k».proof.Proof.Gen.Reference9Ideal.Read
public import proofs.«01_k».proof.Proof.RefFrames
public import proofs.«01_k».proof.Proof.FfnClaim
public import proofs.«01_k».proof.Proof.Ffn1Claim
public import proofs.«01_k».proof.Proof.AttnClaim
public import proofs.«01_k».proof.Proof.FfnCtxClaim
public import proofs.«01_k».proof.Proof.ModClaim
public import proofs.«01_k».proof.Proof.ResClaim
public import proofs.«01_k».proof.Proof.FourClaim
public import proofs.«01_k».proof.Proof.OutClaim

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel9.Gen.facts, Cert.Kernel9Ideal.Gen.facts, Cert.Reference9Ideal.Gen.facts,
    Cert.AttnClaim.pre_facts, Cert.OutClaim.pre_facts,
    fun m g _ => Cert.Kernel.Gen.frame m g,
    fun m g _ => Cert.KernelIdeal.Gen.frame m g,
    fun m g _ => Cert.KernelIdeal.Gen.frame m g,
    Cert.RefFrames.attn,
    fun m g _ => Cert.RefFrames.attn m g trivial,
    fun m g _ => Cert.Kernel2.Gen.frame m g,
    fun m g _ => Cert.Kernel2Ideal.Gen.frame m g,
    Cert.RefFrames.ffn,
    fun m g _ => Cert.Kernel3.Gen.frame m g,
    fun m g _ => Cert.Kernel3Ideal.Gen.frame m g,
    Cert.RefFrames.ffn1,
    fun m g _ => Cert.Kernel4.Gen.frame m g,
    fun m g _ => Cert.Kernel4Ideal.Gen.frame m g,
    Cert.RefFrames.ffnCtx,
    fun m g _ => Cert.Kernel5.Gen.frame m g,
    fun m g _ => Cert.Kernel5Ideal.Gen.frame m g,
    Cert.RefFrames.mod,
    fun m g _ => Cert.Kernel6.Gen.frame m g,
    fun m g _ => Cert.Kernel6Ideal.Gen.frame m g,
    Cert.RefFrames.res,
    fun m g _ => Cert.Kernel7.Gen.frame m g,
    fun m g _ => Cert.Kernel7Ideal.Gen.frame m g,
    Cert.RefFrames.four,
    fun m g _ => Cert.Kernel9.Gen.frame m g,
    fun m g _ => Cert.Kernel9Ideal.Gen.frame m g,
    fun m g _ => Cert.Kernel9Ideal.Gen.frame m g,
    Cert.RefFrames.out,
    fun m g _ => Cert.RefFrames.out m g trivial,
    IdealRules.named_const.statement Cert.KernelIdeal.κ "mask" .f32 0xF149F2CA#32 ⊥ rfl,
    Cert.AttnClaim.algebraic Cert.AttnClaim.pre_facts,
    trivial,
    Cert.FfnClaim.algebraic,
    trivial,
    Cert.Ffn1Claim.algebraic,
    trivial,
    Cert.FfnCtxClaim.algebraic,
    trivial,
    Cert.ModClaim.algebraic,
    trivial,
    Cert.ResClaim.algebraic,
    trivial,
    Cert.FourClaim.algebraic,
    trivial,
    Cert.OutClaim.algebraic Cert.OutClaim.pre_facts⟩

end Cert.Proof

end
